-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_rows [hPre_finite_rows : Cert.Pre_finite_rows.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_rows.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).1 = (fun _ => 1#1)
    ∧ (Cert.Pre_finite_rows.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.1 = (fun _ => 1#1)
    ∧ (Cert.Pre_finite_rows.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.1 = (fun _ => 1#1)
    ∧ (Cert.Pre_finite_rows.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_rows [hPre_finite_rows : Cert.Pre_finite_rows.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_rows.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).1 = (fun _ => 1#1)
    ∧ (Cert.Pre_finite_rows.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.1 = (fun _ => 1#1)
    ∧ (Cert.Pre_finite_rows.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.1 = (fun _ => 1#1)
    ∧ (Cert.Pre_finite_rows.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.2 = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite_step [hPre_finite_step : Cert.Pre_finite_step.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite_step.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).1 = (fun _ => 1#1)
    ∧ (Cert.Pre_finite_step.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.1 = (fun _ => 1#1)
    ∧ (Cert.Pre_finite_step.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.2.1 = (fun _ => 1#1)
    ∧ (Cert.Pre_finite_step.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.2.2.1 = (fun _ => 1#1)
    ∧ (Cert.Pre_finite_step.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.2.2.2 = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite_step [hPre_finite_step : Cert.Pre_finite_step.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite_step.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).1 = (fun _ => 1#1)
    ∧ (Cert.Pre_finite_step.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.1 = (fun _ => 1#1)
    ∧ (Cert.Pre_finite_step.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.2.1 = (fun _ => 1#1)
    ∧ (Cert.Pre_finite_step.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.2.2.1 = (fun _ => 1#1)
    ∧ (Cert.Pre_finite_step.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.2.2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite_rows [hKernel19Ideal : Cert.Kernel19Ideal.Facts] [hPre_finite_rows : Cert.Pre_finite_rows.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_rows m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite_rows [hReference19Ideal : Cert.Reference19Ideal.Facts] [hPre_finite_rows : Cert.Pre_finite_rows.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_rows m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Kernel32Ideal_pre_finite_step [hKernel32Ideal : Cert.Kernel32Ideal.Facts] [hPre_finite_step : Cert.Pre_finite_step.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite_step m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Reference32Ideal_pre_finite_step [hReference32Ideal : Cert.Reference32Ideal.Facts] [hPre_finite_step : Cert.Pre_finite_step.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite_step m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_v19) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v10) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_v28) = v1 c
          ∧ r.2.mem ((c.tc : Thread Cert.Reference29Ideal.nD Cert.Reference29Ideal.τ).loc Cert.Reference29Ideal.main_v9) = v2 c
          ∧ r.2.mem ((c.tc : Thread Cert.Reference29Ideal.nD Cert.Reference29Ideal.τ).loc Cert.Reference29Ideal.main_v15) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_v28) = v1 c
          ∧ r.2.mem ((c.tc : Thread Cert.Reference30Ideal.nD Cert.Reference30Ideal.τ).loc Cert.Reference30Ideal.main_v9) = v2 c
          ∧ r.2.mem ((c.tc : Thread Cert.Reference30Ideal.nD Cert.Reference30Ideal.τ).loc Cert.Reference30Ideal.main_v15) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel19_Kernel19Ideal : Prop :=
  True

def algebraic_Kernel19Ideal_Reference19Ideal_pre_finite_rows [hKernel19Ideal : Cert.Kernel19Ideal.Facts] [hReference19Ideal : Cert.Reference19Ideal.Facts] [hPre_finite_rows : Cert.Pre_finite_rows.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_rows m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v60) = v0 c
          ∧ r.2.mem ((c.tc : Thread Cert.Reference19Ideal.nD Cert.Reference19Ideal.τ).loc Cert.Reference19Ideal.main_v34) = v1 c
          ∧ r.2.mem ((c.tc : Thread Cert.Reference19Ideal.nD Cert.Reference19Ideal.τ).loc Cert.Reference19Ideal.main_v31) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel32_Kernel32Ideal : Prop :=
  True

def algebraic_Kernel32Ideal_Reference32Ideal_pre_finite_step [hKernel32Ideal : Cert.Kernel32Ideal.Facts] [hReference32Ideal : Cert.Reference32Ideal.Facts] [hPre_finite_step : Cert.Pre_finite_step.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite_step m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v49) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v27) = v2 c
          ∧ r.2.mem ((c.tc : Thread Cert.Reference32Ideal.nD Cert.Reference32Ideal.τ).loc Cert.Reference32Ideal.main_v32) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel : Cert.Kernel.Facts) (hKernelIdeal : Cert.KernelIdeal.Facts) (hReferenceIdeal : Cert.ReferenceIdeal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel19 : Cert.Kernel19.Facts) (hKernel19Ideal : Cert.Kernel19Ideal.Facts) (hReference19Ideal : Cert.Reference19Ideal.Facts) (hKernel32 : Cert.Kernel32.Facts) (hKernel32Ideal : Cert.Kernel32Ideal.Facts) (hReference32Ideal : Cert.Reference32Ideal.Facts) (hPre_finite : Cert.Pre_finite.Facts) (hPre_finite_rows : Cert.Pre_finite_rows.Facts) (hPre_finite_step : Cert.Pre_finite_step.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel19 (hKernel19 := hKernel19)
    ∧ quiescent_Kernel19Ideal (hKernel19Ideal := hKernel19Ideal)
    ∧ quiescent_Kernel19Ideal_pre_finite_rows (hKernel19Ideal := hKernel19Ideal) (hPre_finite_rows := hPre_finite_rows)
    ∧ quiescent_Reference19Ideal (hReference19Ideal := hReference19Ideal)
    ∧ quiescent_Reference19Ideal_pre_finite_rows (hReference19Ideal := hReference19Ideal) (hPre_finite_rows := hPre_finite_rows)
    ∧ quiescent_Kernel32 (hKernel32 := hKernel32)
    ∧ quiescent_Kernel32Ideal (hKernel32Ideal := hKernel32Ideal)
    ∧ quiescent_Kernel32Ideal_pre_finite_step (hKernel32Ideal := hKernel32Ideal) (hPre_finite_step := hPre_finite_step)
    ∧ quiescent_Reference32Ideal (hReference32Ideal := hReference32Ideal)
    ∧ quiescent_Reference32Ideal_pre_finite_step (hReference32Ideal := hReference32Ideal) (hPre_finite_step := hPre_finite_step)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel19_Kernel19Ideal
    ∧ algebraic_Kernel19Ideal_Reference19Ideal_pre_finite_rows (hKernel19Ideal := hKernel19Ideal) (hReference19Ideal := hReference19Ideal) (hPre_finite_rows := hPre_finite_rows)
    ∧ preserves_Kernel32_Kernel32Ideal
    ∧ algebraic_Kernel32Ideal_Reference32Ideal_pre_finite_step (hKernel32Ideal := hKernel32Ideal) (hReference32Ideal := hReference32Ideal) (hPre_finite_step := hPre_finite_step)
-- ==== Pre_finite.lean ====
abbrev S8192x3072 : Shape := ⟨2, ![8192, 3072]⟩
abbrev S8192x6144 : Shape := ⟨2, ![8192, 6144]⟩
abbrev S8192x1024 : Shape := ⟨2, ![8192, 1024]⟩
abbrev S8192x8 : Shape := ⟨2, ![8192, 8]⟩
abbrev S_ : Shape := ⟨0, ![]⟩

class Facts : Prop where
  bcast_S_S8192x3072 : S_.BroadcastsInDim S8192x3072 (![] : Fin 0 → Fin S8192x3072.rank)
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S8192x8 : S_.BroadcastsInDim S8192x8 (![] : Fin 0 → Fin S8192x8.rank)

variable [Facts]

def fn_part1 {F : FTy → Type} [FloatOps F] (main_arg6 : FVec F S8192x1024 .f32) (main_arg7 : FVec F S8192x8 .f32) (main_v2 : IVec S8192x3072 1) (main_v5 : IVec S8192x3072 1) (main_v8 : IVec S8192x6144 1) (main_v11 : IVec S8192x1024 1) (main_v14 : IVec S8192x1024 1) (main_v17 : IVec S8192x8 1) : IVec S8192x3072 1 × IVec S8192x3072 1 × IVec S8192x6144 1 × IVec S8192x1024 1 × IVec S8192x1024 1 × IVec S8192x8 1 × IVec S8192x1024 1 × IVec S8192x8 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  let main_v21 : FVec F S8192x8 .f32 := Host.absf main_arg7
  let main_cst_6 : FVec F S_ .f32 := constant S_ .f32 0x7F800000#32
  let main_v22 : FVec F S8192x8 .f32 := broadcastInDim S8192x8 ![] bcast_S_S8192x8 main_cst_6
  let main_v23 : IVec S8192x8 1 := cmpf .olt main_v21 main_v22
  (main_v2, main_v5, main_v8, main_v11, main_v14, main_v17, main_v20, main_v23)

def fn {F : FTy → Type} [FloatOps F] (main_arg0 : FVec F S8192x3072 .f32) (main_arg1 : FVec F S8192x3072 .f32) (main_arg2 : FVec F S8192x6144 .f32) (main_arg3 : FVec F S8192x1024 .f32) (main_arg4 : FVec F S8192x1024 .f32) (main_arg5 : FVec F S8192x8 .f32) (main_arg6 : FVec F S8192x1024 .f32) (main_arg7 : FVec F S8192x8 .f32) : IVec S8192x3072 1 × IVec S8192x3072 1 × IVec S8192x6144 1 × IVec S8192x1024 1 × IVec S8192x1024 1 × IVec S8192x8 1 × IVec S8192x1024 1 × IVec S8192x8 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x3072 .f32 := Host.absf main_arg1
  let main_cst_0 : FVec F S_ .f32 := constant S_ .f32 0x7F800000#32
  let main_v4 : FVec F S8192x3072 .f32 := broadcastInDim S8192x3072 ![] bcast_S_S8192x3072 main_cst_0
  let main_v5 : IVec S8192x3072 1 := cmpf .olt main_v3 main_v4
  let main_v6 : FVec F S8192x6144 .f32 := Host.absf main_arg2
  let main_cst_1 : FVec F S_ .f32 := constant S_ .f32 0x7F800000#32
  let main_v7 : FVec F S8192x6144 .f32 := broadcastInDim S8192x6144 ![] bcast_S_S8192x6144 main_cst_1
  let main_v8 : IVec S8192x6144 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x8 .f32 := Host.absf main_arg5
  let main_cst_4 : FVec F S_ .f32 := constant S_ .f32 0x7F800000#32
  let main_v16 : FVec F S8192x8 .f32 := broadcastInDim S8192x8 ![] bcast_S_S8192x8 main_cst_4
  let main_v17 : IVec S8192x8 1 := cmpf .olt main_v15 main_v16
  fn_part1 (F := F) main_arg6 main_arg7 main_v2 main_v5 main_v8 main_v11 main_v14 main_v17
-- ==== Pre_finite_rows.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .bf16) (main_arg1 : FVec F S8192x2048 .f32) (main_arg2 : FVec F S1x2048 .f32) (main_arg3 : FVec F S1x2048 .f32) : IVec S8192x2048 1 × IVec S8192x2048 1 × IVec S1x2048 1 × IVec S1x2048 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  (main_v2, main_v5, main_v8, main_v11)
-- ==== Pre_finite_step.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .f32) (main_arg2 : FVec F S8192x2048 .bf16) (main_arg3 : FVec F S1x2048 .f32) (main_arg4 : FVec F S1x2048 .f32) : IVec S8192x2048 1 × IVec S8192x2048 1 × IVec S8192x2048 1 × IVec S1x2048 1 × IVec S1x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .bf16 := Host.absf main_arg2
  let main_cst_1 : FVec F S_ .bf16 := constant S_ .bf16 0x7F80#16
  let main_v7 : FVec F S8192x2048 .bf16 := broadcastInDim S8192x2048 ![] bcast_S_S8192x2048 main_cst_1
  let main_v8 : IVec S8192x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2x8192x5632 : Shape := ⟨3, ![2, 8192, 5632]⟩
abbrev S2048x11264 : Shape := ⟨2, ![2048, 11264]⟩
abbrev S8192x2048 : Shape := ⟨2, ![8192, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x8192x5632 : Shape := ⟨3, ![2, 8192, 5632]⟩
abbrev S2048x11264 : Shape := ⟨2, ![2048, 11264]⟩
abbrev S8192x2x5632 : Shape := ⟨3, ![8192, 2, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2x5632, .bf16⟩
  | .hbm, ⟨3, _⟩ => ⟨S8192x11264, .bf16⟩
  | .hbm, ⟨4, _⟩ => ⟨S_, .f32⟩
  | .hbm, ⟨5, _⟩ => ⟨S8192x2048, .f32⟩
  | .hbm, ⟨6, _⟩ => ⟨S2048x11264, .f32⟩
  | .hbm, ⟨7, _⟩ => ⟨S8192x11264, .f32⟩
  | .hbm, ⟨8, _⟩ => ⟨S8192x11264, .f32⟩
  | .hbm, ⟨9, _⟩ => ⟨S8192x2048, .f32⟩
  | .hbm, ⟨10, _⟩ => ⟨S8192x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S2x8192x5632 : Shape := ⟨3, ![2, 8192, 5632]⟩
abbrev S2048x11264 : Shape := ⟨2, ![2048, 11264]⟩
abbrev S2048x1024 : Shape := ⟨2, ![2048, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S2048x11264, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2x8192x5632 : Shape := ⟨3, ![2, 8192, 5632]⟩
abbrev S8192x2x5632 : Shape := ⟨3, ![8192, 2, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8192x2x5632, .bf16⟩
  | .hbm, ⟨3, _⟩ => ⟨S8192x11264, .bf16⟩
  | .hbm, ⟨4, _⟩ => ⟨S_, .f32⟩
  | .hbm, ⟨5, _⟩ => ⟨S2048x11264, .f32⟩
  | .hbm, ⟨6, _⟩ => ⟨S8192x2048, .f32⟩
  | .hbm, ⟨7, _⟩ => ⟨S8192x11264, .f32⟩
  | .hbm, ⟨8, _⟩ => ⟨S8192x11264, .f32⟩
  | .hbm, ⟨9, _⟩ => ⟨S11264x2048, .f32⟩
  | .hbm, ⟨10, _⟩ => ⟨S2048x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S_, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S8192x2048, .f32⟩
  | .hbm, ⟨8, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S8192x4096 : Shape := ⟨2, ![8192, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S8192x2048 : Shape := ⟨2, ![8192, 2048]⟩
abbrev S8192x4096 : Shape := ⟨2, ![8192, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x3072 : Shape := ⟨2, ![8192, 3072]⟩
abbrev S2048x3072 : Shape := ⟨2, ![2048, 3072]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8192x3072 : Shape := ⟨2, ![8192, 3072]⟩
abbrev S2048x3072 : Shape := ⟨2, ![2048, 3072]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S8192x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x3072 : Shape := ⟨2, ![8192, 3072]⟩
abbrev S2048x3072 : Shape := ⟨2, ![2048, 3072]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .bf16⟩
  | .hbm, ⟨2, _⟩ => ⟨S_, .f32⟩
  | .hbm, ⟨3, _⟩ => ⟨S8192x2048, .f32⟩
  | .hbm, ⟨4, _⟩ => ⟨S2048x3072, .f32⟩
  | .hbm, ⟨5, _⟩ => ⟨S8192x3072, .f32⟩
  | .hbm, ⟨6, _⟩ => ⟨S8192x3072, .f32⟩
  | .hbm, ⟨7, _⟩ => ⟨S8192x2048, .f32⟩
  | .hbm, ⟨8, _⟩ => ⟨S8192x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S2048x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S2048x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S8192x6144 : Shape := ⟨2, ![8192, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8192x2048 : Shape := ⟨2, ![8192, 2048]⟩
abbrev S8192x6144 : Shape := ⟨2, ![8192, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel.lean ====
abbrev S8192x3072 : Shape := ⟨2, ![8192, 3072]⟩
abbrev S8192x6144 : Shape := ⟨2, ![8192, 6144]⟩
abbrev S8192x1024 : Shape := ⟨2, ![8192, 1024]⟩
abbrev S8192x8 : Shape := ⟨2, ![8192, 8]⟩
abbrev S8192x8x128 : Shape := ⟨3, ![8192, 8, 128]⟩
abbrev S4x128x16x8x128 : Shape := ⟨5, ![4, 128, 16, 8, 128]⟩
abbrev S1x128x16x8x128 : Shape := ⟨5, ![1, 128, 16, 8, 128]⟩
abbrev S_ : Shape := ⟨0, ![]⟩
abbrev S3x128x16x8x128 : Shape := ⟨5, ![3, 128, 16, 8, 128]⟩
abbrev S4x256x16x8x128 : Shape := ⟨5, ![4, 256, 16, 8, 128]⟩
abbrev S4x16x8x128x256 : Shape := ⟨5, ![4, 16, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S4x1x1x128x256 : Shape := ⟨5, ![4, 1, 1, 128, 256]⟩
abbrev S4x16x8x128 : Shape := ⟨4, ![4, 16, 8, 128]⟩
abbrev S4x16x8x128x1 : Shape := ⟨5, ![4, 16, 8, 128, 1]⟩
abbrev S4x16x8x128x128 : Shape := ⟨5, ![4, 16, 8, 128, 128]⟩
abbrev S4x128x16x8 : Shape := ⟨4, ![4, 128, 16, 8]⟩
abbrev S8192x8x1 : Shape := ⟨3, ![8192, 8, 1]⟩
abbrev S2048x128 : Shape := ⟨2, ![2048, 128]⟩
abbrev S128x128 : Shape := ⟨2, ![128, 128]⟩

abbrev nBuf : Space → Nat
  | .hbm => 121
  | .vmem => 18
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x6144, .f32⟩
  | .hbm, ⟨3, _⟩ => ⟨S8192x1024, .f32⟩
  | .hbm, ⟨4, _⟩ => ⟨S8192x1024, .f32⟩
  | .hbm, ⟨5, _⟩ => ⟨S8192x8, .f32⟩
  | .hbm, ⟨6, _⟩ => ⟨S8192x1024, .f32⟩
  | .hbm, ⟨7, _⟩ => ⟨S8192x8, .f32⟩
  | .hbm, ⟨8, _⟩ => ⟨S8192x1024, .f32⟩
  | .hbm, ⟨9, _⟩ => ⟨S8192x8x128, .f32⟩
  | .hbm, ⟨10, _⟩ => ⟨S8192x1024, .f32⟩
  | .hbm, ⟨11, _⟩ => ⟨S8192x8x128, .f32⟩
  | .hbm, ⟨12, _⟩ => ⟨S8192x1024, .f32⟩
  | .hbm, ⟨13, _⟩ => ⟨S8192x8x128, .f32⟩
  | .hbm, ⟨14, _⟩ => ⟨S4x128x16x8x128, .f32⟩
  | .hbm, ⟨15, _⟩ => ⟨S4x128x16x8x128, .f32⟩
  | .hbm, ⟨16, _⟩ => ⟨S4x128x16x8x128, .f32⟩
  | .hbm, ⟨17, _⟩ => ⟨S1x128x16x8x128, .f32⟩
  | .hbm, ⟨18, _⟩ => ⟨S_, .f32⟩
  | .hbm, ⟨19, _⟩ => ⟨S1x128x16x8x128, .f32⟩
  | .hbm, ⟨20, _⟩ => ⟨S3x128x16x8x128, .f32⟩
  | .hbm, ⟨21, _⟩ => ⟨S4x128x16x8x128, .f32⟩
  | .hbm, ⟨22, _⟩ => ⟨S4x256x16x8x128, .f32⟩
  | .hbm, ⟨23, _⟩ => ⟨S1x128x16x8x128, .f32⟩
  | .hbm, ⟨24, _⟩ => ⟨S_, .f32⟩
  | .hbm, ⟨25, _⟩ => ⟨S1x128x16x8x128, .f32⟩
  | .hbm, ⟨26, _⟩ => ⟨S3x128x16x8x128, .f32⟩
  | .hbm, ⟨27, _⟩ => ⟨S4x128x16x8x128, .f32⟩
  | .hbm, ⟨28, _⟩ => ⟨S4x256x16x8x128, .f32⟩
  | .hbm, ⟨29, _⟩ => ⟨S4x16x8x128x256, .f32⟩
  | .hbm, ⟨30, _⟩ => ⟨S_, .f32⟩
  | .hbm, ⟨31, _⟩ => ⟨S4x16x8x128x256, .f32⟩
  | .hbm, ⟨32, _⟩ => ⟨S4x16x8x128x256, .f32⟩
  | .hbm, ⟨33, _⟩ => ⟨S128, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i1⟩
  | .hbm, ⟨50, _⟩ => ⟨S4, .i32⟩
  | .hbm, ⟨51, _⟩ => ⟨S4x1x1, .i32⟩
  | .hbm, ⟨52, _⟩ => ⟨S_, .i32⟩
  | .hbm, ⟨53, _⟩ => ⟨S4x1x1, .i32⟩
  | .hbm, ⟨54, _⟩ => ⟨S4x1x1, .i32⟩
  | .hbm, ⟨55, _⟩ => ⟨S1x1x256, .i32⟩
  | .hbm, ⟨56, _⟩ => ⟨S4x1x256, .i32⟩
  | .hbm, ⟨57, _⟩ => ⟨S4x1x256, .i32⟩
  | .hbm, ⟨58, _⟩ => ⟨S4x1x256, .i32⟩
  | .hbm, ⟨59, _⟩ => ⟨S_, .i32⟩
  | .hbm, ⟨60, _⟩ => ⟨S4x1x256, .i32⟩
  | .hbm, ⟨61, _⟩ => ⟨S4x1x256, .i32⟩
  | .hbm, ⟨62, _⟩ => ⟨S1x128x256, .i1⟩
  | .hbm, ⟨63, _⟩ => ⟨S_, .i32⟩
  | .hbm, ⟨64, _⟩ => ⟨S4x1x256, .i32⟩
  | .hbm, ⟨65, _⟩ => ⟨S4x1x256, .i1⟩
  | .hbm, ⟨66, _⟩ => ⟨S4x128x256, .i1⟩
  | .hbm, ⟨67, _⟩ => ⟨S4x128x256, .i1⟩
  | .hbm, ⟨68, _⟩ => ⟨S4x128x256, .i1⟩
  | .hbm, ⟨69, _⟩ => ⟨S4x1x1x128x256, .i1⟩
  | .hbm, ⟨70, _⟩ => ⟨S_, .f32⟩
  | .hbm, ⟨71, _⟩ => ⟨S_, .f32⟩
  | .hbm, ⟨72, _⟩ => ⟨S4x16x8x128x256, .i1⟩
  | .hbm, ⟨73, _⟩ => ⟨S4x16x8x128x256, .f32⟩
  | .hbm, ⟨74, _⟩ => ⟨S4x16x8x128x256, .f32⟩
  | .hbm, ⟨75, _⟩ => ⟨S4x16x8x128x256, .f32⟩
  | .hbm, ⟨76, _⟩ => ⟨S_, .f32⟩
  | .hbm, ⟨77, _⟩ => ⟨S4x16x8x128, .f32⟩
  | .hbm, ⟨78, _⟩ => ⟨S4x16x8x128, .f32⟩
  | .hbm, ⟨79, _⟩ => ⟨S4x16x8x128x1, .f32⟩
  | .hbm, ⟨80, _⟩ => ⟨S4x16x8x128x256, .f32⟩
  | .hbm, ⟨81, _⟩ => ⟨S4x16x8x128x256, .f32⟩
  | .hbm, ⟨82, _⟩ => ⟨S4x16x8x128x256, .f32⟩
  | .hbm, ⟨83, _⟩ => ⟨S4x16x8x128x128, .f32⟩
  | .hbm, ⟨84, _⟩ => ⟨S4x128x16x8x128, .f32⟩
  | .hbm, ⟨85, _⟩ => ⟨S8192x8x128, .f32⟩
  | .hbm, ⟨86, _⟩ => ⟨S4x128x16x8, .f32⟩
  | .hbm, ⟨87, _⟩ => ⟨S8192x8, .f32⟩
  | .hbm, ⟨88, _⟩ => ⟨S8192x8x128, .f32⟩
  | .hbm, ⟨89, _⟩ => ⟨S8192x8x128, .f32⟩
  | .hbm, ⟨90, _⟩ => ⟨S8192x8, .f32⟩
  | .hbm, ⟨91, _⟩ => ⟨S8192x8, .f32⟩
  | .hbm, ⟨92, _⟩ => ⟨S8192x8, .f32⟩
  | .hbm, ⟨93, _⟩ => ⟨S8192x8, .f32⟩
  | .hbm, ⟨94, _⟩ => ⟨S8192x8, .f32⟩
  | .hbm, ⟨95, _⟩ => ⟨S8192x8x1, .f32⟩
  | .hbm, ⟨96, _⟩ => ⟨S8192x8x128, .f32⟩
  | .hbm, ⟨97, _⟩ => ⟨S8192x8x128, .f32⟩
  | .hbm, ⟨98, _⟩ => ⟨S8192x8x1, .f32⟩
  | .hbm, ⟨99, _⟩ => ⟨S8192x8x128, .f32⟩
  | .hbm, ⟨100, _⟩ => ⟨S8192x8x128, .f32⟩
  | .hbm, ⟨101, _⟩ => ⟨S8192x8x128, .f32⟩
  | .hbm, ⟨102, _⟩ => ⟨S8192x8x1, .f32⟩
  | .hbm, ⟨103, _⟩ => ⟨S8192x8x128, .f32⟩
  | .hbm, ⟨104, _⟩ => ⟨S8192x8x128, .f32⟩
  | .hbm, ⟨105, _⟩ => ⟨S8192x8x128, .f32⟩
  | .hbm, ⟨106, _⟩ => ⟨S8192x8x1, .f32⟩
  | .hbm, ⟨107, _⟩ => ⟨S8192x8x128, .f32⟩
  | .hbm, ⟨108, _⟩ => ⟨S8192x8x128, .f32⟩
  | .hbm, ⟨109, _⟩ => ⟨S8192x8, .f32⟩
  | .hbm, ⟨110, _⟩ => ⟨S8192x8x1, .f32⟩
  | .hbm, ⟨111, _⟩ => ⟨S8192x8x128, .f32⟩
  | .hbm, ⟨112, _⟩ => ⟨S8192x1024, .f32⟩
  | .hbm, ⟨113, _⟩ => ⟨S8192x8x128, .f32⟩
  | .hbm, ⟨114, _⟩ => ⟨S8192x8x128, .f32⟩
  | .hbm, ⟨115, _⟩ => ⟨S_, .f32⟩
  | .hbm, ⟨116, _⟩ => ⟨S8192x8, .f32⟩
  | .hbm, ⟨117, _⟩ => ⟨S8192x8x1, .f32⟩
  | .hbm, ⟨118, _⟩ => ⟨S8192x8x128, .f32⟩
  | .hbm, ⟨119, _⟩ => ⟨S8192x1024, .f32⟩
  | .hbm, ⟨120, _⟩ => ⟨S8192x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_9 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c40_i32 : BitVec 32 := 40#32
  let v2 : BitVec 32 := Scalar.addi c40_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x6144 : Shape := ⟨2, ![8192, 6144]⟩
abbrev S8192x1024 : Shape := ⟨2, ![8192, 1024]⟩
abbrev S8192x8 : Shape := ⟨2, ![8192, 8]⟩
abbrev S8192x8x128 : Shape := ⟨3, ![8192, 8, 128]⟩
abbrev S4x128x16x8x128 : Shape := ⟨5, ![4, 128, 16, 8, 128]⟩
abbrev S1x128x16x8x128 : Shape := ⟨5, ![1, 128, 16, 8, 128]⟩
abbrev S_ : Shape := ⟨0, ![]⟩
abbrev S3x128x16x8x128 : Shape := ⟨5, ![3, 128, 16, 8, 128]⟩
abbrev S4x256x16x8x128 : Shape := ⟨5, ![4, 256, 16, 8, 128]⟩
abbrev S4x16x8x128x256 : Shape := ⟨5, ![4, 16, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S4x1x1x128x256 : Shape := ⟨5, ![4, 1, 1, 128, 256]⟩
abbrev S4x16x8x128 : Shape := ⟨4, ![4, 16, 8, 128]⟩
abbrev S4x16x8x128x1 : Shape := ⟨5, ![4, 16, 8, 128, 1]⟩
abbrev S4x16x8x128x128 : Shape := ⟨5, ![4, 16, 8, 128, 128]⟩
abbrev S4x128x16x8 : Shape := ⟨4, ![4, 128, 16, 8]⟩
abbrev S8192x8x1 : Shape := ⟨3, ![8192, 8, 1]⟩

abbrev nBuf : Space → Nat
  | .hbm => 164
  | .vmem => 0
  | .smem => 0
  | _ => 0

abbrev hbmTy0_0 (i : Nat) : BufTy := match i % 128 with
  | 0 => ⟨S8192x3072, .f32⟩
  | 1 => ⟨S8192x3072, .f32⟩
  | 2 => ⟨S8192x6144, .f32⟩
  | 3 => ⟨S8192x1024, .f32⟩
  | 4 => ⟨S8192x1024, .f32⟩
  | 5 => ⟨S8192x8, .f32⟩
  | 6 => ⟨S8192x1024, .f32⟩
  | 7 => ⟨S8192x8, .f32⟩
  | 8 => ⟨S8192x1024, .f32⟩
  | 9 => ⟨S8192x8x128, .f32⟩
  | 10 => ⟨S8192x1024, .f32⟩
  | 11 => ⟨S8192x8x128, .f32⟩
  | 12 => ⟨S8192x1024, .f32⟩
  | 13 => ⟨S8192x8x128, .f32⟩
  | 14 => ⟨S4x128x16x8x128, .f32⟩
  | 15 => ⟨S4x128x16x8x128, .f32⟩
  | 16 => ⟨S4x128x16x8x128, .f32⟩
  | 17 => ⟨S1x128x16x8x128, .f32⟩
  | 18 => ⟨S_, .f32⟩
  | 19 => ⟨S1x128x16x8x128, .f32⟩
  | 20 => ⟨S3x128x16x8x128, .f32⟩
  | 21 => ⟨S4x128x16x8x128, .f32⟩
  | 22 => ⟨S4x256x16x8x128, .f32⟩
  | 23 => ⟨S1x128x16x8x128, .f32⟩
  | 24 => ⟨S_, .f32⟩
  | 25 => ⟨S1x128x16x8x128, .f32⟩
  | 26 => ⟨S3x128x16x8x128, .f32⟩
  | 27 => ⟨S4x128x16x8x128, .f32⟩
  | 28 => ⟨S4x256x16x8x128, .f32⟩
  | 29 => ⟨S4x16x8x128x256, .f32⟩
  | 30 => ⟨S_, .f32⟩
  | 31 => ⟨S4x16x8x128x256, .f32⟩
  | 32 => ⟨S4x16x8x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S4, .i32⟩
  | 51 => ⟨S4x1x1, .i32⟩
  | 52 => ⟨S_, .i32⟩
  | 53 => ⟨S4x1x1, .i32⟩
  | 54 => ⟨S4x1x1, .i32⟩
  | 55 => ⟨S1x1x256, .i32⟩
  | 56 => ⟨S4x1x256, .i32⟩
  | 57 => ⟨S4x1x256, .i32⟩
  | 58 => ⟨S4x1x256, .i32⟩
  | 59 => ⟨S_, .i32⟩
  | 60 => ⟨S4x1x256, .i32⟩
  | 61 => ⟨S4x1x256, .i32⟩
  | 62 => ⟨S1x128x256, .i1⟩
  | 63 => ⟨S_, .i32⟩
  | 64 => ⟨S4x1x256, .i32⟩
  | 65 => ⟨S4x1x256, .i1⟩
  | 66 => ⟨S4x128x256, .i1⟩
  | 67 => ⟨S4x128x256, .i1⟩
  | 68 => ⟨S4x128x256, .i1⟩
  | 69 => ⟨S4x1x1x128x256, .i1⟩
  | 70 => ⟨S_, .f32⟩
  | 71 => ⟨S_, .f32⟩
  | 72 => ⟨S4x16x8x128x256, .i1⟩
  | 73 => ⟨S4x16x8x128x256, .f32⟩
  | 74 => ⟨S4x16x8x128x256, .f32⟩
  | 75 => ⟨S_, .f32⟩
  | 76 => ⟨S4x16x8x128x256, .f32⟩
  | 77 => ⟨S4x16x8x128x256, .f32⟩
  | 78 => ⟨S_, .f32⟩
  | 79 => ⟨S4x16x8x128, .f32⟩
  | 80 => ⟨S4x16x8x128, .f32⟩
  | 81 => ⟨S4x16x8x128x1, .f32⟩
  | 82 => ⟨S4x16x8x128x256, .f32⟩
  | 83 => ⟨S4x16x8x128x256, .f32⟩
  | 84 => ⟨S4x16x8x128x256, .f32⟩
  | 85 => ⟨S4x16x8x128x128, .f32⟩
  | 86 => ⟨S4x128x16x8x128, .f32⟩
  | 87 => ⟨S8192x8x128, .f32⟩
  | 88 => ⟨S4x128x16x8, .f32⟩
  | 89 => ⟨S8192x8, .f32⟩
  | 90 => ⟨S8192x8x128, .f32⟩
  | 91 => ⟨S8192x8x128, .f32⟩
  | 92 => ⟨S8192x8, .f32⟩
  | 93 => ⟨S8192x8, .f32⟩
  | 94 => ⟨S8192x8, .f32⟩
  | 95 => ⟨S8192x8, .f32⟩
  | 96 => ⟨S8192x8, .f32⟩
  | 97 => ⟨S8192x8x1, .f32⟩
  | 98 => ⟨S8192x8x128, .f32⟩
  | 99 => ⟨S8192x8x128, .f32⟩
  | 100 => ⟨S8192x8x1, .f32⟩
  | 101 => ⟨S8192x8x128, .f32⟩
  | 102 => ⟨S8192x8x128, .f32⟩
  | 103 => ⟨S8192x8x128, .f32⟩
  | 104 => ⟨S8192x8x1, .f32⟩
  | 105 => ⟨S8192x8x128, .f32⟩
  | 106 => ⟨S8192x8x128, .f32⟩
  | 107 => ⟨S8192x8x128, .f32⟩
  | 108 => ⟨S8192x8x1, .f32⟩
  | 109 => ⟨S8192x8x128, .f32⟩
  | 110 => ⟨S8192x8x128, .f32⟩
  | 111 => ⟨S8192x8x1, .f32⟩
  | 112 => ⟨S_, .f32⟩
  | 113 => ⟨S8192x8x1, .f32⟩
  | 114 => ⟨S8192x8x1, .f32⟩
  | 115 => ⟨S8192x8x128, .f32⟩
  | 116 => ⟨S8192x8x128, .f32⟩
  | 117 => ⟨S8192x8x128, .f32⟩
  | 118 => ⟨S8192x8x128, .f32⟩
  | 119 => ⟨S_, .f32⟩
  | 120 => ⟨S8192x8, .f32⟩
  | 121 => ⟨S8192x8x1, .f32⟩
  | 122 => ⟨S8192x8x1, .f32⟩
  | 123 => ⟨S8192x8x128, .f32⟩
  | 124 => ⟨S8192x8x128, .f32⟩
  | 125 => ⟨S_, .f32⟩
  | 126 => ⟨S8192x8, .f32⟩
  | 127 => ⟨S8192x8x128, .f32⟩
  | _ => ⟨S8192x3072, .f32⟩

abbrev hbmTy0_1 (i : Nat) : BufTy := match i % 128 with
  | 0 => ⟨S8192x8x128, .f32⟩
  | 1 => ⟨S8192x8x128, .f32⟩
  | 2 => ⟨S_, .f32⟩
  | 3 => ⟨S8192x8, .f32⟩
  | 4 => ⟨S8192x8x1, .f32⟩
  | 5 => ⟨S_, .f32⟩
  | 6 => ⟨S8192x8, .f32⟩
  | 7 => ⟨S8192x8, .f32⟩
  | 8 => ⟨S8192x8, .f32⟩
  | 9 => ⟨S4x128x16x8, .f32⟩
  | 10 => ⟨S4x16x8x128, .f32⟩
  | 11 => ⟨S4x128x16x8x128, .f32⟩
  | 12 => ⟨S4x16x8x128x128, .f32⟩
  | 13 => ⟨S4x16x8x128x256, .f32⟩
  | 14 => ⟨S4x16x8x128x256, .f32⟩
  | 15 => ⟨S4x16x8x128x256, .f32⟩
  | 16 => ⟨S_, .f32⟩
  | 17 => ⟨S4x16x8x128, .f32⟩
  | 18 => ⟨S4x16x8x128x1, .f32⟩
  | 19 => ⟨S_, .f32⟩
  | 20 => ⟨S4x16x8x128, .f32⟩
  | 21 => ⟨S4x16x8x128, .f32⟩
  | 22 => ⟨S4x16x8x128, .f32⟩
  | 23 => ⟨S4x16x8x128x256, .f32⟩
  | 24 => ⟨S4x16x8x128x256, .f32⟩
  | 25 => ⟨S4x16x8x128x256, .f32⟩
  | 26 => ⟨S_, .f32⟩
  | 27 => ⟨S4x16x8x128x256, .f32⟩
  | 28 => ⟨S4x16x8x128x256, .f32⟩
  | 29 => ⟨S_, .f32⟩
  | 30 => ⟨S4x16x8x128x256, .f32⟩
  | 31 => ⟨S4x16x8x128x256, .f32⟩
  | 32 => ⟨S4x16x8x128x128, .f32⟩
  | 33 => ⟨S4x128x16x8x128, .f32⟩
  | 34 => ⟨S8192x8x128, .f32⟩
  | 35 => ⟨S8192x1024, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_v53_1 : Ref sig .tc := ⟨.hbm, 72, rfl⟩
abbrev main_call0_v2 : Ref sig .tc := ⟨.hbm, 73, rfl⟩
abbrev main_v53_0 : Ref sig .tc := ⟨.hbm, 74, rfl⟩
abbrev main_call0_cst : Ref sig .tc := ⟨.hbm, 75, rfl⟩
abbrev main_v53_2 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_9 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_10 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_11 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_12 : Ref sig .tc := ⟨.hbm, 130, rfl⟩
abbrev main_v103 : Ref sig .tc := ⟨.hbm, 131, rfl⟩
abbrev main_v104 : Ref sig .tc := ⟨.hbm, 132, rfl⟩
abbrev main_cst_13 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_14 : Ref sig .tc := ⟨.hbm, 144, rfl⟩
abbrev main_v115 : Ref sig .tc := ⟨.hbm, 145, rfl⟩
abbrev main_v116 : Ref sig .tc := ⟨.hbm, 146, rfl⟩
abbrev main_cst_15 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_call1_cst : Ref sig .tc := ⟨.hbm, 154, rfl⟩
abbrev main_call1_v0 : Ref sig .tc := ⟨.hbm, 155, rfl⟩
abbrev main_v123 : Ref sig .tc := ⟨.hbm, 156, rfl⟩
abbrev main_cst_16 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩

abbrev nD : Nat := 1
abbrev τ : Topo := Topo.v7x

variable {F : FTy → Type} [FloatOps F]

def κ : String → Option EReal := fun
  | "mask" => some ⊥
  | _ => none
-- ==== Kernel18.lean ====
abbrev S8192x2048 : Shape := ⟨2, ![8192, 2048]⟩
abbrev S8192x4096 : Shape := ⟨2, ![8192, 4096]⟩
abbrev S1x4096 : Shape := ⟨2, ![1, 4096]⟩
abbrev S256x2048 : Shape := ⟨2, ![256, 2048]⟩
abbrev S256x4096 : Shape := ⟨2, ![256, 4096]⟩
abbrev S2048 : Shape := ⟨1, ![2048]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S1x4096, .f32⟩
  | .hbm, ⟨3, _⟩ => ⟨S8192x4096, .bf16⟩
  | .hbm, ⟨4, _⟩ => ⟨S1x4096, .f32⟩
  | .local _ .vmem, ⟨0, _⟩ => ⟨S256x2048, .f32⟩
  | .local _ .vmem, ⟨1, _⟩ => ⟨S256x2048, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_10 : BitVec 32 := 0#32
  let v25 : BitVec 1 := Scalar.cmpi .ne v24 c0_i32_10
  v25

def k0_cond2 (i : grid0.Coords) : BitVec 1 :=
  let arg0 : BitVec 32 := BitVec.ofNat 32 (i 0).val
  let c0_i32_11 : BitVec 32 := 0#32
  let v26 : BitVec 1 := Scalar.cmpi .sgt arg0 c0_i32_11
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S1x4096, .f32⟩
  | .hbm, ⟨3, _⟩ => ⟨S8192x4096, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel20.lean ====
abbrev S8192x4096 : Shape := ⟨2, ![8192, 4096]⟩
abbrev S1x4096 : Shape := ⟨2, ![1, 4096]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S8192x2048, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x2048, .f32⟩
  | .local _ .vmem, ⟨4, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8192x4096 : Shape := ⟨2, ![8192, 4096]⟩
abbrev S1x4096 : Shape := ⟨2, ![1, 4096]⟩
abbrev S8192x2048 : Shape := ⟨2, ![8192, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S8192x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel21.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel22.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel22Ideal.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel23Ideal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel24Ideal.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel25Ideal.lean ====
abbrev S2048x768 : Shape := ⟨2, ![2048, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel26Ideal.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference26Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4096x2816 : Shape := ⟨2, ![4096, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel27Ideal.lean ====
abbrev S4096x2816 : Shape := ⟨2, ![4096, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference27Ideal.lean ====
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S_, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2816x2048 : Shape := ⟨2, ![2816, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference28Ideal.lean ====
abbrev S2816x2048 : Shape := ⟨2, ![2816, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S_, .f32⟩
  | .hbm, ⟨5, _⟩ => ⟨S2816x2048, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S_, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S_, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S_, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S2816x2048, .f32⟩
  | .hbm, ⟨26, _⟩ => ⟨S_, .f32⟩
  | .hbm, ⟨27, _⟩ => ⟨S2816x2048, .f32⟩
  | .hbm, ⟨28, _⟩ => ⟨S2816x2048, .f32⟩
  | .hbm, ⟨29, _⟩ => ⟨S2816x2048, .f32⟩
  | .hbm, ⟨30, _⟩ => ⟨S_, .f32⟩
  | .hbm, ⟨31, _⟩ => ⟨S2816x2048, .f32⟩
  | .hbm, ⟨32, _⟩ => ⟨S2816x2048, .f32⟩
  | .hbm, ⟨33, _⟩ => ⟨S2816x2048, .f32⟩
  | .hbm, ⟨34, _⟩ => ⟨S_, .f32⟩
  | .hbm, ⟨35, _⟩ => ⟨S2816x2048, .f32⟩
  | .hbm, ⟨36, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x2048x3072 : Shape := ⟨3, ![2, 2048, 3072]⟩
abbrev S2048x8 : Shape := ⟨2, ![2048, 8]⟩
abbrev S2x8x3072 : Shape := ⟨3, ![2, 8, 3072]⟩
abbrev S1x512x1024 : Shape := ⟨3, ![1, 512, 1024]⟩
abbrev S512x8 : Shape := ⟨2, ![512, 8]⟩
abbrev S1x8x1024 : Shape := ⟨3, ![1, 8, 1024]⟩
abbrev S8x1024 : Shape := ⟨2, ![8, 1024]⟩
abbrev S512x1024 : Shape := ⟨2, ![512, 1024]⟩
abbrev S512x1 : Shape := ⟨2, ![512, 1]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x3072, .f32⟩
  | .hbm, ⟨1, _⟩ => ⟨S2048x8, .f32⟩
  | .hbm, ⟨2, _⟩ => ⟨S2x8x3072, .f32⟩
  | .hbm, ⟨3, _⟩ => ⟨S2x2048x3072, .f32⟩
  | .hbm, ⟨4, _⟩ => ⟨S2x2048x3072, .f32⟩
  | .hbm, ⟨5, _⟩ => ⟨S2x2048x3072, .f32⟩
  | .hbm, ⟨6, _⟩ => ⟨S2x2048x3072, .f32⟩
  | .hbm, ⟨7, _⟩ => ⟨S2x2048x3072, .f32⟩
  | .hbm, ⟨8, _⟩ => ⟨S2x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S512x8, .f32⟩
  | .local _ .vmem, ⟨3, _⟩ => ⟨S512x8, .f32⟩
  | .local _ .vmem, ⟨4, _⟩ => ⟨S1x8x1024, .f32⟩
  | .local _ .vmem, ⟨5, _⟩ => ⟨S1x8x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel29Ideal.lean ====
abbrev S2x2048x3072 : Shape := ⟨3, ![2, 2048, 3072]⟩
abbrev S2048x8 : Shape := ⟨2, ![2048, 8]⟩
abbrev S2x8x3072 : Shape := ⟨3, ![2, 8, 3072]⟩
abbrev S1x512x1024 : Shape := ⟨3, ![1, 512, 1024]⟩
abbrev S512x8 : Shape := ⟨2, ![512, 8]⟩
abbrev S1x8x1024 : Shape := ⟨3, ![1, 8, 1024]⟩
abbrev S8x1024 : Shape := ⟨2, ![8, 1024]⟩
abbrev S512x1024 : Shape := ⟨2, ![512, 1024]⟩
abbrev S512x1 : Shape := ⟨2, ![512, 1]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x3072, .f32⟩
  | .hbm, ⟨1, _⟩ => ⟨S2048x8, .f32⟩
  | .hbm, ⟨2, _⟩ => ⟨S2x8x3072, .f32⟩
  | .hbm, ⟨3, _⟩ => ⟨S2x2048x3072, .f32⟩
  | .hbm, ⟨4, _⟩ => ⟨S2x2048x3072, .f32⟩
  | .hbm, ⟨5, _⟩ => ⟨S2x2048x3072, .f32⟩
  | .hbm, ⟨6, _⟩ => ⟨S2x2048x3072, .f32⟩
  | .hbm, ⟨7, _⟩ => ⟨S2x2048x3072, .f32⟩
  | .hbm, ⟨8, _⟩ => ⟨S2x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S512x8, .f32⟩
  | .local _ .vmem, ⟨3, _⟩ => ⟨S512x8, .f32⟩
  | .local _ .vmem, ⟨4, _⟩ => ⟨S1x8x1024, .f32⟩
  | .local _ .vmem, ⟨5, _⟩ => ⟨S1x8x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference29Ideal.lean ====
abbrev S2x2048x3072 : Shape := ⟨3, ![2, 2048, 3072]⟩
abbrev S2048x8 : Shape := ⟨2, ![2048, 8]⟩
abbrev S2x8x3072 : Shape := ⟨3, ![2, 8, 3072]⟩
abbrev S2x3072x8 : Shape := ⟨3, ![2, 3072, 8]⟩
abbrev S2x3072x2048 : Shape := ⟨3, ![2, 3072, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2048x8, .f32⟩
  | .hbm, ⟨2, _⟩ => ⟨S2x8x3072, .f32⟩
  | .hbm, ⟨3, _⟩ => ⟨S2x2048x3072, .f32⟩
  | .hbm, ⟨4, _⟩ => ⟨S2x2048x3072, .f32⟩
  | .hbm, ⟨5, _⟩ => ⟨S2x3072x8, .f32⟩
  | .hbm, ⟨6, _⟩ => ⟨S2x8x3072, .f32⟩
  | .hbm, ⟨7, _⟩ => ⟨S2x3072x8, .f32⟩
  | .hbm, ⟨8, _⟩ => ⟨S2x3072x2048, .f32⟩
  | .hbm, ⟨9, _⟩ => ⟨S2x2048x3072, .f32⟩
  | .hbm, ⟨10, _⟩ => ⟨S_, .f32⟩
  | .hbm, ⟨11, _⟩ => ⟨S2x2048x3072, .f32⟩
  | .hbm, ⟨12, _⟩ => ⟨S2x2048x3072, .f32⟩
  | .hbm, ⟨13, _⟩ => ⟨S_, .f32⟩
  | .hbm, ⟨14, _⟩ => ⟨S2x2048x3072, .f32⟩
  | .hbm, ⟨15, _⟩ => ⟨S2x2048x3072, .f32⟩
  | .hbm, ⟨16, _⟩ => ⟨S2x2048x3072, .f32⟩
  | .hbm, ⟨17, _⟩ => ⟨S_, .f32⟩
  | .hbm, ⟨18, _⟩ => ⟨S2x2048x3072, .f32⟩
  | .hbm, ⟨19, _⟩ => ⟨S2x2048x3072, .f32⟩
  | .hbm, ⟨20, _⟩ => ⟨S2x2048x3072, .f32⟩
  | .hbm, ⟨21, _⟩ => ⟨S_, .f32⟩
  | .hbm, ⟨22, _⟩ => ⟨S2x2048x3072, .f32⟩
  | .hbm, ⟨23, _⟩ => ⟨S2x2048x3072, .f32⟩
  | .hbm, ⟨24, _⟩ => ⟨S2x2048x3072, .f32⟩
  | .hbm, ⟨25, _⟩ => ⟨S_, .f32⟩
  | .hbm, ⟨26, _⟩ => ⟨S2x2048x3072, .f32⟩
  | .hbm, ⟨27, _⟩ => ⟨S2x2048x3072, .f32⟩
  | .hbm, ⟨28, _⟩ => ⟨S_, .f32⟩
  | .hbm, ⟨29, _⟩ => ⟨S2x2048x3072, .f32⟩
  | .hbm, ⟨30, _⟩ => ⟨S2x2048x3072, .f32⟩
  | .hbm, ⟨31, _⟩ => ⟨S2x2048x3072, .f32⟩
  | .hbm, ⟨32, _⟩ => ⟨S_, .f32⟩
  | .hbm, ⟨33, _⟩ => ⟨S2x2048x3072, .f32⟩
  | .hbm, ⟨34, _⟩ => ⟨S2x2048x3072, .f32⟩
  | .hbm, ⟨35, _⟩ => ⟨S2x2048x3072, .f32⟩
  | .hbm, ⟨36, _⟩ => ⟨S_, .f32⟩
  | .hbm, ⟨37, _⟩ => ⟨S2x2048x3072, .f32⟩
  | .hbm, ⟨38, _⟩ => ⟨S2x2048x3072, .f32⟩
  | .hbm, ⟨39, _⟩ => ⟨S2x2048x3072, .f32⟩
  | .hbm, ⟨40, _⟩ => ⟨S_, .f32⟩
  | .hbm, ⟨41, _⟩ => ⟨S2x2048x3072, .f32⟩
  | .hbm, ⟨42, _⟩ => ⟨S2x2048x3072, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel30.lean ====
abbrev S1x2048x1024 : Shape := ⟨3, ![1, 2048, 1024]⟩
abbrev S2048x8 : Shape := ⟨2, ![2048, 8]⟩
abbrev S1x8x1024 : Shape := ⟨3, ![1, 8, 1024]⟩
abbrev S1x512x1024 : Shape := ⟨3, ![1, 512, 1024]⟩
abbrev S512x8 : Shape := ⟨2, ![512, 8]⟩
abbrev S8x1024 : Shape := ⟨2, ![8, 1024]⟩
abbrev S512x1024 : Shape := ⟨2, ![512, 1024]⟩
abbrev S512x1 : Shape := ⟨2, ![512, 1]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S2048x8, .f32⟩
  | .hbm, ⟨2, _⟩ => ⟨S1x8x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x8, .f32⟩
  | .local _ .vmem, ⟨3, _⟩ => ⟨S512x8, .f32⟩
  | .local _ .vmem, ⟨4, _⟩ => ⟨S1x8x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference30Ideal.lean ====
abbrev S1x2048x1024 : Shape := ⟨3, ![1, 2048, 1024]⟩
abbrev S2048x8 : Shape := ⟨2, ![2048, 8]⟩
abbrev S1x8x1024 : Shape := ⟨3, ![1, 8, 1024]⟩
abbrev S1x1024x8 : Shape := ⟨3, ![1, 1024, 8]⟩
abbrev S1x1024x2048 : Shape := ⟨3, ![1, 1024, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S2048x8, .f32⟩
  | .hbm, ⟨2, _⟩ => ⟨S1x8x1024, .f32⟩
  | .hbm, ⟨3, _⟩ => ⟨S1x2048x1024, .f32⟩
  | .hbm, ⟨4, _⟩ => ⟨S1x2048x1024, .f32⟩
  | .hbm, ⟨5, _⟩ => ⟨S1x1024x8, .f32⟩
  | .hbm, ⟨6, _⟩ => ⟨S1x8x1024, .f32⟩
  | .hbm, ⟨7, _⟩ => ⟨S1x1024x8, .f32⟩
  | .hbm, ⟨8, _⟩ => ⟨S1x1024x2048, .f32⟩
  | .hbm, ⟨9, _⟩ => ⟨S1x2048x1024, .f32⟩
  | .hbm, ⟨10, _⟩ => ⟨S_, .f32⟩
  | .hbm, ⟨11, _⟩ => ⟨S1x2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S_, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel31.lean ====
abbrev S8x160768 : Shape := ⟨2, ![8, 160768]⟩
abbrev S1x160768 : Shape := ⟨2, ![1, 160768]⟩
abbrev S8x1024 : Shape := ⟨2, ![8, 1024]⟩
abbrev S1x1024 : Shape := ⟨2, ![1, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S8x160768, .f32⟩
  | .hbm, ⟨1, _⟩ => ⟨S1x160768, .f32⟩
  | .local _ .vmem, ⟨0, _⟩ => ⟨S8x1024, .f32⟩
  | .local _ .vmem, ⟨1, _⟩ => ⟨S8x1024, .f32⟩
  | .local _ .vmem, ⟨2, _⟩ => ⟨S1x1024, .f32⟩
  | .local _ .vmem, ⟨3, _⟩ => ⟨S1x1024, .f32⟩
  | _, _ => ⟨S8x160768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![157], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S8x160768 : Shape := ⟨2, ![8, 160768]⟩
abbrev S_ : Shape := ⟨0, ![]⟩
abbrev S160768 : Shape := ⟨1, ![160768]⟩
abbrev S1x160768 : Shape := ⟨2, ![1, 160768]⟩

abbrev nBuf : Space → Nat
  | .hbm => 4
  | .vmem => 0
  | .smem => 0
  | _ => 0

abbrev bufTy : (tb : Table) → Fin (tcTables nBuf tb) → BufTy
  | .hbm, ⟨0, _⟩ => ⟨S8x160768, .f32⟩
  | .hbm, ⟨1, _⟩ => ⟨S_, .f32⟩
  | .hbm, ⟨2, _⟩ => ⟨S160768, .f32⟩
  | .hbm, ⟨3, _⟩ => ⟨S1x160768, .f32⟩
  | _, _ => ⟨S8x160768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def k0_cond3 (i : grid0.Coords) : BitVec 1 :=
  let arg0 : BitVec 32 := BitVec.ofNat 32 (i 0).val
  let c0_i32_18 : BitVec 32 := 0#32
  let v44 : BitVec 1 := Scalar.cmpi .eq arg0 c0_i32_18
  let v45 : BitVec 32 := Scalar.extui v44
  let c0_i32_19 : BitVec 32 := 0#32
  let v46 : BitVec 1 := Scalar.cmpi .ne v45 c0_i32_19
  v46

def k0_cond4 (i : grid0.Coords) : BitVec 1 :=
  let arg0 : BitVec 32 := BitVec.ofNat 32 (i 0).val
  let c0_i32_20 : BitVec 32 := 0#32
  let v47 : BitVec 1 := Scalar.cmpi .sgt arg0 c0_i32_20
  let v48 : BitVec 32 := Scalar.extui v47
  let c0_i32_21 : BitVec 32 := 0#32
  let v49 : BitVec 1 := Scalar.cmpi .ne v48 c0_i32_21
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S8192x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S8192x1, .f32⟩
  | .hbm, ⟨72, _⟩ => ⟨S8192x2048, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x2048, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x2048, .f32⟩
  | .hbm, ⟨95, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Kernel32.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_13 : BitVec 32 := 0#32
  let v22 : BitVec 1 := Scalar.cmpi .ne v21 c0_i32_13
  v22

def k0_cond2 (i : grid0.Coords) : BitVec 1 :=
  let arg0 : BitVec 32 := BitVec.ofNat 32 (i 0).val
  let c0_i32_14 : BitVec 32 := 0#32
  let v23 : BitVec 1 := Scalar.cmpi .sgt arg0 c0_i32_14
  let v24 : BitVec 32 := Scalar.extui v23
  let c0_i32_15 : BitVec 32 := 0#32
  let v25 : BitVec 1 := Scalar.cmpi .ne v24 c0_i32_15
  v25

def k0_cond3 (i : grid0.Coords) : BitVec 1 :=
  let arg0 : BitVec 32 := BitVec.ofNat 32 (i 0).val
  let c0_i32_17 : BitVec 32 := 0#32
  let v30 : BitVec 1 := Scalar.cmpi .eq arg0 c0_i32_17
  let v31 : BitVec 32 := Scalar.extui v30
  let c0_i32_18 : BitVec 32 := 0#32
  let v32 : BitVec 1 := Scalar.cmpi .ne v31 c0_i32_18
  v32

def k0_cond4 (i : grid0.Coords) : BitVec 1 :=
  let arg0 : BitVec 32 := BitVec.ofNat 32 (i 0).val
  let c0_i32_19 : BitVec 32 := 0#32
  let v33 : BitVec 1 := Scalar.cmpi .sgt arg0 c0_i32_19
  let v34 : BitVec 32 := Scalar.extui v33
  let c0_i32_20 : BitVec 32 := 0#32
  let v35 : BitVec 1 := Scalar.cmpi .ne v34 c0_i32_20
  v35

def k0_cond5 (i : grid0.Coords) : BitVec 1 :=
  let arg0 : BitVec 32 := BitVec.ofNat 32 (i 0).val
  let c0_i32_22 : BitVec 32 := 0#32
  let v39 : BitVec 1 := Scalar.cmpi .eq arg0 c0_i32_22
  let v40 : BitVec 32 := Scalar.extui v39
  let c0_i32_23 : BitVec 32 := 0#32
  let v41 : BitVec 1 := Scalar.cmpi .ne v40 c0_i32_23
  v41

def k0_cond6 (i : grid0.Coords) : BitVec 1 :=
  let arg0 : BitVec 32 := BitVec.ofNat 32 (i 0).val
  let c0_i32_24 : BitVec 32 := 0#32
  let v42 : BitVec 1 := Scalar.cmpi .sgt arg0 c0_i32_24
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference32Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.DqFrame.lean ====
/- The frame of the attention query gradient: the body of one grid point run once, its sixteen row classes written one after
   the other, and the launch's theorem over it. -/
module

public import proofs.«01_k».proof.Proof.Gen.KernelIdeal.Frame
public import proofs.«01_k».proof.Proof.Gen.KernelIdeal.Skeleton
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UR sig nD τ) ℕ

/-- Rows `j`, `j + 16`, `j + 32`, … of a block of 2048 rows. -/
def comb (j : Fin 16) : Rect S2048x128 :=
  ⟨⟨![j.val, 0], S128x128.size, ![16, 1], by
    intro a; right
    match a with
    | ⟨0, _⟩ => show j.val + 16 * (128 - 1) < 2048; omega
    | ⟨1, _⟩ => show 0 + 1 * (128 - 1) < 128; omega⟩, spos_16_1⟩

/-- A block's rows of class `j`. -/
def pick (j : Fin 16) (X : Vec F S2048x128 .f32) : Vec F S128x128 .f32 := fun x => X ((comb j).idx x)

/-- One row class's gradient: own keys and the previous block's. -/
def tile (pm : IVec S128x128 1) (q kc kp vc vp dov l d : Vec F S128x128 .f32) : FVec F S128x128 .f32 :=
  k0_pay11 pm (k0_pay3 q) (k0_pay4 dov) (k0_pay5 l) (k0_pay6 d) (k0_pay7 kc) (k0_pay8 kp) (k0_pay9 vp)
    (k0_pay10 q dov l d kc vc) (constant S128x128 .f32 0x00000000#32)

/-- Row class `j` of the block the body leaves. -/
def classOut (i : grid0.Coords) (X2 X3 X4 X5 X6 X7 X8 X9 : Vec F S2048x128 .f32) (j : Fin 16) : Vec F S128x128 .f32 :=
  tile (k0_pay2 i) (pick j X2) (pick j X3) (pick j X4) (pick j X5) (pick j X6) (pick j X7) (pick j X8) (pick j X9)

/-- The block the body leaves: row `y` is row `y / 16` of class `y % 16`. -/
def blockOut (i : grid0.Coords) (X2 X3 X4 X5 X6 X7 X8 X9 : Vec F S2048x128 .f32) : Vec F S2048x128 .f32 := fun y =>
  classOut i X2 X3 X4 X5 X6 X7 X8 X9 ⟨(y 0).val % 16, Nat.mod_lt _ (by decide)⟩
    (ix2 ⟨(y 0).val / 16, Nat.div_lt_of_lt_mul (y 0).isLt⟩ (y 1))

/-- Writes that agree with `H` leave `H` wherever one of them reaches. -/
theorem canon_agree {Val : EltTy → Type} [∀ e, Nonempty (Val e)] {s : Shape} {e : EltTy} (H : s.Idx → Val e) (y : s.Idx) :
    ∀ L : List (View.Piece Val s e), (∀ p ∈ L, ∀ x, p.2 x = H (p.1.emb x)) → (∃ p ∈ L, y ∈ p.1.set) → View.canon L y = H y
  | [], _, h => by obtain ⟨_, hm, _⟩ := h; exact absurd hm List.not_mem_nil
  | ⟨r, w⟩ :: L, ha, h => by
    by_cases hy : y ∈ r.set
    · obtain ⟨x, rfl⟩ : ∃ x, r.emb x = y := r.exists_idx_of_mem hy
      rw [View.canon_cons_emb]; exact ha _ List.mem_cons_self x
    · rw [View.canon_cons_of_not_mem _ _ hy]
      refine canon_agree H y L (fun p hp => ha p (List.mem_cons_of_mem _ hp)) ?_
      obtain ⟨p, hp, hm⟩ := h
      rcases List.mem_cons.mp hp with rfl | hp
      · exact absurd hm hy
      · exact ⟨p, hp, hm⟩

/-- Sixteen interleaved writes leave the block whose row classes they are. -/
theorem read_combs (M : Memref sig .tc .vmem S2048x128 .f32) (f : M.view.ty.Contents (Elt F))
    (G : Fin 16 → Vec F S128x128 .f32) :
    M.view.read (Elt F) (M.view.writes (Elt F) f ((List.finRange 16).reverse.map fun j => ⟨comb j, G j⟩))
      = fun y => G ⟨(y 0).val % 16, Nat.mod_lt _ (by decide)⟩
          (ix2 ⟨(y 0).val / 16, Nat.div_lt_of_lt_mul (y 0).isLt⟩ (y 1)) := by
  have hcov : ∀ y : S2048x128.Idx, ∃ p ∈ (List.finRange 16).reverse.map
      (fun j => (⟨comb j, G j⟩ : View.Piece (Elt F) S2048x128 .f32)), y ∈ p.1.set := fun y => by
    refine ⟨⟨comb ⟨(y 0).val % 16, Nat.mod_lt _ (by decide)⟩, G _⟩, List.mem_map.mpr ⟨_, by simp, rfl⟩, ?_⟩
    refine (LoadRect.mem_set _).mpr fun a => ?_
    match a with
    | ⟨0, _⟩ =>
      have h : (y 0).val < 2048 := (y 0).isLt
      refine ⟨(y 0).val / 16, ?_, ?_⟩
      · show (y 0).val / 16 < 128; omega
      · show (y 0).val = (y 0).val % 16 + 16 * ((y 0).val / 16); omega
    | ⟨1, _⟩ => exact ⟨(y 1).val, (y 1).isLt, by show (y 1).val = 0 + 1 * (y 1).val; omega⟩
  rw [View.read_writes_eq_canon _ _ _ hcov]
  funext y
  refine canon_agree (fun y => G ⟨(y 0).val % 16, Nat.mod_lt _ (by decide)⟩
          (ix2 ⟨(y 0).val / 16, Nat.div_lt_of_lt_mul (y 0).isLt⟩ (y 1))) y _ ?_ (hcov y)
  intro p hp x
  obtain ⟨j, -, rfl⟩ := List.mem_map.mp hp
  have e0 : ((comb j).emb x 0).val = j.val + 16 * (x 0).val := rfl
  have h0 : (x 0).val < 128 := (x 0).isLt
  have hj : (⟨((comb j).emb x 0).val % 16, Nat.mod_lt _ (by decide)⟩ : Fin 16) = j :=
    Fin.ext (by show ((comb j).emb x 0).val % 16 = j.val; omega)
  have hx : (ix2 ⟨((comb j).emb x 0).val / 16, Nat.div_lt_of_lt_mul ((comb j).emb x 0).isLt⟩ ((comb j).emb x 1) : S128x128.Idx) = x := by
    funext a
    match a with
    | ⟨0, _⟩ => exact Fin.ext (by show ((comb j).emb x 0).val / 16 = (x 0).val; omega)
    | ⟨1, _⟩ => exact Fin.ext (by show 0 + 1 * (x 1).val = (x 1).val; omega)
  show G j x = G ⟨((comb j).emb x 0).val % 16, _⟩ _
  rw [hj]
  exact congrArg (G j) hx.symm

theorem kernelRun (c : Dev nD) (i : grid0.Coords)
    (arg2 arg3 arg4 arg5 arg6 arg7 arg8 arg9 arg10 : Memref sig .tc .vmem S2048x128 .f32)
    (h2 : arg2.IsWhole) (h3 : arg3.IsWhole) (h4 : arg4.IsWhole) (h5 : arg5.IsWhole) (h6 : arg6.IsWhole)
    (h7 : arg7.IsWhole) (h8 : arg8.IsWhole) (h9 : arg9.IsWhole) (h10 : arg10.IsWhole)
    (X2 X3 X4 X5 X6 X7 X8 X9 : Vec F S2048x128 .f32) (W : Waits sig Unit) (K : PUnit → sProp 𝕄) :
    iprop(owns (c : Thread nD τ) arg2 fullShare X2 ∗ owns (c : Thread nD τ) arg3 fullShare X3
      ∗ owns (c : Thread nD τ) arg4 fullShare X4 ∗ owns (c : Thread nD τ) arg5 fullShare X5
      ∗ owns (c : Thread nD τ) arg6 fullShare X6 ∗ owns (c : Thread nD τ) arg7 fullShare X7
      ∗ owns (c : Thread nD τ) arg8 fullShare X8 ∗ owns (c : Thread nD τ) arg9 fullShare X9
      ∗ (∃ d, owns (c : Thread nD τ) arg10 fullShare d) ∗ owes (c : Thread nD τ) 0 W
      ∗ (iprop(owns (c : Thread nD τ) arg2 fullShare X2 ∗ owns (c : Thread nD τ) arg3 fullShare X3
          ∗ owns (c : Thread nD τ) arg4 fullShare X4 ∗ owns (c : Thread nD τ) arg5 fullShare X5
          ∗ owns (c : Thread nD τ) arg6 fullShare X6 ∗ owns (c : Thread nD τ) arg7 fullShare X7
          ∗ owns (c : Thread nD τ) arg8 fullShare X8 ∗ owns (c : Thread nD τ) arg9 fullShare X9
          ∗ owns (c : Thread nD τ) arg10 fullShare (blockOut i X2 X3 X4 X5 X6 X7 X8 X9)
          ∗ owes (c : Thread nD τ) 0 W) -∗ K ⟨⟩))
    ⊢ wp frame (wpE (defs₀ (F := F)) Variants.none c none) Set.univ
        (cc0_attn_dq2 i arg2 h2 arg3 h3 arg4 h4 arg5 h5 arg6 h6 arg7 h7 arg8 h8 arg9 h9 arg10 h10) K := by
  simp only [cc0_attn_dq2_eq_skeleton]; unfold cc0_attn_dq2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%d10, %f10, -, H10⟩, HW, Hk⟩
  sl_exec
  sl_step
  subst e2 e3 e4 e5 e6 e7 e8 e9
  iapply Hk
  isplitl [H2]
  · iexists f2; isplitr; (· ipureintro; rfl); iexact H2
  isplitl [H3]
  · iexists f3; isplitr; (· ipureintro; rfl); iexact H3
  isplitl [H4]
  · iexists f4; isplitr; (· ipureintro; rfl); iexact H4
  isplitl [H5]
  · iexists f5; isplitr; (· ipureintro; rfl); iexact H5
  isplitl [H6]
  · iexists f6; isplitr; (· ipureintro; rfl); iexact H6
  isplitl [H7]
  · iexists f7; isplitr; (· ipureintro; rfl); iexact H7
  isplitl [H8]
  · iexists f8; isplitr; (· ipureintro; rfl); iexact H8
  isplitl [H9]
  · iexists f9; isplitr; (· ipureintro; rfl); iexact H9
  isplitl [H10]
  · iexists _
    isplitr
    on_goal 2 => iexact H10

    ipureintro
    exact read_combs arg10 f10 (classOut i (arg2.view.read (Elt F) f2) (arg3.view.read (Elt F) f3) (arg4.view.read (Elt F) f4)
      (arg5.view.read (Elt F) f5) (arg6.view.read (Elt F) f6) (arg7.view.read (Elt F) f7) (arg8.view.read (Elt F) f8)
      (arg9.view.read (Elt F) f9))
  iexact HW

/-! ## The launch -/

variable (m : (ℓ : Loc nD τ sig) → Buf (Elt F) ℓ) (ρ : Dev nD → PrngReg)

/-- What the body leaves at point `t`. -/
def outAt (c : Dev nD) (t : Fin cfg0.N) : Vec F S2048x128 .f32 :=
  blockOut (grid0.coords t) (iblk m c 0 t) (iblk m c 1 t) (iblk m c 2 t) (iblk m c 3 t) (iblk m c 4 t) (iblk m c 5 t)
    (iblk m c 6 t) (iblk m c 7 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  unfold Dat.owesAt Pipeline.owesWithin
  rw [show (dats m 0 c).owed t.castSucc = 0 from rfl, show (dats m 0 c).owed t.succ = 0 from rfl]
  simp only [before0_0_of m (dats m 0 c) (A_eq m c 0) (after_0 m c)]
  simp only [before0_1_of m (dats m 0 c) (A_eq m c 1) (after_1 m c)]
  simp only [before0_2_of m (dats m 0 c) (A_eq m c 2) (after_2 m c)]
  simp only [before0_3_of m (dats m 0 c) (A_eq m c 3) (after_3 m c)]
  simp only [before0_4_of m (dats m 0 c) (A_eq m c 4) (after_4 m c)]
  simp only [before0_5_of m (dats m 0 c) (A_eq m c 5) (after_5 m c)]
  simp only [before0_6_of m (dats m 0 c) (A_eq m c 6) (after_6 m c)]
  simp only [before0_7_of m (dats m 0 c) (A_eq m c 7) (after_7 m c)]
  rw [after_0, after_1, after_2, after_3, after_4, after_5, after_6, after_7, after_8]
  unfold outAt
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply kernelRun c (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) W _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HW]; · iexact HW
  iintro ⟨H0, H1, H2, H3, H4, H5, H6, H7, H8, HW⟩
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

set_option maxHeartbeats 2000000 in
set_option backward.isDefEq.respectTransparency.types false in
/-- The arguments end as launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).1 0).trans (((dats m 0 c).arrAt_in 0 rfl _).trans (V_main_arg0 m c)),
      ((h.1 c).1 2).trans (((dats m 0 c).arrAt_in 2 rfl _).trans (V_main_arg1 m c)),
      ((h.1 c).1 4).trans (((dats m 0 c).arrAt_in 4 rfl _).trans (V_main_arg2 m c)),
      ((h.1 c).1 5).trans (((dats m 0 c).arrAt_in 5 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ)

end Cert.KernelIdeal.Hand

end
-- ==== Proof.DqReal.lean ====
/- One query row's attention gradient in real numbers, and the operations of the programs at real numbers. -/
module

public import Idealize.ShloMosaic.PureOps.Ideal
public import Idealize.ShloMosaic.PureOps.Ideal.Laws
public import Mathlib.Analysis.SpecialFunctions.Log.Basic

@[expose] public section

noncomputable section

namespace Cert.Dq

open Idealize.ShloMosaic
open scoped BigOperators

/-! ## The row's numbers -/

/-- What one query row attends with: masked scores `s` and values `v` of its keys, the two other groups'
    log-denominators and outputs, and the gradient of the row's output. -/
structure Row where
  (s : Fin 256 → ℝ) (v : Fin 256 → Fin 128 → ℝ)
  (l0 l1 : ℝ) (o0 o1 g : Fin 128 → ℝ)

namespace Row

variable (R : Row)

/-- The sum of the exponentials. -/
def S : ℝ := ∑ k, Real.exp (R.s k)
/-- A key's probability. -/
def p (k : Fin 256) : ℝ := Real.exp (R.s k - Real.log R.S)
/-- The group's own output. -/
def o2 (d : Fin 128) : ℝ := ∑ k, R.v k d * R.p k
/-- The mixture's denominator. -/
def den : ℝ := Real.exp R.l0 + Real.exp R.l1 + Real.exp (Real.log R.S)
/-- The mixture's numerator. -/
def num (d : Fin 128) : ℝ := Real.exp R.l0 * R.o0 d + Real.exp R.l1 * R.o1 d + Real.exp (Real.log R.S) * R.o2 d
/-- The score's gradient through the group's output. -/
def viaOut (k : Fin 256) : ℝ := (∑ d, Real.exp (Real.log R.S) * (R.g d / R.den) * R.v k d) * R.p k
/-- The gradient of the group's weight. -/
def weight : ℝ := -(∑ d, R.g d * (1 / (R.den * R.den)) * R.num d) + ∑ d, R.g d / R.den * R.o2 d
/-- The gradient of the sum of the exponentials, times that sum. -/
def viaSum : ℝ := R.weight * Real.exp (Real.log R.S) + ∑ k, -R.viaOut k
/-- The score's gradient as the chain rule gives it. -/
def grad (k : Fin 256) : ℝ := R.viaOut k + R.viaSum / R.S * Real.exp (R.s k)

theorem S_pos : 0 < R.S := Finset.sum_pos (fun k _ => Real.exp_pos _) ⟨0, Finset.mem_univ _⟩

theorem den_pos : 0 < R.den := by
  have a := Real.exp_pos R.l0
  have b := Real.exp_pos R.l1
  have c := Real.exp_pos (Real.log R.S)
  unfold den
  linarith

theorem p_eq (k : Fin 256) : R.p k = Real.exp (R.s k) / R.S := by
  rw [p, Real.exp_sub, Real.exp_log R.S_pos]

/-- THE GRADIENT IN CLOSED FORM: the probability under the mixture's denominator times what the key's value adds beyond the
    row's output. -/
theorem grad_eq (k : Fin 256) : R.grad k
    = Real.exp (R.s k - Real.log R.den) * ((∑ d, R.g d * R.v k d) - ∑ d, R.g d * (R.num d / R.den)) := by
  have hS := R.S_pos.ne'
  have hD := R.den_pos.ne'
  have hv : ∀ k, R.viaOut k = Real.exp (R.s k) / R.den * ∑ d, R.g d * R.v k d := fun k => by
    rw [viaOut, Real.exp_log R.S_pos, p_eq, Finset.sum_mul, Finset.mul_sum]
    refine Finset.sum_congr rfl fun d _ => ?_
    field_simp
  have ho : ∑ d, R.g d / R.den * R.o2 d = (∑ k, R.viaOut k) / R.S := by
    simp only [hv, o2, p_eq, Finset.mul_sum, Finset.sum_div]
    rw [Finset.sum_comm]
    refine Finset.sum_congr rfl fun k _ => Finset.sum_congr rfl fun d _ => ?_
    field_simp
  have hn : ∑ d, R.g d * (1 / (R.den * R.den)) * R.num d = (∑ d, R.g d * (R.num d / R.den)) / R.den := by
    rw [Finset.sum_div]
    refine Finset.sum_congr rfl fun d _ => ?_
    field_simp
  rw [grad, viaSum, weight, ho, hn, hv, Real.exp_log R.S_pos, Finset.sum_neg_distrib, Real.exp_sub, Real.exp_log R.den_pos]
  field_simp
  ring

end Row

/-! ## The operations at real numbers -/

theorem sum_coe {ι : Type} [Fintype ι] (f : ι → ℝ) : ∑ i, (f i : EReal) = ((∑ i, f i : ℝ) : EReal) := by
  classical
  refine Finset.induction_on (Finset.univ : Finset ι) (by simp) fun a s ha ih => ?_
  rw [Finset.sum_insert ha, Finset.sum_insert ha, ih, EReal.coe_add]

variable {φ : FTy}

theorem exp_real {x : Ideal φ} {r : ℝ} (h : x = (r : EReal)) : FloatOps.hostUnary .exp x = ((Real.exp r : ℝ) : EReal) := by
  subst h; rfl
theorem log_real {x : Ideal φ} {r : ℝ} (h : x = (r : EReal)) (hr : 0 < r) :
    FloatOps.hostUnary .log x = ((Real.log r : ℝ) : EReal) := by
  subst h; exact if_neg (not_le.mpr hr)
theorem add_real {x y : Ideal φ} {r s : ℝ} (h : x = (r : EReal)) (h' : y = (s : EReal)) :
    FloatOps.addf x y = ((r + s : ℝ) : EReal) := by subst h h'; exact (EReal.coe_add r s).symm
theorem sub_real {x y : Ideal φ} {r s : ℝ} (h : x = (r : EReal)) (h' : y = (s : EReal)) :
    FloatOps.subf x y = ((r - s : ℝ) : EReal) := by subst h h'; exact (EReal.coe_sub r s).symm
theorem mul_real {x y : Ideal φ} {r s : ℝ} (h : x = (r : EReal)) (h' : y = (s : EReal)) :
    FloatOps.mulf x y = ((r * s : ℝ) : EReal) := by subst h h'; exact (EReal.coe_mul r s).symm
theorem neg_real {x : Ideal φ} {r : ℝ} (h : x = (r : EReal)) : FloatOps.hostNegf x = ((-r : ℝ) : EReal) := by
  subst h; exact (EReal.coe_neg r).symm
theorem div_real {x y : Ideal φ} {r s : ℝ} (h : x = (r : EReal)) (h' : y = (s : EReal)) (hs : s ≠ 0) :
    FloatOps.hostDivf x y = ((r / s : ℝ) : EReal) := by
  subst h h'
  refine (Ideal.div_coe hs _).trans ?_
  rw [← EReal.coe_mul, mul_one_div]

theorem one_word : Ideal.ofBits .f32 0x3F800000#32 = ((1 : ℝ) : EReal) := by
  have h : Ideal.ofBits .f32 0x3F800000#32
      = (((1 : ℝ) * ((2 ^ 23 + (0 : ℕ) : ℕ) : ℝ) * (2 : ℝ) ^ ((127 : ℤ) - (2 ^ (8 - 1) - 1) - (23 : ℕ)) : ℝ) : EReal) := by
    simp [Ideal.ofBits, Ideal.ieee]
  rw [h]
  exact congrArg _ (by norm_num)

/-- A sum of products of reals, as a product of arrays writes it. -/
theorem dot_real {n : ℕ} {x y : Fin n → EReal} {r s : Fin n → ℝ} (h : ∀ k, x k = r k) (h' : ∀ k, y k = s k) :
    ∑ k, x k * y k = ((∑ k, r k * s k : ℝ) : EReal) := by
  rw [← sum_coe]
  exact Finset.sum_congr rfl fun k _ => by rw [h, h', EReal.coe_mul]

/-- A sum of reals from an initial zero. -/
theorem sum_real {n : ℕ} {x : Fin n → EReal} {r : Fin n → ℝ} {z : EReal} (hz : z = 0) (h : ∀ k, x k = r k) :
    z + ∑ k, x k = ((∑ k, r k : ℝ) : EReal) := by
  rw [← sum_coe, hz, zero_add]
  exact Finset.sum_congr rfl fun k _ => h k

end Cert.Dq

end
-- ==== Proof.DqRef.lean ====
/- The reference's attention gradient, one query row at a time: the numbers the row attends with, and every stage of the
   reference at them. -/
module

public import proofs.«01_k».proof.Proof.Gen.ReferenceIdeal.Run
public import proofs.«01_k».proof.Proof.Gen.ReferenceIdeal.Read
public import proofs.«01_k».proof.Proof.DqReal

@[expose] public section

noncomputable section

namespace Cert.ReferenceIdeal.Hand

open Cert.ReferenceIdeal Cert.ReferenceIdeal.Gen Cert.ReferenceIdeal.Read Cert.Dq
open Idealize.ShloMosaic Idealize.ShloMosaic.TcCoe
open Idealize.ShloMosaic.ValueIdx (ix2 ix3 ix4 ix5)
open scoped BigOperators

/-- Query `i` of class `j` in block `n`. -/
def row (n : Fin 4) (i : Fin 128) (j : Fin 16) : Fin 8192 := ⟨n.val * 2048 + i.val * 16 + j.val, by omega⟩

theorem row_val (n : Fin 4) (i : Fin 128) (j : Fin 16) : (row n i j).val = n.val * 2048 + i.val * 16 + j.val := rfl

/-- An array's value at an index whose coordinates are another's. -/
theorem moved {s : Shape} (f : s.Idx → EReal) {i i' : s.Idx} {r : EReal} (hv : f i' = r) (e : ∀ a, (i a).val = (i' a).val) :
    f i = r := by rw [show i = i' from funext fun a => Fin.ext (e a)]; exact hv

/-- The row's numbers in the arrays the reference starts from. -/
structure At (x0 x1 : (⟨S8192x3072, .f32⟩ : BufTy).Contents (Elt Ideal)) (x2 : (⟨S8192x6144, .f32⟩ : BufTy).Contents (Elt Ideal))
    (x3 x4 : (⟨S8192x1024, .f32⟩ : BufTy).Contents (Elt Ideal)) (x5 : (⟨S8192x8, .f32⟩ : BufTy).Contents (Elt Ideal))
    (x6 : (⟨S8192x1024, .f32⟩ : BufTy).Contents (Elt Ideal)) (x7 : (⟨S8192x8, .f32⟩ : BufTy).Contents (Elt Ideal))
    (n : Fin 4) (j : Fin 16) (h : Fin 8) (i : Fin 128) (R : Row) : Prop where
  s : ∀ k, (val_main_v53_0 (F := Ideal) x0 x1 (ix5 n j h i k) : EReal) = R.s k
  v : ∀ k d, (val_main_v18 (F := Ideal) x2 (ix5 n k j h d) : EReal) = R.v k d
  l0 : (x5 (ix2 (row n i j) h) : EReal) = R.l0
  l1 : (x7 (ix2 (row n i j) h) : EReal) = R.l1
  o0 : ∀ d, (val_main_v66 (F := Ideal) x4 (ix3 (row n i j) h d) : EReal) = R.o0 d
  o1 : ∀ d, (val_main_v67 (F := Ideal) x6 (ix3 (row n i j) h d) : EReal) = R.o1 d
  g : ∀ d, (val_main_v90 (F := Ideal) x3 (ix3 (row n i j) h d) : EReal) = R.g d

namespace At

variable {x0 x1 : (⟨S8192x3072, .f32⟩ : BufTy).Contents (Elt Ideal)} {x2 : (⟨S8192x6144, .f32⟩ : BufTy).Contents (Elt Ideal)}
  {x3 x4 : (⟨S8192x1024, .f32⟩ : BufTy).Contents (Elt Ideal)} {x5 : (⟨S8192x8, .f32⟩ : BufTy).Contents (Elt Ideal)}
  {x6 : (⟨S8192x1024, .f32⟩ : BufTy).Contents (Elt Ideal)} {x7 : (⟨S8192x8, .f32⟩ : BufTy).Contents (Elt Ideal)}
  {n : Fin 4} {j : Fin 16} {h : Fin 8} {i : Fin 128} {R : Row} (H : At x0 x1 x2 x3 x4 x5 x6 x7 n j h i R)

include H

theorem v54 (k : Fin 256) : (val_main_v54 (F := Ideal) x0 x1 (ix5 n j h i k) : EReal) = (Real.exp (R.s k) : ℝ) := by
  rw [val_main_v54_apply]; exact exp_real (H.s k)

theorem v55 : (val_main_v55 (F := Ideal) x0 x1 (ix4 n j h i) : EReal) = (R.S : ℝ) := by
  rw [val_main_v55_apply]
  exact sum_real Ideal.ofBits_zero_f32 fun k => moved (val_main_v54 (F := Ideal) x0 x1) (H.v54 k) (fun | 0 => rfl | 1 => rfl | 2 => rfl | 3 => rfl | 4 => rfl)

theorem v56 : (val_main_v56 (F := Ideal) x0 x1 (ix4 n j h i) : EReal) = (Real.log R.S : ℝ) := by
  rw [val_main_v56_apply]; exact log_real H.v55 R.S_pos

theorem v60 (k : Fin 256) : (val_main_v60 (F := Ideal) x0 x1 (ix5 n j h i k) : EReal) = (R.p k : ℝ) := by
  rw [val_main_v60_apply, val_main_v59_apply, val_main_v58_apply, val_main_v57_apply]
  exact exp_real (sub_real (H.s k) (moved (val_main_v56 (F := Ideal) x0 x1) H.v56 (fun | 0 => rfl | 1 => rfl | 2 => rfl | 3 => rfl)))

theorem v63 (d : Fin 128) : (val_main_v63 (F := Ideal) x0 x1 x2 (ix3 (row n i j) h d) : EReal) = (R.o2 d : ℝ) := by
  rw [val_main_v63_apply, val_main_v62_apply]
  refine moved (val_main_v61 (F := Ideal) x0 x1 x2) (i' := ix5 n j h d i) ?_ ?_
  · rw [val_main_v61_apply]
    exact dot_real (fun k => moved (val_main_v18 (F := Ideal) x2) (H.v k d) (fun | 0 => rfl | 1 => rfl | 2 => rfl | 3 => rfl | 4 => rfl))
      fun k => moved (val_main_v60 (F := Ideal) x0 x1) (H.v60 k) (fun | 0 => rfl | 1 => rfl | 2 => rfl | 3 => rfl | 4 => rfl)
  · have hr := row_val n i j
    intro a
    match a with
    | 0 => show (((row n i j).val * 8 + h.val) * 128 + d.val) / 2097152 = n.val; omega
    | 1 => show (((row n i j).val * 8 + h.val) * 128 + d.val) / 1024 % 16 = j.val; omega
    | 2 => show (((row n i j).val * 8 + h.val) * 128 + d.val) / 128 % 8 = h.val; omega
    | 3 => show (((row n i j).val * 8 + h.val) * 128 + d.val) % 128 = d.val; omega
    | 4 => show (((row n i j).val * 8 + h.val) * 128 + d.val) / 16384 % 128 = i.val; omega

theorem v70 : (val_main_v70 (F := Ideal) x0 x1 (ix2 (row n i j) h) : EReal) = (Real.exp (Real.log R.S) : ℝ) := by
  rw [val_main_v70_apply, val_main_v65_apply, val_main_v64_apply]
  refine exp_real (moved (val_main_v56 (F := Ideal) x0 x1) H.v56 fun a => ?_)
  have hr := row_val n i j
  match a with
  | 0 => show ((row n i j).val * 8 + h.val) / 16384 = n.val; omega
  | 1 => show ((row n i j).val * 8 + h.val) / 8 % 16 = j.val; omega
  | 2 => show ((row n i j).val * 8 + h.val) % 8 = h.val; omega
  | 3 => show ((row n i j).val * 8 + h.val) / 128 % 128 = i.val; omega

theorem v68 : (val_main_v68 (F := Ideal) x5 (ix2 (row n i j) h) : EReal) = (Real.exp R.l0 : ℝ) := by
  rw [val_main_v68_apply]; exact exp_real H.l0

theorem v69 : (val_main_v69 (F := Ideal) x7 (ix2 (row n i j) h) : EReal) = (Real.exp R.l1 : ℝ) := by
  rw [val_main_v69_apply]; exact exp_real H.l1

theorem v72 : (val_main_v72 (F := Ideal) x0 x1 x5 x7 (ix2 (row n i j) h) : EReal) = (R.den : ℝ) := by
  rw [val_main_v72_apply, val_main_v71_apply]; exact add_real (add_real H.v68 H.v69) H.v70

theorem v83 (d : Fin 128) : (val_main_v83 (F := Ideal) x0 x1 x2 x4 x5 x6 x7 (ix3 (row n i j) h d) : EReal) = (R.num d : ℝ) := by
  rw [val_main_v83_apply, val_main_v79_apply, val_main_v75_apply, val_main_v78_apply, val_main_v82_apply, val_main_v74_apply,
    val_main_v73_apply, val_main_v77_apply, val_main_v76_apply, val_main_v81_apply, val_main_v80_apply]
  exact add_real (add_real (mul_real (moved (val_main_v68 (F := Ideal) x5) H.v68 (fun | 0 => rfl | 1 => rfl)) (H.o0 d))
    (mul_real (moved (val_main_v69 (F := Ideal) x7) H.v69 (fun | 0 => rfl | 1 => rfl)) (H.o1 d)))
    (mul_real (moved (val_main_v70 (F := Ideal) x0 x1) H.v70 (fun | 0 => rfl | 1 => rfl)) (H.v63 d))

theorem v84 (u : Fin 1) : (val_main_v84 (F := Ideal) x0 x1 x5 x7 (ix3 (row n i j) h u) : EReal) = (R.den : ℝ) := by
  rw [val_main_v84_apply]; exact moved (val_main_v72 (F := Ideal) x0 x1 x5 x7) H.v72 (fun | 0 => rfl | 1 => rfl)

theorem v86 (d : Fin 128) : (val_main_v86 (F := Ideal) x0 x1 x2 x4 x5 x6 x7 (ix3 (row n i j) h d) : EReal) = (R.num d / R.den : ℝ) := by
  rw [val_main_v86_apply, val_main_v85_apply]
  exact div_real (H.v83 d) (moved (val_main_v84 (F := Ideal) x0 x1 x5 x7) (H.v84 0) (fun | 0 => rfl | 1 => rfl | 2 => rfl)) R.den_pos.ne'

theorem v98 (d : Fin 128) : (val_main_v98 (F := Ideal) x0 x1 x3 x5 x7 (ix3 (row n i j) h d) : EReal) = (R.g d / R.den : ℝ) := by
  rw [val_main_v98_apply, val_main_v97_apply]
  exact div_real (H.g d) (moved (val_main_v84 (F := Ideal) x0 x1 x5 x7) (H.v84 0) (fun | 0 => rfl | 1 => rfl | 2 => rfl)) R.den_pos.ne'

theorem v89 : (val_main_v89 (F := Ideal) x0 x1 x5 x7 (ix3 (row n i j) h 0) : EReal) = (1 / (R.den * R.den) : ℝ) := by
  rw [val_main_v89_apply, val_main_v88_apply, val_main_v87_apply]
  exact div_real one_word (mul_real (H.v84 0) (H.v84 0)) (mul_pos R.den_pos R.den_pos).ne'

theorem v93 (d : Fin 128) : (val_main_v93 (F := Ideal) x0 x1 x2 x3 x4 x5 x6 x7 (ix3 (row n i j) h d) : EReal)
    = (R.g d * (1 / (R.den * R.den)) * R.num d : ℝ) := by
  rw [val_main_v93_apply, val_main_v92_apply, val_main_v91_apply]
  exact mul_real (mul_real (H.g d) (moved (val_main_v89 (F := Ideal) x0 x1 x5 x7) H.v89 (fun | 0 => rfl | 1 => rfl | 2 => rfl))) (H.v83 d)

theorem v94 : (val_main_v94 (F := Ideal) x0 x1 x2 x3 x4 x5 x6 x7 (ix2 (row n i j) h) : EReal)
    = ((∑ d, R.g d * (1 / (R.den * R.den)) * R.num d : ℝ)) := by
  rw [val_main_v94_apply]
  exact sum_real Ideal.ofBits_zero_f32 fun d => moved (val_main_v93 (F := Ideal) x0 x1 x2 x3 x4 x5 x6 x7) (H.v93 d) (fun | 0 => rfl | 1 => rfl | 2 => rfl)

theorem v103 : (val_main_v103 (F := Ideal) x0 x1 x2 x3 x5 x7 (ix2 (row n i j) h) : EReal)
    = ((∑ d, R.g d / R.den * R.o2 d : ℝ)) := by
  rw [val_main_v103_apply]
  refine sum_real Ideal.ofBits_zero_f32 fun d => moved (val_main_v102 (F := Ideal) x0 x1 x2 x3 x5 x7) (i' := ix3 (row n i j) h d) ?_ (fun | 0 => rfl | 1 => rfl | 2 => rfl)
  rw [val_main_v102_apply]
  exact mul_real (H.v98 d) (H.v63 d)

theorem v106 : (val_main_v106 (F := Ideal) x0 x1 x2 x3 x4 x5 x6 x7 (ix2 (row n i j) h) : EReal) = (R.weight : ℝ) := by
  have hr := (row n i j).isLt
  have hidx : ∀ u : Fin 1, ∀ a, ((idx_main_v95 (ix3 (row n i j) h u)) a).val = ((ix2 (row n i j) h : S8192x8.Idx) a).val := fun u a => by
    have hu := u.isLt
    match a with
    | 0 => show (((row n i j).val * 8 + h.val) * 1 + u.val) / 8 = (row n i j).val; omega
    | 1 => show (((row n i j).val * 8 + h.val) * 1 + u.val) % 8 = h.val; omega
  rw [val_main_v106_apply, val_main_v99_apply, val_main_v105_apply]
  refine (add_real (r := ∑ u : Fin 1, -∑ d, R.g d * (1 / (R.den * R.den)) * R.num d) (s := ∑ u : Fin 1, ∑ d, R.g d / R.den * R.o2 d)
    (sum_real Ideal.ofBits_zero_f32 fun u => moved (val_main_v96 (F := Ideal) x0 x1 x2 x3 x4 x5 x6 x7) (i' := ix3 (row n i j) h u) ?_ (fun | 0 => rfl | 1 => rfl | 2 => rfl))
    (sum_real Ideal.ofBits_zero_f32 fun u => moved (val_main_v104 (F := Ideal) x0 x1 x2 x3 x5 x7) (i' := ix3 (row n i j) h u) ?_ (fun | 0 => rfl | 1 => rfl | 2 => rfl))).trans ?_
  · rw [val_main_v96_apply, val_main_v95_apply]
    exact neg_real (moved (val_main_v94 (F := Ideal) x0 x1 x2 x3 x4 x5 x6 x7) H.v94 (hidx u))
  · rw [val_main_v104_apply]
    exact moved (val_main_v103 (F := Ideal) x0 x1 x2 x3 x5 x7) H.v103 (hidx u)
  · simp only [Finset.univ_unique, Finset.sum_singleton]; rfl

theorem v109 : (val_main_v109 (F := Ideal) x0 x1 x2 x3 x4 x5 x6 x7 (ix4 n j h i) : EReal)
    = (R.weight * Real.exp (Real.log R.S) : ℝ) := by
  rw [val_main_v109_apply, val_main_v108_apply]
  refine moved (val_main_v107 (F := Ideal) x0 x1 x2 x3 x4 x5 x6 x7) (i' := ix2 (row n i j) h) ?_ fun a => ?_
  · rw [val_main_v107_apply]
    exact mul_real H.v106 H.v70
  · have hr := row_val n i j
    match a with
    | 0 => show (((n.val * 128 + i.val) * 16 + j.val) * 8 + h.val) / 8 = (row n i j).val; omega
    | 1 => show (((n.val * 128 + i.val) * 16 + j.val) * 8 + h.val) % 8 = h.val; omega

theorem v111 (d : Fin 128) : (val_main_v111 (F := Ideal) x0 x1 x3 x5 x7 (ix5 n j h d i) : EReal)
    = (Real.exp (Real.log R.S) * (R.g d / R.den) : ℝ) := by
  rw [val_main_v111_apply, val_main_v110_apply]
  refine moved (val_main_v101 (F := Ideal) x0 x1 x3 x5 x7) (i' := ix3 (row n i j) h d) ?_ fun a => ?_
  · rw [val_main_v101_apply, val_main_v100_apply, val_main_v80_apply]
    exact mul_real (moved (val_main_v70 (F := Ideal) x0 x1) H.v70 (fun | 0 => rfl | 1 => rfl)) (H.v98 d)
  · have hr := row_val n i j
    match a with
    | 0 => show ((((n.val * 128 + i.val) * 16 + j.val) * 8 + h.val) * 128 + d.val) / 1024 = (row n i j).val; omega
    | 1 => show ((((n.val * 128 + i.val) * 16 + j.val) * 8 + h.val) * 128 + d.val) / 128 % 8 = h.val; omega
    | 2 => show ((((n.val * 128 + i.val) * 16 + j.val) * 8 + h.val) * 128 + d.val) % 128 = d.val; omega

theorem v113 (k : Fin 256) : (val_main_v113 (F := Ideal) x0 x1 x2 x3 x5 x7 (ix5 n j h i k) : EReal) = (R.viaOut k : ℝ) := by
  rw [val_main_v113_apply, val_main_v112_apply]
  exact mul_real (dot_real (fun d => moved (val_main_v111 (F := Ideal) x0 x1 x3 x5 x7) (H.v111 d) (fun | 0 => rfl | 1 => rfl | 2 => rfl | 3 => rfl | 4 => rfl))
    fun d => moved (val_main_v18 (F := Ideal) x2) (H.v k d) (fun | 0 => rfl | 1 => rfl | 2 => rfl | 3 => rfl | 4 => rfl)) (H.v60 k)

theorem v115 : (val_main_v115 (F := Ideal) x0 x1 x2 x3 x5 x7 (ix4 n j h i) : EReal) = ((∑ k, -R.viaOut k : ℝ)) := by
  rw [val_main_v115_apply]
  refine sum_real Ideal.ofBits_zero_f32 fun k => moved (val_main_v114 (F := Ideal) x0 x1 x2 x3 x5 x7) (i' := ix5 n j h i k) ?_ (fun | 0 => rfl | 1 => rfl | 2 => rfl | 3 => rfl | 4 => rfl)
  rw [val_main_v114_apply]
  exact neg_real (H.v113 k)

theorem v118 : (val_main_v118 (F := Ideal) x0 x1 x2 x3 x4 x5 x6 x7 (ix4 n j h i) : EReal) = (R.viaSum : ℝ) := by
  rw [val_main_v118_apply, val_main_v117_apply]
  refine (add_real (s := ∑ u : Fin 1, ∑ k, -R.viaOut k) H.v109 (sum_real Ideal.ofBits_zero_f32 fun u => ?_)).trans ?_
  · rw [val_main_v116_apply]
    refine moved (val_main_v115 (F := Ideal) x0 x1 x2 x3 x5 x7) H.v115 fun a => ?_
    have hu := u.isLt
    match a with
    | 0 => show ((((n.val * 16 + j.val) * 8 + h.val) * 128 + i.val) * 1 + u.val) / 16384 = n.val; omega
    | 1 => show ((((n.val * 16 + j.val) * 8 + h.val) * 128 + i.val) * 1 + u.val) / 1024 % 16 = j.val; omega
    | 2 => show ((((n.val * 16 + j.val) * 8 + h.val) * 128 + i.val) * 1 + u.val) / 128 % 8 = h.val; omega
    | 3 => show ((((n.val * 16 + j.val) * 8 + h.val) * 128 + i.val) * 1 + u.val) % 128 = i.val; omega
  · simp only [Finset.univ_unique, Finset.sum_singleton]; rfl

/-- The masked score's gradient is the row's. -/
theorem v122 (k : Fin 256) : (val_main_v122 (F := Ideal) x0 x1 x2 x3 x4 x5 x6 x7 (ix5 n j h i k) : EReal) = (R.grad k : ℝ) := by
  rw [val_main_v122_apply, val_main_v121_apply, val_main_v120_apply]
  refine add_real (H.v113 k) (mul_real (moved (val_main_v119 (F := Ideal) x0 x1 x2 x3 x4 x5 x6 x7) (i' := ix4 n j h i) ?_ (fun | 0 => rfl | 1 => rfl | 2 => rfl | 3 => rfl)) (H.v54 k))
  rw [val_main_v119_apply]
  exact div_real H.v118 H.v55 R.S_pos.ne'

end At

end Cert.ReferenceIdeal.Hand

end
-- ==== Proof.DqKeys.lean ====
/- The keys a query block looks at, which of them it may see, and the reference's gradient of a query as the sum over the keys it
   sees. -/
module

public import proofs.«01_k».proof.Proof.DqRef
public import Idealize.ShloMosaic.Lib.WordArith
public import Idealize.ShloMosaic.Lib.WordCmp

@[expose] public section

noncomputable section

namespace Cert.ReferenceIdeal.Hand

open Cert.ReferenceIdeal Cert.ReferenceIdeal.Gen Cert.ReferenceIdeal.Read Cert.Dq
open Idealize.ShloMosaic Idealize.ShloMosaic.TcCoe
open Idealize.ShloMosaic.ValueIdx (ix2 ix3 ix4 ix5)
open scoped BigOperators

/-- The key `k` of the block before. -/
def prevKey (k : Fin 128) : Fin 256 := ⟨k.val, by omega⟩
/-- The key `k` of the query's own block. -/
def ownKey (k : Fin 128) : Fin 256 := ⟨128 + k.val, by omega⟩
/-- Column `d` of head `h` in an array of 1024 columns. -/
def col (h : Fin 8) (d : Fin 128) : Fin 1024 := ⟨h.val * 128 + d.val, by omega⟩
/-- The same column among the queries or the keys. -/
def colK (h : Fin 8) (d : Fin 128) : Fin 3072 := ⟨2048 + h.val * 128 + d.val, by omega⟩
/-- The same column among the values. -/
def colV (h : Fin 8) (d : Fin 128) : Fin 6144 := ⟨5120 + h.val * 128 + d.val, by omega⟩

theorem key_cases (P : Fin 256 → Prop) (hp : ∀ k, P (prevKey k)) (ho : ∀ k, P (ownKey k)) (k : Fin 256) : P k := by
  by_cases hk : k.val < 128
  · exact hp ⟨k.val, hk⟩
  · have := ho ⟨k.val - 128, by omega⟩
    rwa [show ownKey ⟨k.val - 128, by omega⟩ = k from Fin.ext (by show 128 + (k.val - 128) = k.val; omega)] at this

/-- A sum over both blocks' keys is the sum over the block before and the sum over the own block. -/
theorem sum_keys (f : Fin 256 → EReal) : ∑ k, f k = ∑ k, f (prevKey k) + ∑ k, f (ownKey k) :=
  Fin.sum_univ_add (a := 128) (b := 128) f

section Keys

variable (x0 x1 : (⟨S8192x3072, .f32⟩ : BufTy).Contents (Elt Ideal)) (x2 : (⟨S8192x6144, .f32⟩ : BufTy).Contents (Elt Ideal))

theorem v6_at (n : Fin 4) (i : Fin 128) (j : Fin 16) (h : Fin 8) (d : Fin 128) :
    val_main_v6 (F := Ideal) x0 (ix5 n i j h d) = x0 (ix2 (row n i j) (colK h d)) := by
  rw [val_main_v6_apply, val_main_v1_apply, val_main_v0_apply]
  refine moved x0 rfl fun | 0 => ?_ | 1 => ?_
  · show (((((((n.val * 128 + i.val) * 16 + j.val) * 8 + h.val) * 128 + d.val) / 1024) * 8 + ((((n.val * 128 + i.val) * 16 + j.val) * 8 + h.val) * 128 + d.val) / 128 % 8) * 128 + ((((n.val * 128 + i.val) * 16 + j.val) * 8 + h.val) * 128 + d.val) % 128) / 1024
      = n.val * 2048 + i.val * 16 + j.val
    omega
  · show 2048 + (((((((n.val * 128 + i.val) * 16 + j.val) * 8 + h.val) * 128 + d.val) / 1024) * 8 + ((((n.val * 128 + i.val) * 16 + j.val) * 8 + h.val) * 128 + d.val) / 128 % 8) * 128 + ((((n.val * 128 + i.val) * 16 + j.val) * 8 + h.val) * 128 + d.val) % 128) % 1024
      = 2048 + h.val * 128 + d.val
    omega

theorem v7_at (n : Fin 4) (i : Fin 128) (j : Fin 16) (h : Fin 8) (d : Fin 128) :
    val_main_v7 (F := Ideal) x1 (ix5 n i j h d) = x1 (ix2 (row n i j) (colK h d)) := by
  rw [val_main_v7_apply, val_main_v3_apply, val_main_v2_apply]
  refine moved x1 rfl fun | 0 => ?_ | 1 => ?_
  · show (((((((n.val * 128 + i.val) * 16 + j.val) * 8 + h.val) * 128 + d.val) / 1024) * 8 + ((((n.val * 128 + i.val) * 16 + j.val) * 8 + h.val) * 128 + d.val) / 128 % 8) * 128 + ((((n.val * 128 + i.val) * 16 + j.val) * 8 + h.val) * 128 + d.val) % 128) / 1024
      = n.val * 2048 + i.val * 16 + j.val
    omega
  · show 2048 + (((((((n.val * 128 + i.val) * 16 + j.val) * 8 + h.val) * 128 + d.val) / 1024) * 8 + ((((n.val * 128 + i.val) * 16 + j.val) * 8 + h.val) * 128 + d.val) / 128 % 8) * 128 + ((((n.val * 128 + i.val) * 16 + j.val) * 8 + h.val) * 128 + d.val) % 128) % 1024
      = 2048 + h.val * 128 + d.val
    omega

theorem v8_at (n : Fin 4) (i : Fin 128) (j : Fin 16) (h : Fin 8) (d : Fin 128) :
    val_main_v8 (F := Ideal) x2 (ix5 n i j h d) = x2 (ix2 (row n i j) (colV h d)) := by
  rw [val_main_v8_apply, val_main_v5_apply, val_main_v4_apply]
  refine moved x2 rfl fun | 0 => ?_ | 1 => ?_
  · show (((((((n.val * 128 + i.val) * 16 + j.val) * 8 + h.val) * 128 + d.val) / 1024) * 8 + ((((n.val * 128 + i.val) * 16 + j.val) * 8 + h.val) * 128 + d.val) / 128 % 8) * 128 + ((((n.val * 128 + i.val) * 16 + j.val) * 8 + h.val) * 128 + d.val) % 128) / 1024
      = n.val * 2048 + i.val * 16 + j.val
    omega
  · show 5120 + (((((((n.val * 128 + i.val) * 16 + j.val) * 8 + h.val) * 128 + d.val) / 1024) * 8 + ((((n.val * 128 + i.val) * 16 + j.val) * 8 + h.val) * 128 + d.val) / 128 % 8) * 128 + ((((n.val * 128 + i.val) * 16 + j.val) * 8 + h.val) * 128 + d.val) % 128) % 1024
      = 5120 + h.val * 128 + d.val
    omega

/-- Two arrays joined along the second axis, at a key of the own block. -/
theorem join_own (y z : (⟨S4x128x16x8x128, .f32⟩ : BufTy).Contents (Elt Ideal)) (n : Fin 4) (k : Fin 128) (j : Fin 16) (h : Fin 8) (d : Fin 128) :
    concatenate S4x256x16x8x128 1 [⟨S4x128x16x8x128, y⟩, ⟨S4x128x16x8x128, z⟩] concatenates_S4x128x16x8x128_S4x128x16x8x128_S4x256x16x8x128_d1
      (ix5 n (ownKey k) j h d) = z (ix5 n k j h d) :=
  concatenate_pair_apply_right (t := S4x256x16x8x128) (s₁ := S4x128x16x8x128) (s₂ := S4x128x16x8x128) 1 y z concatenates_S4x128x16x8x128_S4x128x16x8x128_S4x256x16x8x128_d1
    (ix5 n (ownKey k) j h d) rfl rfl (ix5 n k j h d) (fun | 0 => fun _ => rfl | 1 => fun hne => absurd rfl hne | 2 => fun _ => rfl | 3 => fun _ => rfl | 4 => fun _ => rfl)
    (Nat.add_comm _ _)

/-- The same at a key of the block before. -/
theorem join_prev (y z : (⟨S4x128x16x8x128, .f32⟩ : BufTy).Contents (Elt Ideal)) (n : Fin 4) (k : Fin 128) (j : Fin 16) (h : Fin 8) (d : Fin 128) :
    concatenate S4x256x16x8x128 1 [⟨S4x128x16x8x128, y⟩, ⟨S4x128x16x8x128, z⟩] concatenates_S4x128x16x8x128_S4x128x16x8x128_S4x256x16x8x128_d1
      (ix5 n (prevKey k) j h d) = y (ix5 n k j h d) :=
  concatenate_pair_apply_left (t := S4x256x16x8x128) (s₁ := S4x128x16x8x128) (s₂ := S4x128x16x8x128) 1 y z concatenates_S4x128x16x8x128_S4x128x16x8x128_S4x256x16x8x128_d1
    (ix5 n (prevKey k) j h d) rfl (ix5 n k j h d) (fun | 0 => rfl | 1 => rfl | 2 => rfl | 3 => rfl | 4 => rfl)

/-- One block before three, at the first. -/
theorem shift_first (y : (⟨S1x128x16x8x128, .f32⟩ : BufTy).Contents (Elt Ideal)) (z : (⟨S3x128x16x8x128, .f32⟩ : BufTy).Contents (Elt Ideal))
    (k : Fin 128) (j : Fin 16) (h : Fin 8) (d : Fin 128) :
    concatenate S4x128x16x8x128 0 [⟨S1x128x16x8x128, y⟩, ⟨S3x128x16x8x128, z⟩] concatenates_S1x128x16x8x128_S3x128x16x8x128_S4x128x16x8x128_d0
      (ix5 0 k j h d) = y (ix5 0 k j h d) :=
  concatenate_pair_apply_left (t := S4x128x16x8x128) (s₁ := S1x128x16x8x128) (s₂ := S3x128x16x8x128) 0 y z concatenates_S1x128x16x8x128_S3x128x16x8x128_S4x128x16x8x128_d0
    (ix5 0 k j h d) rfl (ix5 0 k j h d) (fun | 0 => rfl | 1 => rfl | 2 => rfl | 3 => rfl | 4 => rfl)

/-- One block before three, at a later one. -/
theorem shift_later (y : (⟨S1x128x16x8x128, .f32⟩ : BufTy).Contents (Elt Ideal)) (z : (⟨S3x128x16x8x128, .f32⟩ : BufTy).Contents (Elt Ideal))
    (n : Fin 3) (k : Fin 128) (j : Fin 16) (h : Fin 8) (d : Fin 128) :
    concatenate S4x128x16x8x128 0 [⟨S1x128x16x8x128, y⟩, ⟨S3x128x16x8x128, z⟩] concatenates_S1x128x16x8x128_S3x128x16x8x128_S4x128x16x8x128_d0
      (ix5 n.succ k j h d) = z (ix5 n k j h d) :=
  concatenate_pair_apply_right (t := S4x128x16x8x128) (s₁ := S1x128x16x8x128) (s₂ := S3x128x16x8x128) 0 y z concatenates_S1x128x16x8x128_S3x128x16x8x128_S4x128x16x8x128_d0
    (ix5 n.succ k j h d) rfl rfl (ix5 n k j h d) (fun | 0 => fun hne => absurd rfl hne | 1 => fun _ => rfl | 2 => fun _ => rfl | 3 => fun _ => rfl | 4 => fun _ => rfl)
    rfl

theorem v13_own (n : Fin 4) (k : Fin 128) (j : Fin 16) (h : Fin 8) (d : Fin 128) :
    val_main_v13 (F := Ideal) x1 (ix5 n (ownKey k) j h d) = x1 (ix2 (row n k j) (colK h d)) :=
  (join_own _ _ n k j h d).trans (v7_at x1 n k j h d)

theorem v13_later (n : Fin 3) (k : Fin 128) (j : Fin 16) (h : Fin 8) (d : Fin 128) :
    val_main_v13 (F := Ideal) x1 (ix5 n.succ (prevKey k) j h d) = x1 (ix2 (row n.castSucc k j) (colK h d)) := by
  refine ((join_prev _ _ n.succ k j h d).trans (shift_later _ _ n k j h d)).trans ?_
  rw [val_main_v11_apply]
  exact moved (val_main_v7 (F := Ideal) x1) (v7_at x1 n.castSucc k j h d) (fun | 0 => rfl | 1 => rfl | 2 => rfl | 3 => rfl | 4 => rfl)

theorem v13_first (k : Fin 128) (j : Fin 16) (h : Fin 8) (d : Fin 128) :
    val_main_v13 (F := Ideal) x1 (ix5 0 (prevKey k) j h d) = (0 : EReal) := by
  refine ((join_prev _ _ 0 k j h d).trans (shift_first _ _ k j h d)).trans ?_
  rw [val_main_v10_apply, val_main_cst_apply]
  exact Ideal.ofBits_zero_f32

theorem v18_own (n : Fin 4) (k : Fin 128) (j : Fin 16) (h : Fin 8) (d : Fin 128) :
    val_main_v18 (F := Ideal) x2 (ix5 n (ownKey k) j h d) = x2 (ix2 (row n k j) (colV h d)) :=
  (join_own _ _ n k j h d).trans (v8_at x2 n k j h d)

theorem v18_later (n : Fin 3) (k : Fin 128) (j : Fin 16) (h : Fin 8) (d : Fin 128) :
    val_main_v18 (F := Ideal) x2 (ix5 n.succ (prevKey k) j h d) = x2 (ix2 (row n.castSucc k j) (colV h d)) := by
  refine ((join_prev _ _ n.succ k j h d).trans (shift_later _ _ n k j h d)).trans ?_
  rw [val_main_v16_apply]
  exact moved (val_main_v8 (F := Ideal) x2) (v8_at x2 n.castSucc k j h d) (fun | 0 => rfl | 1 => rfl | 2 => rfl | 3 => rfl | 4 => rfl)

theorem v18_first (k : Fin 128) (j : Fin 16) (h : Fin 8) (d : Fin 128) :
    val_main_v18 (F := Ideal) x2 (ix5 0 (prevKey k) j h d) = (0 : EReal) := by
  refine ((join_prev _ _ 0 k j h d).trans (shift_first _ _ k j h d)).trans ?_
  rw [val_main_v15_apply, val_main_cst_0_apply]
  exact Ideal.ofBits_zero_f32

end Keys

/-! ## Which keys a query sees -/

/-- Query `i` of block `n` sees key `k`: at most one block back, not ahead, and not before the first block. -/
def sees (n : Fin 4) (i : Fin 128) (k : Fin 256) : Prop := (k.val ≤ i.val + 128 ∧ i.val ≤ k.val) ∧ 128 ≤ n.val * 128 + k.val

instance (n : Fin 4) (i : Fin 128) (k : Fin 256) : Decidable (sees n i k) := by unfold sees; infer_instance

theorem word_toInt (x : ℕ) (hx : x < 2 ^ 31) : (BitVec.ofNat 32 x).toInt = (x : ℤ) := by
  rw [BitVec.toInt_eq_toNat_of_lt] <;> simp only [BitVec.toNat_ofNat] <;> omega

theorem andi_one (a b : BitVec 1) : IntOp.andi a b = 1#1 ↔ a = 1#1 ∧ b = 1#1 := by
  revert a b; decide

theorem mask_words (n : Fin 4) (i : Fin 128) (k : Fin 256) :
    IntOp.andi (IntOp.andi (IntOp.cmpi .sge (IntOp.subi (IntOp.addi (BitVec.ofNat 32 i.val) 128#32) (BitVec.ofNat 32 k.val)) 0#32)
        (IntOp.cmpi .sle (IntOp.subi (IntOp.addi (BitVec.ofNat 32 i.val) 128#32) (BitVec.ofNat 32 k.val)) 128#32))
      (IntOp.cmpi .sge (IntOp.subi (IntOp.addi (IntOp.muli (BitVec.ofNat 32 n.val) 128#32) (BitVec.ofNat 32 k.val)) 128#32) 0#32) = 1#1 ↔ sees n i k := by
  have e1 : IntOp.addi (BitVec.ofNat 32 i.val) 128#32 = BitVec.ofNat 32 (i.val + 128) := by
    show BitVec.ofNat 32 i.val + 128#32 = _; rw [BitVec.ofNat_add]
  have e2 : IntOp.addi (IntOp.muli (BitVec.ofNat 32 n.val) 128#32) (BitVec.ofNat 32 k.val) = BitVec.ofNat 32 (n.val * 128 + k.val) := by
    show BitVec.ofNat 32 n.val * 128#32 + BitVec.ofNat 32 k.val = _; rw [BitVec.ofNat_add, BitVec.ofNat_mul]
  have t1 := word_toInt (i.val + 128) (by omega)
  have t2 := word_toInt k.val (by omega)
  have t3 := word_toInt (n.val * 128 + k.val) (by omega)
  have t4 := word_toInt 128 (by omega)
  have t0 := word_toInt 0 (by omega)
  have d1 := WordArith.toInt_subi_of_nonneg (BitVec.ofNat 32 (i.val + 128)) (BitVec.ofNat 32 k.val) (by omega) (by omega)
  have d2 := WordArith.toInt_subi_of_nonneg (BitVec.ofNat 32 (n.val * 128 + k.val)) (BitVec.ofNat 32 128) (by omega) (by omega)
  rw [e1, e2, andi_one, andi_one, WordCmp.cmpi_sge_eq, WordCmp.cmpi_sle_eq, WordCmp.cmpi_sge_eq, WordCmp.ofBool_eq_one_iff, WordCmp.ofBool_eq_one_iff, WordCmp.ofBool_eq_one_iff,
    decide_eq_true_iff, decide_eq_true_iff, decide_eq_true_iff]
  unfold sees
  omega

theorem mask_iff (n : Fin 4) (j : Fin 16) (h : Fin 8) (i : Fin 128) (k : Fin 256) :
    val_main_v53_1 (F := Ideal) (ix5 n j h i k) = 1#1 ↔ sees n i k := by
  rw [← mask_words n i k, val_main_v53_1_apply, val_main_v52_apply, val_main_v51_apply, val_main_v50_apply, val_main_v49_apply, val_main_v46_apply,
    val_main_v35_apply, val_main_v32_apply, val_main_v34_apply, val_main_v30_apply, val_main_v28_apply, val_main_v29_apply, val_main_v27_apply,
    val_main_v23_apply, val_main_v22_apply, val_main_v26_apply, val_main_v25_apply, val_main_v24_apply, val_main_v31_apply, val_main_v33_apply,
    val_main_v48_apply, val_main_v45_apply, val_main_v43_apply, val_main_v41_apply, val_main_v39_apply, val_main_v37_apply, val_main_v36_apply,
    val_main_v38_apply, val_main_v42_apply, val_main_v40_apply, val_main_v44_apply, val_main_v47_apply]
  exact Iff.rfl

/-! ## Real arguments -/

/-- An array of real numbers. -/
def Reals {s : Shape} (x : s.Idx → EReal) : Prop := ∀ i, ∃ r : ℝ, x i = (r : EReal)

theorem scale_real : ∃ r : ℝ, Ideal.ofBits .f32 0x3DB504F3#32 = (r : EReal) :=
  ⟨_, by simp [Ideal.ofBits, Ideal.ieee]; rfl⟩

theorem floor_real : ∃ r : ℝ, Ideal.ofBits .f32 0xF149F2CA#32 = (r : EReal) :=
  ⟨_, by simp [Ideal.ofBits, Ideal.ieee]; rfl⟩

section Rows

variable {x0 x1 : (⟨S8192x3072, .f32⟩ : BufTy).Contents (Elt Ideal)} {x2 : (⟨S8192x6144, .f32⟩ : BufTy).Contents (Elt Ideal)}
  {x3 x4 : (⟨S8192x1024, .f32⟩ : BufTy).Contents (Elt Ideal)} {x5 : (⟨S8192x8, .f32⟩ : BufTy).Contents (Elt Ideal)}
  {x6 : (⟨S8192x1024, .f32⟩ : BufTy).Contents (Elt Ideal)} {x7 : (⟨S8192x8, .f32⟩ : BufTy).Contents (Elt Ideal)}

theorem keys_real (h1 : Reals x1) (n : Fin 4) (j : Fin 16) (h : Fin 8) (d : Fin 128) (k : Fin 256) :
    ∃ r : ℝ, val_main_v13 (F := Ideal) x1 (ix5 n k j h d) = (r : EReal) := by
  refine key_cases (fun k => ∃ r : ℝ, val_main_v13 (F := Ideal) x1 (ix5 n k j h d) = (r : EReal)) (fun k => ?_) (fun k => ?_) k
  · refine Fin.cases (motive := fun n => ∃ r : ℝ, val_main_v13 (F := Ideal) x1 (ix5 n (prevKey k) j h d) = (r : EReal)) ?_ (fun n => ?_) n
    · exact ⟨0, v13_first x1 k j h d⟩
    · obtain ⟨r, e⟩ := h1 (ix2 (row n.castSucc k j) (colK h d)); exact ⟨r, (v13_later x1 n k j h d).trans e⟩
  · obtain ⟨r, e⟩ := h1 (ix2 (row n k j) (colK h d)); exact ⟨r, (v13_own x1 n k j h d).trans e⟩

theorem values_real (h2 : Reals x2) (n : Fin 4) (j : Fin 16) (h : Fin 8) (d : Fin 128) (k : Fin 256) :
    ∃ r : ℝ, val_main_v18 (F := Ideal) x2 (ix5 n k j h d) = (r : EReal) := by
  refine key_cases (fun k => ∃ r : ℝ, val_main_v18 (F := Ideal) x2 (ix5 n k j h d) = (r : EReal)) (fun k => ?_) (fun k => ?_) k
  · refine Fin.cases (motive := fun n => ∃ r : ℝ, val_main_v18 (F := Ideal) x2 (ix5 n (prevKey k) j h d) = (r : EReal)) ?_ (fun n => ?_) n
    · exact ⟨0, v18_first x2 k j h d⟩
    · obtain ⟨r, e⟩ := h2 (ix2 (row n.castSucc k j) (colV h d)); exact ⟨r, (v18_later x2 n k j h d).trans e⟩
  · obtain ⟨r, e⟩ := h2 (ix2 (row n k j) (colV h d)); exact ⟨r, (v18_own x2 n k j h d).trans e⟩

theorem v19_at (n : Fin 4) (j : Fin 16) (h : Fin 8) (i : Fin 128) (k : Fin 256) :
    val_main_v19 (F := Ideal) x0 x1 (ix5 n j h i k)
      = ∑ d : Fin 128, x0 (ix2 (row n i j) (colK h d)) * val_main_v13 (F := Ideal) x1 (ix5 n k j h d) := by
  rw [val_main_v19_apply]
  refine Finset.sum_congr rfl fun d _ => congrArg₂ _ ?_ ?_
  · exact moved (val_main_v6 (F := Ideal) x0) (v6_at x0 n i j h d) (fun | 0 => rfl | 1 => rfl | 2 => rfl | 3 => rfl | 4 => rfl)
  · exact moved (val_main_v13 (F := Ideal) x1) rfl (fun | 0 => rfl | 1 => rfl | 2 => rfl | 3 => rfl | 4 => rfl)

/-- The score of a key the query sees. -/
theorem score_seen (n : Fin 4) (j : Fin 16) (h : Fin 8) (i : Fin 128) (k : Fin 256) (hk : sees n i k) :
    val_main_v53_0 (F := Ideal) x0 x1 (ix5 n j h i k)
      = (∑ d : Fin 128, x0 (ix2 (row n i j) (colK h d)) * val_main_v13 (F := Ideal) x1 (ix5 n k j h d)) * Ideal.ofBits .f32 0x3DB504F3#32 := by
  rw [val_main_v53_0_apply, (mask_iff n j h i k).2 hk, val_main_v21_apply, v19_at, val_main_v20_apply, val_main_cst_1_apply]
  exact if_pos rfl

theorem scores_real (h0 : Reals x0) (h1 : Reals x1) (n : Fin 4) (j : Fin 16) (h : Fin 8) (i : Fin 128) (k : Fin 256) :
    ∃ r : ℝ, val_main_v53_0 (F := Ideal) x0 x1 (ix5 n j h i k) = (r : EReal) := by
  by_cases hk : sees n i k
  · rw [score_seen n j h i k hk]
    choose a ha using fun d => h0 (ix2 (row n i j) (colK h d))
    choose b hb using fun d => keys_real h1 n j h d k
    obtain ⟨c, hc⟩ := scale_real
    exact ⟨_, mul_real (φ := .f32) (dot_real ha hb) hc⟩
  · obtain ⟨c, hc⟩ := floor_real
    refine ⟨c, ?_⟩
    rw [val_main_v53_0_apply, val_main_call0_v2_apply, val_main_call0_v0_apply, val_main_cst_7_apply]
    exact (if_neg fun e => hk ((mask_iff n j h i k).1 e)).trans hc

/-- Real arguments give every query row its numbers. -/
theorem exists_row (h0 : Reals x0) (h1 : Reals x1) (h2 : Reals x2) (h3 : Reals x3) (h4 : Reals x4) (h5 : Reals x5) (h6 : Reals x6)
    (h7 : Reals x7) (n : Fin 4) (j : Fin 16) (h : Fin 8) (i : Fin 128) : ∃ R : Row, At x0 x1 x2 x3 x4 x5 x6 x7 n j h i R := by
  choose s hs using fun k => scores_real h0 h1 n j h i k
  choose v hv using fun k d => values_real h2 n j h d k
  obtain ⟨l0, hl0⟩ := h5 (ix2 (row n i j) h)
  obtain ⟨l1, hl1⟩ := h7 (ix2 (row n i j) h)
  choose o0 ho0 using fun d => h4 (idx_main_v66 (ix3 (row n i j) h d))
  choose o1 ho1 using fun d => h6 (idx_main_v67 (ix3 (row n i j) h d))
  choose g hg using fun d => h3 (idx_main_v90 (ix3 (row n i j) h d))
  refine ⟨⟨s, v, l0, l1, o0, o1, g⟩, hs, hv, hl0, hl1, fun d => ?_, fun d => ?_, fun d => ?_⟩
  · rw [val_main_v66_apply]; exact ho0 d
  · rw [val_main_v67_apply]; exact ho1 d
  · rw [val_main_v90_apply]; exact hg d

/-- The reference's gradient of a query: the sum, over the keys it sees, of the row's gradient times the scale times the key. -/
theorem At.v129 {n : Fin 4} {j : Fin 16} {h : Fin 8} {i : Fin 128} {R : Row} (H : At x0 x1 x2 x3 x4 x5 x6 x7 n j h i R) (d : Fin 128) :
    val_main_v129 (F := Ideal) x0 x1 x2 x3 x4 x5 x6 x7 (ix2 (row n i j) (col h d))
      = ∑ k : Fin 256, (if sees n i k then (R.grad k : EReal) else 0) * Ideal.ofBits .f32 0x3DB504F3#32 * val_main_v13 (F := Ideal) x1 (ix5 n k j h d) := by
  rw [val_main_v129_apply, val_main_v128_apply, val_main_v127_apply]
  refine moved (val_main_v126 (F := Ideal) x0 x1 x2 x3 x4 x5 x6 x7) (i' := ix5 n j h i d) ?_ ?_
  · rw [val_main_v126_apply]
    refine Finset.sum_congr rfl fun k _ => congrArg₂ _ ?_ ?_
    · refine moved (val_main_v125 (F := Ideal) x0 x1 x2 x3 x4 x5 x6 x7) (i' := ix5 n j h i k) ?_ (fun | 0 => rfl | 1 => rfl | 2 => rfl | 3 => rfl | 4 => rfl)
      rw [val_main_v125_apply, val_main_v124_apply, val_main_cst_16_apply, val_main_v123_apply, H.v122 k, val_main_call1_v0_apply, val_main_call1_cst_apply]
      refine congrArg (· * Ideal.ofBits .f32 0x3DB504F3#32) ?_
      by_cases hk : sees n i k
      · rw [if_pos hk, (mask_iff n j h i k).2 hk]; exact if_pos rfl
      · rw [if_neg hk]; exact (if_neg fun e => hk ((mask_iff n j h i k).1 e)).trans Ideal.ofBits_zero_f32
    · exact moved (val_main_v13 (F := Ideal) x1) rfl (fun | 0 => rfl | 1 => rfl | 2 => rfl | 3 => rfl | 4 => rfl)
  · have hr := row_val n i j
    have hf : ((row n i j).val * 1024 + (h.val * 128 + d.val)) / 1024 * 8 + ((row n i j).val * 1024 + (h.val * 128 + d.val)) / 128 % 8
        = n.val * 16384 + i.val * 128 + j.val * 8 + h.val := by omega
    have hd : ((row n i j).val * 1024 + (h.val * 128 + d.val)) % 128 = d.val := by omega
    intro a
    match a with
    | 0 => show ((((row n i j).val * 1024 + (h.val * 128 + d.val)) / 1024 * 8 + ((row n i j).val * 1024 + (h.val * 128 + d.val)) / 128 % 8) * 128 + ((row n i j).val * 1024 + (h.val * 128 + d.val)) % 128) / 2097152 = n.val
           rw [hf, hd]; omega
    | 1 => show ((((row n i j).val * 1024 + (h.val * 128 + d.val)) / 1024 * 8 + ((row n i j).val * 1024 + (h.val * 128 + d.val)) / 128 % 8) * 128 + ((row n i j).val * 1024 + (h.val * 128 + d.val)) % 128) / 1024 % 16 = j.val
           rw [hf, hd]; omega
    | 2 => show ((((row n i j).val * 1024 + (h.val * 128 + d.val)) / 1024 * 8 + ((row n i j).val * 1024 + (h.val * 128 + d.val)) / 128 % 8) * 128 + ((row n i j).val * 1024 + (h.val * 128 + d.val)) % 128) / 128 % 8 = h.val
           rw [hf, hd]; omega
    | 3 => show ((((row n i j).val * 1024 + (h.val * 128 + d.val)) / 1024 * 8 + ((row n i j).val * 1024 + (h.val * 128 + d.val)) / 128 % 8) * 128 + ((row n i j).val * 1024 + (h.val * 128 + d.val)) % 128) / 16384 % 128 = i.val
           rw [hf, hd]; omega
    | 4 => show ((((row n i j).val * 1024 + (h.val * 128 + d.val)) / 1024 * 8 + ((row n i j).val * 1024 + (h.val * 128 + d.val)) / 128 % 8) * 128 + ((row n i j).val * 1024 + (h.val * 128 + d.val)) % 128) % 128 = d.val
           rw [hf, hd]; omega

end Rows

end Cert.ReferenceIdeal.Hand
-- ==== Proof.DqTile.lean ====
/- One row class of the kernel's block, entry by entry: a sum over the own block's keys and the previous block's. -/
module

public import proofs.«01_k».proof.Proof.DqFrame
public import proofs.«01_k».proof.Proof.DqKeys
public import Idealize.ShloMosaic.Lib.Pointwise

@[expose] public section

noncomputable section

namespace Cert.KernelIdeal.Hand

open Cert.KernelIdeal Cert.KernelIdeal.Gen
open Idealize.ShloMosaic Idealize.ShloMosaic.TcCoe
open scoped BigOperators

/-- One key's share: the exponential of its score under the row's log-denominator, times what its value adds beyond the row's
    output, times the scale; a masked score is minus infinity. -/
def soft (b : BitVec 1) (s l dv δ : EReal) : EReal :=
  Ideal.exp (Scalar.select b (s * Ideal.ofBits .f32 0x3DB504F3#32) ⊥ - l) * (dv - δ) * Ideal.ofBits .f32 0x3DB504F3#32

theorem tile_apply (pm : IVec S128x128 1) (q kc kp vc vp dov l d : Vec Ideal S128x128 .f32) (i e : Fin 128) :
    tile (F := Ideal) pm q kc kp vc vp dov l d (ValueIdx.ix2 i e)
      = (∑ k : Fin 128, soft (k0_pay1 (ValueIdx.ix2 i k)) (∑ a : Fin 128, q (ValueIdx.ix2 i a) * kc (ValueIdx.ix2 k a)) (l (ValueIdx.ix2 i k))
            (∑ a : Fin 128, dov (ValueIdx.ix2 i a) * vc (ValueIdx.ix2 k a)) (d (ValueIdx.ix2 i k)) * kc (ValueIdx.ix2 k e))
        + ∑ k : Fin 128, soft (pm (ValueIdx.ix2 i k)) (∑ a : Fin 128, q (ValueIdx.ix2 i a) * kp (ValueIdx.ix2 k a)) (l (ValueIdx.ix2 i k))
            (∑ a : Fin 128, dov (ValueIdx.ix2 i a) * vp (ValueIdx.ix2 k a)) (d (ValueIdx.ix2 i k)) * kp (ValueIdx.ix2 k e) := by
  simp only [tile, k0_pay11, k0_pay10, k0_pay3, k0_pay4, k0_pay5, k0_pay6, k0_pay7, k0_pay8, k0_pay9, pointwise,
    Ideal.ofBits_zero_f32, zero_add]
  rfl

end Cert.KernelIdeal.Hand

end
-- ==== Proof.DqHost.lean ====
/- The two arrays the host hands the attention query gradient beside its arguments, the log-denominators and the sums of a
   row's gradient with its output, in the reference's own stages. -/
module

public import proofs.«01_k».proof.Proof.Gen.KernelIdeal.Frame
public import proofs.«01_k».proof.Proof.DqRef

@[expose] public section

noncomputable section

namespace Cert.KernelIdeal.Hand

open Cert.KernelIdeal Cert.KernelIdeal.Gen
open Idealize.ShloMosaic Idealize.ShloMosaic.TcCoe Idealize.ShloMosaic.StableHlo
open Cert.ReferenceIdeal.Read

variable (m : (ℓ : Loc nD τ sig) → Buf (Elt Ideal) ℓ)

/-- One number per row and head, spread over the head's columns. -/
def spread (x : (⟨S8192x8, .f32⟩ : BufTy).Contents (Elt Ideal)) : (⟨S8192x1024, .f32⟩ : BufTy).Contents (Elt Ideal) :=
  shapeCast _ (broadcastInDim S8192x8x128 ![0, 1, 2] bcast_S8192x8x1_S8192x8x128_0_1_2
    (broadcastInDim S8192x8x1 ![0, 1] bcast_S8192x8_S8192x8x1_0_1 x : (⟨S8192x8x1, .f32⟩ : BufTy).Contents (Elt Ideal))
    : (⟨S8192x8x128, .f32⟩ : BufTy).Contents (Elt Ideal)) shapeCasts_S8192x8x128_S8192x1024

/-- The sum over a head's columns of a row's gradient with its output. -/
def dotOut (x0 x1 : (⟨S8192x3072, .f32⟩ : BufTy).Contents (Elt Ideal)) (x2 : (⟨S8192x6144, .f32⟩ : BufTy).Contents (Elt Ideal))
    (x3 x4 : (⟨S8192x1024, .f32⟩ : BufTy).Contents (Elt Ideal)) (x5 : (⟨S8192x8, .f32⟩ : BufTy).Contents (Elt Ideal))
    (x6 : (⟨S8192x1024, .f32⟩ : BufTy).Contents (Elt Ideal)) (x7 : (⟨S8192x8, .f32⟩ : BufTy).Contents (Elt Ideal)) :
    (⟨S8192x8, .f32⟩ : BufTy).Contents (Elt Ideal) :=
  Host.reduceAdd (F := Ideal) (mulf (F := Ideal) (val_main_v90 (F := Ideal) x3) (val_main_v86 (F := Ideal) x0 x1 x2 x4 x5 x6 x7)
    : (⟨S8192x8x128, .f32⟩ : BufTy).Contents (Elt Ideal)) (constant (F := Ideal) S_ .f32 0x00000000#32) reducesTo_S8192x8x128_S8192x8_d2 h_S_

set_option maxRecDepth 65536 in
set_option maxHeartbeats 62400000 in
/-- The log-denominators the region reads. -/
theorem V_lse (c : Dev nD) : V m c main_v90
    = spread (Host.log (F := Ideal) (φ := .f32) (val_main_v72 (F := Ideal) (m ((c.tc : Thread nD τ).loc main_arg0)) (m ((c.tc : Thread nD τ).loc main_arg1))
        (m ((c.tc : Thread nD τ).loc main_arg5)) (m ((c.tc : Thread nD τ).loc main_arg7)))) := by
  dsimp only [V]
  simp only [hostOps0, hostOps0_1, hostOps0_2, List.flatten_cons, List.flatten_nil, List.append_nil, List.cons_append,
    List.nil_append, TRef.nullary, TRef.ternary, TRef.unary, TRef.toBuf, TRef.ofBuf, cast_eq]
  after_results_simp <;> rfl

set_option maxRecDepth 65536 in
set_option maxHeartbeats 62400000 in
/-- The sums the region reads. -/
theorem V_delta (c : Dev nD) : V m c main_v96
    = spread (dotOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))) := by
  dsimp only [V]
  simp only [hostOps0, hostOps0_1, hostOps0_2, List.flatten_cons, List.flatten_nil, List.append_nil, List.cons_append,
    List.nil_append, TRef.nullary, TRef.ternary, TRef.unary, TRef.toBuf, TRef.ofBuf, cast_eq]
  after_results_simp <;> rfl

end Cert.KernelIdeal.Hand

end
-- ==== Proof.DqValue.lean ====
/- One entry of the kernel's row class is the reference's gradient there, once its loads are named in the reference's arrays. -/
module

public import proofs.«01_k».proof.Proof.DqTile
public import proofs.«01_k».proof.Proof.DqHost

@[expose] public section

noncomputable section

namespace Cert.KernelIdeal.Hand

open Cert.KernelIdeal Cert.KernelIdeal.Gen
open Idealize.ShloMosaic Idealize.ShloMosaic.TcCoe Idealize.ShloMosaic.StableHlo
open Cert.ReferenceIdeal.Read Cert.ReferenceIdeal.Hand Cert.Dq

open scoped BigOperators

/-- A masked key has no share. -/
theorem soft_unseen {b : BitVec 1} (hb : b ≠ 1#1) (s dv δ : EReal) (r : ℝ) : soft b s (r : EReal) dv δ = 0 := by
  have e : Scalar.select b (s * Ideal.ofBits .f32 0x3DB504F3#32) (⊥ : EReal) = ⊥ := if_neg hb
  rw [soft, e, EReal.bot_sub]
  show (0 : EReal) * _ * _ = 0
  rw [zero_mul, zero_mul]

/-- A key that is seen has the reference's gradient of its score as its share, times the scale. -/
theorem soft_seen (R : Row) {b : BitVec 1} (hb : b = 1#1) {s l dv δ : EReal} (k : Fin 256)
    (hs : s * Ideal.ofBits .f32 0x3DB504F3#32 = (R.s k : EReal)) (hl : l = (Real.log R.den : ℝ))
    (hv : dv = (∑ d, R.g d * R.v k d : ℝ)) (hd : δ = (∑ d, R.g d * (R.num d / R.den) : ℝ)) :
    soft b s l dv δ = (R.grad k : EReal) * Ideal.ofBits .f32 0x3DB504F3#32 := by
  have e : Scalar.select b (s * Ideal.ofBits .f32 0x3DB504F3#32) (⊥ : EReal) = s * Ideal.ofBits .f32 0x3DB504F3#32 := if_pos hb
  rw [soft, e, hs, hl, hv, hd, R.grad_eq k, EReal.coe_mul, EReal.coe_sub, ← EReal.coe_sub]
  rfl

/-- Within the own block a query sees the keys up to its own place. -/
theorem own_mask (n : Fin 4) (i k : Fin 128) : k0_pay1 (ValueIdx.ix2 i k) = 1#1 ↔ sees n i (ownKey k) := by
  have e : k0_pay1 (ValueIdx.ix2 i k) = IntOp.cmpi .sle (BitVec.ofNat 32 k.val) (BitVec.ofNat 32 i.val) := by
    rw [k0_pay1, cmpi_apply, iota_single_apply, iota_single_apply]
  rw [e, WordCmp.cmpi_sle_eq, WordCmp.ofBool_eq_one_iff, decide_eq_true_iff, word_toInt _ (by omega), word_toInt _ (by omega)]
  show _ ↔ (128 + k.val ≤ i.val + 128 ∧ i.val ≤ 128 + k.val) ∧ 128 ≤ n.val * 128 + (128 + k.val)
  omega

/-- Of the block before, a query sees the keys from its own place on, and the first block has none before it. -/
theorem prev_mask (c : grid0.Coords) (n : Fin 4) (hn : (c 1).val = n.val) (i k : Fin 128) :
    k0_pay2 c (ValueIdx.ix2 i k) = 1#1 ↔ sees n i (prevKey k) := by
  have e : k0_pay2 c (ValueIdx.ix2 i k) = IntOp.andi (IntOp.cmpi .sge (BitVec.ofNat 32 k.val) (BitVec.ofNat 32 i.val))
      (IntOp.cmpi .sgt (BitVec.ofNat 32 (c 1).val) 0x00000000#32) := by
    rw [k0_pay2, andi_apply, cmpi_apply, iota_single_apply, iota_single_apply]; rfl
  have z : (0x00000000#32 : BitVec 32).toInt = 0 := by decide
  rw [e, andi_one, WordCmp.cmpi_sge_eq, WordCmp.cmpi_sgt_eq, WordCmp.ofBool_eq_one_iff, WordCmp.ofBool_eq_one_iff, decide_eq_true_iff,
    decide_eq_true_iff, z, word_toInt _ (by omega), word_toInt _ (by omega), word_toInt _ (by omega)]
  show _ ↔ (k.val ≤ i.val + 128 ∧ i.val ≤ k.val) ∧ 128 ≤ n.val * 128 + k.val
  omega

/-- The number of a row and head, at any of the head's columns. -/
theorem spread_apply (x : (⟨S8192x8, .f32⟩ : BufTy).Contents (Elt Ideal)) (r : Fin 8192) (h : Fin 8) (d : Fin 128) :
    (spread x (ValueIdx.ix2 r (col h d)) : EReal) = x (ValueIdx.ix2 r h) := by
  unfold spread
  refine (shapeCast_apply _ _ _ (ValueIdx.ix3 r h d) ?_).trans ?_
  · rw [Shape.rowMajor_val_two, Shape.rowMajor_val_three]
    show (r.val * 8 + h.val) * 128 + d.val = r.val * 1024 + (h.val * 128 + d.val)
    omega
  refine (broadcastInDim_apply _ bcast_S8192x8x1_S8192x8x128_0_1_2 _ _ (ValueIdx.ix3 r h 0) ?_).trans ?_
  · exact fun a => match a with | ⟨0, _⟩ => rfl | ⟨1, _⟩ => rfl | ⟨2, _⟩ => rfl
  exact broadcastInDim_apply _ bcast_S8192x8_S8192x8x1_0_1 _ _ (ValueIdx.ix2 r h)
    (fun a => match a with | ⟨0, _⟩ => rfl | ⟨1, _⟩ => rfl)

variable {x0 x1 : (⟨S8192x3072, .f32⟩ : BufTy).Contents (Elt Ideal)} {x2 : (⟨S8192x6144, .f32⟩ : BufTy).Contents (Elt Ideal)}
  {x3 x4 : (⟨S8192x1024, .f32⟩ : BufTy).Contents (Elt Ideal)} {x5 : (⟨S8192x8, .f32⟩ : BufTy).Contents (Elt Ideal)}
  {x6 : (⟨S8192x1024, .f32⟩ : BufTy).Contents (Elt Ideal)} {x7 : (⟨S8192x8, .f32⟩ : BufTy).Contents (Elt Ideal)}
  {n : Fin 4} {j : Fin 16} {h : Fin 8} {i : Fin 128} {R : Row}

/-- The row's gradient with its output, as the host sums it. -/
theorem dotOut_at (H : At x0 x1 x2 x3 x4 x5 x6 x7 n j h i R) : (dotOut x0 x1 x2 x3 x4 x5 x6 x7 (ValueIdx.ix2 (row n i j) h) : EReal)
    = (∑ d, R.g d * (R.num d / R.den) : ℝ) := by
  have e : (dotOut x0 x1 x2 x3 x4 x5 x6 x7 (ValueIdx.ix2 (row n i j) h) : EReal)
      = Ideal.ofBits .f32 0x00000000#32 + ∑ d : Fin 128, (val_main_v90 (F := Ideal) x3 (ValueIdx.ix3 (row n i j) h d) : EReal)
          * val_main_v86 (F := Ideal) x0 x1 x2 x4 x5 x6 x7 (ValueIdx.ix3 (row n i j) h d) := by
    unfold dotOut
    generalize val_main_v90 (F := Ideal) x3 = y
    generalize val_main_v86 (F := Ideal) x0 x1 x2 x4 x5 x6 x7 = z
    simp only [Host.reduceAdd, Ideal.hostReduceAdd_def]
    rw [Ideal.hostReduceAdd_single reducesTo_S8192x8x128_S8192x8_d2 (by decide)]
    refine congrArg (_ + ·) (Finset.sum_congr rfl fun k _ => ?_)
    exact congrArg (fun q => (y q * z q : EReal)) (funext fun a => Fin.ext (by match a with | ⟨0, _⟩ => rfl | ⟨1, _⟩ => rfl | ⟨2, _⟩ => rfl))
  rw [e]
  exact sum_real Ideal.ofBits_zero_f32 fun d => mul_real (φ := .f32) (H.g d) (H.v86 d)

/-- The row's log-denominator, as the host takes it. -/
theorem lse_at (H : At x0 x1 x2 x3 x4 x5 x6 x7 n j h i R) :
    ((Host.log (F := Ideal) (φ := .f32) (val_main_v72 (F := Ideal) x0 x1 x5 x7)) (ValueIdx.ix2 (row n i j) h) : EReal) = (Real.log R.den : ℝ) :=
  log_real (φ := .f32) H.v72 R.den_pos

/-- One entry of a row class, its loads named: the reference's gradient. -/
theorem tile_grad (H : At x0 x1 x2 x3 x4 x5 x6 x7 n j h i R) (pm : IVec S128x128 1) (q kc kp vc vp dov l d : Vec Ideal S128x128 .f32)
    (hpm : ∀ k, pm (ValueIdx.ix2 i k) = 1#1 ↔ sees n i (prevKey k))
    (hq : ∀ a, (q (ValueIdx.ix2 i a) : EReal) = x0 (ValueIdx.ix2 (row n i j) (colK h a)))
    (hkc : ∀ k a, (kc (ValueIdx.ix2 k a) : EReal) = val_main_v13 (F := Ideal) x1 (ValueIdx.ix5 n (ownKey k) j h a))
    (hvc : ∀ k a, (vc (ValueIdx.ix2 k a) : EReal) = val_main_v18 (F := Ideal) x2 (ValueIdx.ix5 n (ownKey k) j h a))
    (hkp : n ≠ 0 → ∀ k a, (kp (ValueIdx.ix2 k a) : EReal) = val_main_v13 (F := Ideal) x1 (ValueIdx.ix5 n (prevKey k) j h a))
    (hvp : n ≠ 0 → ∀ k a, (vp (ValueIdx.ix2 k a) : EReal) = val_main_v18 (F := Ideal) x2 (ValueIdx.ix5 n (prevKey k) j h a))
    (hdo : ∀ a, (dov (ValueIdx.ix2 i a) : EReal) = (R.g a : ℝ))
    (hl : ∀ k, (l (ValueIdx.ix2 i k) : EReal) = (Real.log R.den : ℝ))
    (hd : ∀ k, (d (ValueIdx.ix2 i k) : EReal) = (∑ a, R.g a * (R.num a / R.den) : ℝ)) (e : Fin 128) :
    (tile (F := Ideal) pm q kc kp vc vp dov l d (ValueIdx.ix2 i e) : EReal)
      = val_main_v129 (F := Ideal) x0 x1 x2 x3 x4 x5 x6 x7 (ValueIdx.ix2 (row n i j) (col h e)) := by
  have share : ∀ (b : BitVec 1) (k : Fin 256) (K V : Fin 128 → EReal) (μ δ : EReal), (b = 1#1 ↔ sees n i k) →
      (sees n i k → ∀ a, K a = val_main_v13 (F := Ideal) x1 (ValueIdx.ix5 n k j h a)) →
      (sees n i k → ∀ a, V a = val_main_v18 (F := Ideal) x2 (ValueIdx.ix5 n k j h a)) →
      μ = (Real.log R.den : ℝ) → δ = (∑ a, R.g a * (R.num a / R.den) : ℝ) →
      soft b (∑ a, (q (ValueIdx.ix2 i a) : EReal) * K a) μ (∑ a, (dov (ValueIdx.ix2 i a) : EReal) * V a) δ * K e
        = (if sees n i k then (R.grad k : EReal) else 0) * Ideal.ofBits .f32 0x3DB504F3#32 * val_main_v13 (F := Ideal) x1 (ValueIdx.ix5 n k j h e) := by
    intro b k K V μ δ hb hK hV hμ hδ
    by_cases hk : sees n i k
    · rw [if_pos hk, hK hk e]
      refine congrArg (· * _) (soft_seen R (hb.mpr hk) k ?_ hμ (dot_real hdo fun a => (hV hk a).trans (H.v k a)) hδ)
      rw [← H.s k, score_seen n j h i k hk]
      exact congrArg (· * _) (Finset.sum_congr rfl fun a _ => congrArg₂ (· * ·) (hq a) (hK hk a))
    · rw [if_neg hk, hμ, soft_unseen (fun hb' => hk (hb.mp hb')), zero_mul, zero_mul, zero_mul]
  have later : ∀ k : Fin 128, sees n i (prevKey k) → n ≠ 0 := fun k hk hn => by
    have h1 : 128 ≤ n.val * 128 + k.val := hk.2
    rw [hn] at h1
    have h2 : (0 : Fin 4).val = 0 := rfl
    omega
  rw [H.v129, sum_keys, tile_apply]
  refine (add_comm _ _).trans (congrArg₂ (fun a b : EReal => a + b) (Finset.sum_congr rfl fun k _ => ?_) (Finset.sum_congr rfl fun k _ => ?_))
  · exact share _ (prevKey k) (fun a => kp (ValueIdx.ix2 k a)) (fun a => vp (ValueIdx.ix2 k a)) _ _ (hpm k)
      (fun hk => hkp (later k hk) k) (fun hk => hvp (later k hk) k) (hl k) (hd k)
  · exact share _ (ownKey k) (fun a => kc (ValueIdx.ix2 k a)) (fun a => vc (ValueIdx.ix2 k a)) _ _ (own_mask n i k)
      (fun _ => hkc k) (fun _ => hvc k) (hl k) (hd k)

end Cert.KernelIdeal.Hand

end
-- ==== Proof.DqFinal.lean ====
/- The attention query gradient: the blocks the kernel's windows are on, and the array it leaves. -/
module

public import proofs.«01_k».proof.Proof.DqValue
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.StableHlo Idealize.SL Idealize.SL.Sem
open Cert.ReferenceIdeal.Read Cert.ReferenceIdeal.Hand Cert.Dq
open scoped BigOperators

/-- The head a grid point works on, and its block of rows. -/
def headOf (t : Fin cfg0.N) : Fin 8 := ⟨t.val / 4, by have h : t.val < 32 := t.isLt; omega⟩
def chunkOf (t : Fin cfg0.N) : Fin 4 := ⟨t.val % 4, Nat.mod_lt _ (by decide)⟩

theorem coords_chunk : ∀ t : Fin cfg0.N, (grid0.coords t 1).val = t.val % 4 :=
  (by decide +kernel : ∀ t : Fin grid0.N, _)

/-- The blocks the windows are on at point `t`. -/
theorem blocks : ∀ t : Fin cfg0.N, win0_0.index t = ![t.val % 4, 16 + t.val / 4] ∧ win0_1.index t = ![t.val % 4, 16 + t.val / 4]
    ∧ win0_2.index t = ![t.val % 4 - 1, 16 + t.val / 4] ∧ win0_3.index t = ![t.val % 4, 40 + t.val / 4]
    ∧ win0_4.index t = ![t.val % 4 - 1, 40 + t.val / 4] ∧ win0_5.index t = ![t.val % 4, t.val / 4]
    ∧ win0_6.index t = ![t.val % 4, t.val / 4] ∧ win0_7.index t = ![t.val % 4, t.val / 4]
    ∧ win0_8.index t = ![t.val % 4, t.val / 4] :=
  (by decide +kernel : ∀ t : Fin grid0.N, _)

/-- Where a block's row of class `j` sits in its array. -/
theorem at_block {C : ℕ} (X : (⟨2, ![8192, C]⟩ : Shape).Idx → EReal) (y : (⟨2, ![8192, C]⟩ : Shape).Idx) (j : Fin 16) (i a : Fin 128)
    {w : Fin 2 → ℕ} {b q : ℕ} (hw : w = ![b, q]) (h0 : (y 0).val = w 0 * 2048 + 1 * (j.val + 16 * i.val))
    (h1 : (y 1).val = w 1 * 128 + 1 * (0 + 1 * a.val)) (r : Fin 8192) (l : Fin C) (hr : r.val = b * 2048 + i.val * 16 + j.val)
    (hl : l.val = q * 128 + a.val) : X y = X (ValueIdx.ix2 r l) := by
  subst hw
  have h0' : (y 0).val = b * 2048 + 1 * (j.val + 16 * i.val) := h0
  have h1' : (y 1).val = q * 128 + 1 * (0 + 1 * a.val) := h1
  refine congrArg X (funext fun x => Fin.ext ?_)
  match x with
  | ⟨0, _⟩ => show (y 0).val = r.val; omega
  | ⟨1, _⟩ => show (y 1).val = l.val; omega

variable (m : (ℓ : Loc nD τ sig) → Buf (Elt Ideal) ℓ) (c : Dev nD) (t : Fin cfg0.N) (j : Fin 16) (i a : Fin 128)

theorem load_q : (pick j (iblk m c 0 t) (ValueIdx.ix2 i a) : EReal)
    = m ((c.tc : Thread nD τ).loc main_arg0) (ValueIdx.ix2 (row (chunkOf t) i j) (colK (headOf t) a)) := by
  rw [← V_main_arg0 m c]
  exact at_block (V m c main_arg0) (((cfg0.win 0).blk t).view.emb ((comb j).idx (ValueIdx.ix2 i a))) j i a (blocks t).1 rfl rfl _ _ rfl
    (by show 2048 + t.val / 4 * 128 + a.val = (16 + t.val / 4) * 128 + a.val; omega)

theorem load_k : (pick j (iblk m c 1 t) (ValueIdx.ix2 i a) : EReal)
    = m ((c.tc : Thread nD τ).loc main_arg1) (ValueIdx.ix2 (row (chunkOf t) i j) (colK (headOf t) a)) := by
  rw [← V_main_arg1 m c]
  exact at_block (V m c main_arg1) (((cfg0.win 1).blk t).view.emb ((comb j).idx (ValueIdx.ix2 i a))) j i a (blocks t).2.1 rfl rfl _ _ rfl
    (by show 2048 + t.val / 4 * 128 + a.val = (16 + t.val / 4) * 128 + a.val; omega)

/-- The keys before: a block that is not the first reads the one before it. -/
theorem load_kp (n : Fin 3) (hn : chunkOf t = n.succ) : (pick j (iblk m c 2 t) (ValueIdx.ix2 i a) : EReal)
    = m ((c.tc : Thread nD τ).loc main_arg1) (ValueIdx.ix2 (row n.castSucc i j) (colK (headOf t) a)) := by
  have hv : t.val % 4 = n.val + 1 := congrArg Fin.val hn
  rw [← V_main_arg1 m c]
  exact at_block (V m c main_arg1) (((cfg0.win 2).blk t).view.emb ((comb j).idx (ValueIdx.ix2 i a))) j i a (blocks t).2.2.1 rfl rfl _ _
    (by show n.val * 2048 + i.val * 16 + j.val = (t.val % 4 - 1) * 2048 + i.val * 16 + j.val; rw [hv]; rfl)
    (by show 2048 + t.val / 4 * 128 + a.val = (16 + t.val / 4) * 128 + a.val; omega)

theorem load_v : (pick j (iblk m c 3 t) (ValueIdx.ix2 i a) : EReal)
    = m ((c.tc : Thread nD τ).loc main_arg2) (ValueIdx.ix2 (row (chunkOf t) i j) (colV (headOf t) a)) := by
  rw [← V_main_arg2 m c]
  exact at_block (V m c main_arg2) (((cfg0.win 3).blk t).view.emb ((comb j).idx (ValueIdx.ix2 i a))) j i a (blocks t).2.2.2.1 rfl rfl _ _ rfl
    (by show 5120 + t.val / 4 * 128 + a.val = (40 + t.val / 4) * 128 + a.val; omega)

theorem load_vp (n : Fin 3) (hn : chunkOf t = n.succ) : (pick j (iblk m c 4 t) (ValueIdx.ix2 i a) : EReal)
    = m ((c.tc : Thread nD τ).loc main_arg2) (ValueIdx.ix2 (row n.castSucc i j) (colV (headOf t) a)) := by
  have hv : t.val % 4 = n.val + 1 := congrArg Fin.val hn
  rw [← V_main_arg2 m c]
  exact at_block (V m c main_arg2) (((cfg0.win 4).blk t).view.emb ((comb j).idx (ValueIdx.ix2 i a))) j i a (blocks t).2.2.2.2.1 rfl rfl _ _
    (by show n.val * 2048 + i.val * 16 + j.val = (t.val % 4 - 1) * 2048 + i.val * 16 + j.val; rw [hv]; rfl)
    (by show 5120 + t.val / 4 * 128 + a.val = (40 + t.val / 4) * 128 + a.val; omega)

theorem load_do : (pick j (iblk m c 5 t) (ValueIdx.ix2 i a) : EReal)
    = m ((c.tc : Thread nD τ).loc main_arg3) (ValueIdx.ix2 (row (chunkOf t) i j) (col (headOf t) a)) := by
  rw [← V_main_arg3 m c]
  exact at_block (V m c main_arg3) (((cfg0.win 5).blk t).view.emb ((comb j).idx (ValueIdx.ix2 i a))) j i a (blocks t).2.2.2.2.2.1 rfl rfl _ _ rfl rfl

theorem load_lse : (pick j (iblk m c 6 t) (ValueIdx.ix2 i a) : EReal)
    = V m c main_v90 (ValueIdx.ix2 (row (chunkOf t) i j) (col (headOf t) a)) :=
  at_block (V m c main_v90) (((cfg0.win 6).blk t).view.emb ((comb j).idx (ValueIdx.ix2 i a))) j i a (blocks t).2.2.2.2.2.2.1 rfl rfl _ _ rfl rfl

theorem load_delta : (pick j (iblk m c 7 t) (ValueIdx.ix2 i a) : EReal)
    = V m c main_v96 (ValueIdx.ix2 (row (chunkOf t) i j) (col (headOf t) a)) :=
  at_block (V m c main_v96) (((cfg0.win 7).blk t).view.emb ((comb j).idx (ValueIdx.ix2 i a))) j i a (blocks t).2.2.2.2.2.2.2.1 rfl rfl _ _ rfl rfl

theorem v90_at (x3 : (⟨S8192x1024, .f32⟩ : BufTy).Contents (Elt Ideal)) (r : Fin 8192) (h : Fin 8) (d : Fin 128) :
    (val_main_v90 (F := Ideal) x3 (ValueIdx.ix3 r h d) : EReal) = x3 (ValueIdx.ix2 r (col h d)) := by
  unfold val_main_v90
  refine shapeCast_apply _ _ _ (ValueIdx.ix2 r (col h d)) ?_
  rw [Shape.rowMajor_val_two, Shape.rowMajor_val_three]
  show r.val * 1024 + (h.val * 128 + d.val) = (r.val * 8 + h.val) * 128 + d.val
  omega

/-- THE RESULT: the reference's gradient at the kernel's own arguments. -/
def result : (⟨S8192x1024, .f32⟩ : BufTy).Contents (Elt Ideal) :=
  val_main_v129 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The arguments' entries are all finite. -/
structure Finite : Prop where
  a0 : Reals (m ((c.tc : Thread nD τ).loc main_arg0))
  a1 : Reals (m ((c.tc : Thread nD τ).loc main_arg1))
  a2 : Reals (m ((c.tc : Thread nD τ).loc main_arg2))
  a3 : Reals (m ((c.tc : Thread nD τ).loc main_arg3))
  a4 : Reals (m ((c.tc : Thread nD τ).loc main_arg4))
  a5 : Reals (m ((c.tc : Thread nD τ).loc main_arg5))
  a6 : Reals (m ((c.tc : Thread nD τ).loc main_arg6))
  a7 : Reals (m ((c.tc : Thread nD τ).loc main_arg7))

/-- One row class of the block point `t` leaves is the result's. -/
theorem class_written (hf : Finite m c) (e : Fin 128) :
    (classOut (grid0.coords t) (iblk m c 0 t) (iblk m c 1 t) (iblk m c 2 t) (iblk m c 3 t) (iblk m c 4 t) (iblk m c 5 t)
      (iblk m c 6 t) (iblk m c 7 t) j (ValueIdx.ix2 i e) : EReal) = result m c (ValueIdx.ix2 (row (chunkOf t) i j) (col (headOf t) e)) := by
  obtain ⟨R, H⟩ := exists_row hf.a0 hf.a1 hf.a2 hf.a3 hf.a4 hf.a5 hf.a6 hf.a7 (chunkOf t) j (headOf t) i
  have before : chunkOf t ≠ 0 → ∃ n : Fin 3, chunkOf t = n.succ := fun h => ⟨(chunkOf t).pred h, (Fin.succ_pred _ h).symm⟩
  refine tile_grad H _ _ _ _ _ _ _ _ _ (fun k => prev_mask _ _ (coords_chunk t) i k) (fun a => load_q m c t j i a) (fun k a => ?_)
    (fun k a => ?_) (fun h k a => ?_) (fun h k a => ?_) (fun a => ?_) (fun k => ?_) (fun k => ?_) e
  · exact (load_k m c t j k a).trans (v13_own _ _ k j _ a).symm
  · exact (load_v m c t j k a).trans (v18_own _ _ k j _ a).symm
  · obtain ⟨n, hn⟩ := before h
    rw [hn]
    exact (load_kp m c t j k a n hn).trans (v13_later _ n k j _ a).symm
  · obtain ⟨n, hn⟩ := before h
    rw [hn]
    exact (load_vp m c t j k a n hn).trans (v18_later _ n k j _ a).symm
  · exact (load_do m c t j i a).trans ((v90_at _ _ _ a).symm.trans (H.g a))
  · refine (load_lse m c t j i k).trans ?_
    rw [V_lse, spread_apply]
    exact lse_at H
  · refine (load_delta m c t j i k).trans ?_
    rw [V_delta, spread_apply]
    exact dotOut_at H

/-- What point `t` leaves at the place `y` of its block is the result there. -/
theorem written (hf : Finite m c) (y : S2048x128.Idx) : (outAt m c t y : EReal) = result m c (((cfg0.win 8).blk t).view.emb y) := by
  have h0 : (y 0).val < 2048 := (y 0).isLt
  refine (class_written m c t ⟨(y 0).val % 16, Nat.mod_lt _ (by decide)⟩ ⟨(y 0).val / 16, by omega⟩ hf (y 1)).trans ?_
  refine congrArg (result m c) (funext fun x => Fin.ext ?_)
  match x with
  | ⟨0, _⟩ =>
    show t.val % 4 * 2048 + (y 0).val / 16 * 16 + (y 0).val % 16 = win0_8.index t 0 * 2048 + 1 * (y 0).val
    rw [(blocks t).2.2.2.2.2.2.2.2]
    show _ = t.val % 4 * 2048 + 1 * (y 0).val
    omega
  | ⟨1, _⟩ =>
    show t.val / 4 * 128 + (y 1).val = win0_8.index t 1 * 128 + 1 * (y 1).val
    rw [(blocks t).2.2.2.2.2.2.2.2]
    show _ = t.val / 4 * 128 + 1 * (y 1).val
    omega

theorem covers : (cfg0.win 8).Covers := by decide +kernel

/-- The blocks cover the array, so it ends holding the result. -/
theorem final (hf : Finite m c) : (dats m 0 c).arrAt 8 cfg0.N = result m c :=
  (dats m 0 c).arrAt_eq_of_cover 8 (result m c) (fun t _ => by
    show (cfg0.win 8).cut (grid0.coords t) ((dats m 0 c).after 8 t) = _
    rw [after_8]
    funext y
    exact written m c t hf y) (covers.cover _ (Memref.isWhole_whole _))

end Cert.KernelIdeal.Hand

end
-- ==== Proof.Below.lean ====
module

public import Idealize.ShloMosaic.Lib.StableHlo
public import Idealize.ShloMosaic.PureOps
public import Idealize.ShloMosaic.PureOps.Ideal
public import Idealize.ShloMosaic.PureOps.Ideal.Laws

/-! # What a comparison of the absolute value with infinity says of an array -/

@[expose] public section

namespace Cert

open Idealize.ShloMosaic

/-- An array whose absolute value is everywhere below infinity holds real numbers. -/
theorem real_of_below {φ : FTy} {S : Shape} {w : BitVec φ.bits} (x : FVec Ideal S φ)
    (hb : (⟨0, ![]⟩ : Shape).BroadcastsInDim S (![] : Fin 0 → Fin S.rank)) (top : Ideal.ofBits φ w = ⊤)
    (h : cmpf (F := Ideal) (φ := φ) .olt (Host.absf (F := Ideal) (φ := φ) x)
      (broadcastInDim S ![] hb (constant (F := Ideal) ⟨0, ![]⟩ φ w)) = fun _ => 1#1) (i : S.Idx) :
    ∃ r : ℝ, (x i : EReal) = (r : EReal) := by
  have e : Ideal.cmp .olt (max (x i : EReal) (-(x i : EReal))) (Ideal.ofBits φ w) = 1#1 := congrFun h i
  rw [top] at e
  have lt : max (x i : EReal) (-(x i : EReal)) < ⊤ := by
    by_contra hn
    simp [Ideal.cmp, hn] at e
  have h1 : (x i : EReal) ≠ ⊤ := fun hx => by rw [hx] at lt; simp at lt
  have h2 : (x i : EReal) ≠ ⊥ := fun hx => by rw [hx] at lt; simp at lt
  exact ⟨EReal.toReal (x i), (EReal.coe_toReal h1 h2).symm⟩

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

end Cert

end
-- ==== Proof.DqClaims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.DqFinal
public import proofs.«01_k».proof.Proof.DqFrameBits
public import proofs.«01_k».proof.Proof.Below
public import Idealize.ShloMosaic.Lib.Claim

/-! # The attention's query gradient over the farthest key group: the claims -/

@[expose] public section

noncomputable section

namespace Cert.Proof

open Idealize.ShloMosaic Idealize.ShloMosaic.TcCoe Idealize.SL.Sem Cert.KernelIdeal.Hand

theorem facts_finite : Cert.Pre_finite.Facts where
  bcast_S_S8192x3072 := by decide
  bcast_S_S8192x6144 := by decide
  bcast_S_S8192x1024 := by decide
  bcast_S_S8192x8 := by decide

theorem frame_Kernel : Cert.quiescent_Kernel := fun m g _ => Cert.Kernel.Hand.quiet m g

theorem frame_KernelIdeal : Cert.quiescent_KernelIdeal := fun m g _ => quiet m g

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_KernelIdeal_finite [Cert.Pre_finite.Facts] : Cert.quiescent_KernelIdeal_pre_finite := fun m g _ => quiet m g

theorem frame_ReferenceIdeal_finite [Cert.Pre_finite.Facts] : Cert.quiescent_ReferenceIdeal_pre_finite := fun m g _ =>
  frame_ReferenceIdeal m g trivial

/-- The named constant: the score a masked key is given is minus infinity. -/
theorem preserves : Cert.preserves_Kernel_KernelIdeal := IdealRules.named_const.statement _ _ _ _ _ rfl

/-- The precondition makes every argument's entries real numbers. -/
theorem finite_of [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Finite m c := by
  obtain ⟨h0, h1, h2, h3, h4, h5, h6, h7⟩ := h c
  exact ⟨real_of_below _ _ inf_f32 h0, real_of_below _ _ inf_f32 h1, real_of_below _ _ inf_f32 h2, real_of_below _ _ inf_f32 h3, real_of_below _ _ inf_f32 h4,
    real_of_below _ _ inf_f32 h5, real_of_below _ _ inf_f32 h6, real_of_below _ _ inf_f32 h7⟩

theorem algebraic [Cert.Pre_finite.Facts] : Cert.algebraic_KernelIdeal_ReferenceIdeal_pre_finite := fun m g m' g' hf h =>
  ⟨fun c => result m c,
    (θ_run Cert.KernelIdeal.defs _ _).mono (fun r hr c => ⟨((hr.1.1 c).1 8).trans (final m c (finite_of m hf c)), hr.2.1 c⟩)
      (θ_run_and (run_main m g) (quiet m g)),
    (θ_run Cert.ReferenceIdeal.defs _ _).mono (fun r hr c => ⟨(hr c).1.trans (by
      obtain ⟨h0, h1, h2, h3, h4, h5, h6, h7⟩ := h c
      rw [Cert.ReferenceIdeal.Read.val_main_v129_eq, h0, h1, h2, h3, h4, h5, h6, h7]
      rfl), (hr c).2⟩)
      (Cert.ReferenceIdeal.Value.run m' g')⟩

end Cert.Proof

end
-- ==== Proof.ProductSum.lean ====
module

public import Idealize.ShloMosaic.PureOps.Ideal
public import Idealize.ShloMosaic.Lib.ValueIdx

/-! # Sums over tiles

A matrix product computed tile by tile adds, at each entry, one partial sum per tile of the contracted axis.
This file says what such a running sum is, and reads an array of any rank at natural-number coordinates, so
that a tile of an array and the array itself are compared by arithmetic on the coordinates. -/

@[expose] public section

namespace Cert.Tiles

open Idealize.ShloMosaic
open scoped BigOperators

/-- An array of extended reals at natural-number coordinates: zero outside the array. -/
noncomputable def entry {s : Shape} (x : s.Idx → EReal) (p : Fin s.rank → ℕ) : EReal :=
  if h : ∀ a, p a < s.size a then x (fun a => ⟨p a, h a⟩) else 0

/-- At the coordinates of an index it is the array there. -/
theorem entry_val {s : Shape} (x : s.Idx → EReal) (j : s.Idx) (p : Fin s.rank → ℕ) (hp : ∀ a, (j a).val = p a) :
    x j = entry x p := by
  have h : ∀ a, p a < s.size a := fun a => hp a ▸ (j a).isLt
  rw [entry, dif_pos h]
  congr 1
  funext a
  exact Fin.ext (hp a)

/-- A sum over an axis split into `nk` tiles of `tc` is the sum over the axis. -/
theorem sum_tiles (nk tc : ℕ) (g : ℕ → EReal) :
    ∑ j ∈ Finset.range nk, ∑ k : Fin tc, g (tc * j + k.val) = ∑ k : Fin (nk * tc), g k.val := by
  rw [Fin.sum_univ_eq_sum_range (fun k => g k)]
  induction nk with
  | zero => simp
  | succ n ih =>
    rw [Finset.sum_range_succ, ih, Nat.succ_mul, Finset.sum_range_add]
    congr 1
    rw [Fin.sum_univ_eq_sum_range (fun k => g (tc * n + k))]
    simp only [Nat.mul_comm tc n]

/-- A running quantity that starts anew at the multiples of `nk` and adds one term at every other point is the sum of
    the terms since the last start. -/
theorem running_sum {N nk : ℕ} (hk : 0 < nk) (s : (n : ℕ) → n < N → EReal) (M : ℕ → EReal)
    (hA : ∀ n h, n % nk = 0 → s n h = M n)
    (hB : ∀ n h, n % nk ≠ 0 → s n h = s (n - 1) (Nat.lt_of_le_of_lt (Nat.sub_le _ _) h) + M n) :
    ∀ r j, j < nk → ∀ h : nk * r + j < N, s (nk * r + j) h = ∑ i ∈ Finset.range (j + 1), M (nk * r + i) := by
  intro r j
  induction j with
  | zero =>
    intro _ h
    simpa using hA (nk * r + 0) h (by simp)
  | succ j ih =>
    intro hj h
    have hm : (nk * r + (j + 1)) % nk = j + 1 := by rw [Nat.mul_add_mod, Nat.mod_eq_of_lt hj]
    rw [hB _ h (by omega), Finset.sum_range_succ, ← ih (by omega) (by omega)]
    rfl

/-- THE TILED SUM: a running quantity whose term at point `n` is the sum of `g (n / nk)` over tile `n % nk` is, at the
    last point of a run, the sum over the whole axis. -/
theorem tiled_sum {N nk tc C : ℕ} (hk : 0 < nk) (hC : nk * tc = C) (s : (n : ℕ) → n < N → EReal) (g : ℕ → ℕ → EReal)
    (hA : ∀ n h, n % nk = 0 → s n h = ∑ k : Fin tc, g (n / nk) (tc * (n % nk) + k.val))
    (hB : ∀ n h, n % nk ≠ 0 → s n h = s (n - 1) (Nat.lt_of_le_of_lt (Nat.sub_le _ _) h)
      + ∑ k : Fin tc, g (n / nk) (tc * (n % nk) + k.val))
    (n : ℕ) (h : n < N) (hn : n % nk = nk - 1) : s n h = ∑ k : Fin C, g (n / nk) k.val := by
  subst hC
  have e := running_sum hk s _ hA hB (n / nk) (n % nk) (Nat.mod_lt _ hk) (by rw [Nat.div_add_mod]; exact h)
  rw [← sum_tiles]
  have hd : nk * (n / nk) + n % nk = n := Nat.div_add_mod n nk
  have hs : s (nk * (n / nk) + n % nk) (by rw [hd]; exact h) = s n h := by
    congr 1
  rw [← hs, e, hn, Nat.sub_add_cancel hk]
  refine Finset.sum_congr rfl fun i hi => ?_
  have hi' : i < nk := Finset.mem_range.mp hi
  rw [Nat.mul_add_mod, Nat.mod_eq_of_lt hi', Nat.mul_add_div hk, Nat.div_eq_of_lt hi', Nat.add_zero]

/-- THE BLOCKED PRODUCT. The output's blocks of `tm` by `tn` are walked row by row, `nj` to a row, each over `nk` tiles of
    the contracted axis. A scratch is set at a block's first tile (`hfirst`) and added to at the others (`hnext`), and the
    output is written at it at the last (`hout`). Then the output entry `(i0, i1)` is the sum over the whole axis. `r` and
    `l` are a tile entry's coordinates, `f i0 i1 k` the summand. -/
theorem blocked_sum {N nk tc C tm tn nj : ℕ} {α : Type} (hk : 0 < nk) (hC : nk * tc = C) (r l : α → ℕ)
    (outs : (n : ℕ) → n < N → (α → EReal) × (α → EReal)) (p : (n : ℕ) → n < N → α → EReal)
    (hfirst : ∀ n h, n % nk = 0 → (outs n h).2 = p n h)
    (hnext : ∀ n h y, n % nk ≠ 0 → (outs n h).2 y = (outs (n - 1) (Nat.lt_of_le_of_lt (Nat.sub_le _ _) h)).2 y + p n h y)
    (hout : ∀ n h, n % nk = nk - 1 → (outs n h).1 = (outs n h).2)
    (f : ℕ → ℕ → ℕ → EReal)
    (hp : ∀ n h y, p n h y = ∑ k : Fin tc, f (tm * (n / nk / nj) + r y) (tn * (n / nk % nj) + l y) (tc * (n % nk) + k.val))
    (i0 i1 n : ℕ) (h : n < N) (hn : n = nk * (nj * (i0 / tm) + i1 / tn) + (nk - 1)) (hi : i1 / tn < nj)
    (y : α) (hr : r y = i0 % tm) (hl : l y = i1 % tn) :
    (outs n h).1 y = ∑ k : Fin C, f i0 i1 k.val := by
  have hm : n % nk = nk - 1 := by rw [hn, Nat.mul_add_mod, Nat.mod_eq_of_lt (by omega)]
  have hd : n / nk = nj * (i0 / tm) + i1 / tn := by rw [hn, Nat.mul_add_div hk, Nat.div_eq_of_lt (a := nk - 1) (by omega), Nat.add_zero]
  rw [hout n h hm, tiled_sum hk hC (fun n h => (outs n h).2 y) (fun q k => f (tm * (q / nj) + r y) (tn * (q % nj) + l y) k)
    (fun n h h0 => (congrFun (hfirst n h h0) y).trans (hp n h y)) (fun n h h0 => (hnext n h y h0).trans (by rw [hp n h y])) n h hm]
  rw [hd, Nat.mul_add_div (Nat.lt_of_le_of_lt (Nat.zero_le _) hi), Nat.div_eq_of_lt hi, Nat.add_zero, Nat.mul_add_mod, Nat.mod_eq_of_lt hi, hr, hl,
    Nat.div_add_mod, Nat.div_add_mod]

/-- A window's block `q` of size `b` puts the tile's coordinate `y` at `b * q + y`. -/
theorem block_coord (q b y : ℕ) : q * b + 1 * y = b * q + y := by rw [Nat.one_mul, Nat.mul_comm]

theorem hz : (![0, 0] : Fin 2 → Nat) = fun _ => 0 := funext fun a => by fin_cases a <;> rfl
theorem hz3 : (![0, 0, 0] : Fin 3 → Nat) = fun _ => 0 := funext fun a => by fin_cases a <;> rfl

end Cert.Tiles

end
-- ==== Proof.DownDx.lean ====
module

public import proofs.«01_k».proof.Defs
public import proofs.«01_k».proof.Proof.Gen.Kernel2
public import proofs.«01_k».proof.Proof.Gen.Kernel2Ideal.Value
public import proofs.«01_k».proof.Proof.Gen.Reference2Ideal.Read
public import proofs.«01_k».proof.Proof.ProductSum
public import Idealize.ShloMosaic.Lib.Pointwise
public import Idealize.ShloMosaic.Lib.Pipeline.ReadBack
public import Idealize.ShloMosaic.Lib.Pipeline.ValueKit.Geometry

/-! # The input's gradient of the feed-forward layer's second product, dy·wᵀ: frame and value -/

@[expose] public section

namespace Cert.Kernel2Ideal.Hand

open Cert.Kernel2Ideal.Gen Cert.Kernel2Ideal.Value Cert.Tiles
open Idealize.ShloMosaic Idealize.ShloMosaic.TcCoe Idealize.SL Idealize.SL.Sem

variable (m : (ℓ : Loc nD τ sig) → Buf (Elt Ideal) ℓ) (c : Dev nD)

theorem out (t : Fin cfg0.N) : outsAt0 m c t = k0_pay1 (iblk m c 0 t) (iblk m c 1 t) := by
  unfold outsAt0 out0_A_2
  rw [View.read_writes_eq_canon _ _ _ (cover0_A_2 _ _ _ _ _ _ _ _ _ _ _ _)]
  unfold kernelRun0_A
  dsimp only
  sl_unfold_words
  rw [View.canon_unit_zero hz]
  simp only [View.readAt_eq_ld, Memref.IsWhole.read_unread, View.ld_unit_zero (S := S1024x2048) hz,
    View.ld_unit_zero (S := S512x2048) hz]

/-- The blocks the three windows are on at point `t`. -/
theorem blocks : ∀ t : Fin cfg0.N, win0_0.index t = ![t.val / 11, 0] ∧ win0_1.index t = ![t.val % 11, 0]
    ∧ win0_2.index t = ![t.val / 11, t.val % 11] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![r, k]
    * entry (m ((c : Thread nD τ).loc main_arg1) : S5632x2048.Idx → EReal) ![l, k]

/-- THE RESULT, entry by entry: the product of the two operands, contracted over their columns. -/
noncomputable def result : S8192x5632.Idx → EReal := fun i => ∑ k : Fin 2048, term m c (i 0).val (i 1).val k.val

/-- What point `t` leaves at the place `y` of its block is the result there. -/
theorem written (t : Fin cfg0.N) (y : S1024x512.Idx) : outsAt0 m c t y = result m c (((cfg0.win 2).blk t).view.emb y) := by
  show _ = ∑ k : Fin 2048, term m c (((cfg0.win 2).blk t).view.emb y 0).val (((cfg0.win 2).blk t).view.emb y 1).val k.val
  rw [out]
  simp only [k0_pay1, pointwise, Ideal.ofBits_zero_f32, zero_add]
  have e0 : (((cfg0.win 2).blk t).view.emb y 0).val = 1024 * (t.val / 11) + (y 0).val := by
    show win0_2.index t 0 * 1024 + 1 * (y 0).val = _
    rw [(blocks t).2.2]; exact block_coord _ _ _
  have e1 : (((cfg0.win 2).blk t).view.emb y 1).val = 512 * (t.val % 11) + (y 1).val := by
    show win0_2.index t 1 * 512 + 1 * (y 1).val = _
    rw [(blocks t).2.2]; exact block_coord _ _ _
  rw [e0, e1]
  refine Finset.sum_congr rfl fun k _ => congrArg₂ (fun a b : EReal => a * b) ?_ ?_
  · refine entry_val (m ((c : Thread nD τ).loc main_arg0)) (((cfg0.win 0).blk t).view.emb (ValueIdx.ix2 (y 0) k)) _ ?_
    show ∀ a, win0_0.index t a * _ + 1 * (ValueIdx.ix2 (y 0) k a).val = _
    rw [(blocks t).1]
    exact fun | 0 => block_coord _ _ _ | 1 => (block_coord _ _ _).trans (Nat.zero_add _)
  · refine entry_val (m ((c : Thread nD τ).loc main_arg1)) (((cfg0.win 1).blk t).view.emb (ValueIdx.ix2 (y 1) k)) _ ?_
    show ∀ a, win0_1.index t a * _ + 1 * (ValueIdx.ix2 (y 1) k a).val = _
    rw [(blocks t).2.1]
    exact fun | 0 => block_coord _ _ _ | 1 => (block_coord _ _ _).trans (Nat.zero_add _)

theorem covers : (cfg0.win 2).Covers := by decide +kernel

/-- The blocks cover the array, so it ends holding the result. -/
theorem final : (dats m 0 c).arrAt 2 cfg0.N = result m c :=
  (dats m 0 c).arrAt_eq_of_cover 2 (result m c) (fun t _ => by
    rw [flushed2]
    funext y
    exact written m c t y) (covers.cover _ (Memref.isWhole_whole _))

end Cert.Kernel2Ideal.Hand

namespace Cert.Proof

open Idealize.ShloMosaic Idealize.ShloMosaic.TcCoe Idealize.SL.Sem Cert.Tiles

theorem bodies2 : Cert.Kernel2.defs₀ (F := Bits) = Cert.Kernel2Ideal.defs₀ (F := Bits) :=
  congrArg Defs.onTc (funext fun l => funext fun x => match l, x with | 0, (_, _) => rfl)

theorem frame_Kernel2 : Cert.quiescent_Kernel2 := fun m g _ =>
  (congrArg (fun d => θ_run (Pipeline.defs _ d) _ _ _) bodies2).mpr (Cert.Kernel2Ideal.Gen.frame (F := Bits) m g)

theorem frame_Kernel2Ideal : Cert.quiescent_Kernel2Ideal := fun m g _ => Cert.Kernel2Ideal.Gen.frame m g

theorem frame_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The reference's gradient at an entry is the same sum. -/
theorem reference2_apply (x0 : Cert.Reference2Ideal.S8192x2048.Idx → EReal) (x1 : Cert.Reference2Ideal.S5632x2048.Idx → EReal)
    (i : Cert.Reference2Ideal.S8192x5632.Idx) :
    (Cert.Reference2Ideal.Read.val_main_v4 (F := Ideal) x0 x1 : Cert.Reference2Ideal.S8192x5632.Idx → EReal) i
      = ∑ k : Fin 2048, entry x0 ![(i 0).val, k.val] * entry x1 ![(i 1).val, k.val] := by
  refine (Cert.Reference2Ideal.Read.val_main_v4_apply x0 x1 _).trans ?_
  refine Finset.sum_congr rfl fun k _ => congrArg₂ (fun a b : EReal => a * b) ?_ ?_
  · exact entry_val x0 (Cert.Reference2Ideal.Read.lidx_main_v4 i k) _ fun | 0 => rfl | 1 => rfl
  · exact entry_val x1 (Cert.Reference2Ideal.Read.ridx_main_v4 i k) _ fun | 0 => rfl | 1 => rfl

theorem algebraic2 : Cert.algebraic_Kernel2Ideal_Reference2Ideal := fun m g m' g' _ h =>
  ⟨fun c => Cert.Kernel2Ideal.Hand.result m c,
    (θ_run Cert.Kernel2Ideal.defs _ _).mono (fun r hr c => ⟨(hr c).1.trans (Cert.Kernel2Ideal.Hand.final m c), (hr c).2⟩)
      (Cert.Kernel2Ideal.Value.run_blocks m g),
    (θ_run Cert.Reference2Ideal.defs _ _).mono (fun r hr c => ⟨(hr c).1.trans (by
      obtain ⟨h0, h1⟩ := h c
      rw [h0, h1]
      exact (Cert.Reference2Ideal.Read.val_main_v4_eq _ _).trans (funext fun i => reference2_apply _ _ i)), (hr c).2⟩)
      (Cert.Reference2Ideal.Value.run m' g')⟩

end Cert.Proof

end
-- ==== Proof.DownDw.lean ====
module

public import proofs.«01_k».proof.Defs
public import proofs.«01_k».proof.Proof.Gen.Kernel3
public import proofs.«01_k».proof.Proof.Gen.Kernel3Ideal.Value
public import proofs.«01_k».proof.Proof.Gen.Reference3Ideal.Read
public import proofs.«01_k».proof.Proof.ProductSum
public import Idealize.ShloMosaic.Lib.Pointwise

/-! # The weight gradient of the feed-forward layer's second product, zᵀ·dy: frame and value -/

@[expose] public section

namespace Cert.Kernel3Ideal.Hand

open Cert.Kernel3Ideal.Gen Cert.Kernel3Ideal.Value Cert.Tiles
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At the first tile the scratch is left at the tile's product. -/
theorem first (c : Dev nD) (i : grid0.Coords) (a3) (h3) (a4) (h4) (a5) (h5) (a6) (h6) (hc0) (hc1) (hc2) (x0) (x1) :
    sout0_A_0 (F := F) c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S2048x512) hz,
    View.ld_unit_zero (S := S2048x1024) hz, shapeCast_self]

/-- At every other tile it is left at its contents plus the tile's product. -/
theorem next (c : Dev nD) (i : grid0.Coords) (a3) (h3) (a4) (h4) (a5) (h5) (a6) (h6) (hc0) (hc1) (hc2) (x0) (x1) (s) :
    sout0_B_0 (F := F) c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  unfold k0_pay3
  simp only [View.readAt_eq_ld, h3.read_unread, h4.read_unread, h6.read_unread, View.ld_unit_zero (S := S2048x512) hz,
    View.ld_unit_zero (S := S2048x1024) hz, View.ld_unit_zero (S := S512x1024) hz, shapeCast_self]

/-- So it is at the last tile, -/
theorem last (c : Dev nD) (i : grid0.Coords) (a3) (h3) (a4) (h4) (a5) (h5) (a6) (h6) (hc0) (hc1) (hc2) (x0) (x1) (s) :
    sout0_C_0 (F := F) c i a3 h3 a4 h4 a5 h5 a6 h6 hc0 hc1 hc2 x0 x1 s = addf s (k0_pay1 x0 x1) := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  unfold k0_pay3
  simp only [View.readAt_eq_ld, h3.read_unread, h4.read_unread, h6.read_unread, View.ld_unit_zero (S := S2048x512) hz,
    View.ld_unit_zero (S := S2048x1024) hz, View.ld_unit_zero (S := S512x1024) hz, shapeCast_self]

/-- where the output block is left at the same. -/
theorem out (c : Dev nD) (i : grid0.Coords) (a3) (h3) (a4) (h4) (a5) (h5) (a6) (h6) (hc0) (hc1) (hc2) (x0) (x1) (s) :
    out0_C_2 (F := F) c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz, View.readCov_unit_zero (S := S512x1024) _ hz]
  unfold k0_pay3
  simp only [View.readAt_eq_ld, h3.read_unread, h4.read_unread, h6.read_unread, View.ld_unit_zero (S := S2048x512) hz,
    View.ld_unit_zero (S := S2048x1024) hz, View.ld_unit_zero (S := S512x1024) hz, shapeCast_self]

/-! ## The value over the extended reals -/

section value

variable (m : (ℓ : Loc nD τ sig) → Buf (Elt Ideal) ℓ)

/-- The two operands on core `c`. -/
abbrev Z (c : Dev nD) : S8192x5632.Idx → EReal := m ((c : Thread nD τ).loc main_arg0)
abbrev Dy (c : Dev nD) : S8192x2048.Idx → EReal := m ((c : Thread nD τ).loc main_arg1)

theorem product_apply (v0 : Vec Ideal S2048x512 .bf16) (v1 : Vec Ideal S2048x1024 .bf16) (j : S512x1024.Idx) :
    k0_pay1 v0 v1 j = ∑ k : Fin 2048, v0 (ValueIdx.ix2 k (j 0)) * v1 (ValueIdx.ix2 k (j 1)) := by
  simp only [k0_pay1, pointwise, Ideal.ofBits_zero_f32, zero_add]
  rfl

/-- The blocks the three windows are on at point `t`. -/
theorem blocks : ∀ t : Fin cfg0.N, win0_0.index t = ![t.val % 4, t.val / 4 / 2]
    ∧ win0_1.index t = ![t.val % 4, t.val / 4 % 2] ∧ win0_2.index t = ![t.val / 4 / 2, t.val / 4 % 2] :=
  (by decide +kernel : ∀ t : Fin grid0.N, _)

theorem left_apply (c : Dev nD) (t : Fin cfg0.N) (y : S2048x512.Idx) :
    iblk m c 0 t y = entry (Z m c) ![2048 * (t.val % 4) + (y 0).val, 512 * (t.val / 4 / 2) + (y 1).val] := by
  refine entry_val (Z m c) (((cfg0.win 0).blk t).view.emb y) _ fun a => ?_
  show win0_0.index t a * _ + 1 * (y a).val = _
  rw [(blocks t).1]
  match a with
  | ⟨0, _⟩ => show t.val % 4 * 2048 + 1 * (y 0).val = 2048 * (t.val % 4) + (y 0).val; omega
  | ⟨1, _⟩ => show t.val / 4 / 2 * 512 + 1 * (y 1).val = 512 * (t.val / 4 / 2) + (y 1).val; omega

theorem right_apply (c : Dev nD) (t : Fin cfg0.N) (y : S2048x1024.Idx) :
    iblk m c 1 t y = entry (Dy m c) ![2048 * (t.val % 4) + (y 0).val, 1024 * (t.val / 4 % 2) + (y 1).val] := by
  refine entry_val (Dy m c) (((cfg0.win 1).blk t).view.emb y) _ fun a => ?_
  show win0_1.index t a * _ + 1 * (y a).val = _
  rw [(blocks t).2.1]
  match a with
  | ⟨0, _⟩ => show t.val % 4 * 2048 + 1 * (y 0).val = 2048 * (t.val % 4) + (y 0).val; omega
  | ⟨1, _⟩ => show t.val / 4 % 2 * 1024 + 1 * (y 1).val = 1024 * (t.val / 4 % 2) + (y 1).val; omega

/-- The summand of the result's entry `(r, l)` at place `k` of the contracted axis. -/
noncomputable def term (c : Dev nD) (r l k : ℕ) : EReal := entry (Z m c) ![k, r] * entry (Dy m c) ![k, l]

/-- What point `n` adds to the scratch, at an entry. -/
theorem added (c : Dev nD) (y : S512x1024.Idx) (n : ℕ) (h : n < cfg0.N) :
    k0_pay1 (iblk m c 0 ⟨n, h⟩) (iblk m c 1 ⟨n, h⟩) y = ∑ k : Fin 2048,
      term m c (512 * (n / 4 / 2) + (y 0).val) (1024 * (n / 4 % 2) + (y 1).val) (2048 * (n % 4) + k.val) := by
  rw [product_apply]
  refine Finset.sum_congr rfl fun k _ => ?_
  rw [left_apply, right_apply]
  rfl

/-- The scratch after the last point of a block, at an entry. -/
theorem scratch_apply (c : Dev nD) (y : S512x1024.Idx) (n : ℕ) (h : n < cfg0.N) (hn : n % 4 = 3) :
    (outsAt0 m c n h).2 y = ∑ k : Fin 8192,
      term m c (512 * (n / 4 / 2) + (y 0).val) (1024 * (n / 4 % 2) + (y 1).val) k.val :=
  tiled_sum (nk := 4) (tc := 2048) (by decide) (by decide) (fun n h => (outsAt0 m c n h).2 y)
    (fun q k => term m c (512 * (q / 2) + (y 0).val) (1024 * (q % 2) + (y 1).val) k)
    (fun n h h0 => by
      rw [← added m c y n h, show outsAt0 m c n h = _ from outsAt0_A m c ⟨n, h⟩ h0 (by dsimp only; omega) (by dsimp only; omega), first])
    (fun n h h0 => by
      rw [← added m c y n h]
      by_cases h3 : n % 4 = 3
      · rw [show outsAt0 m c n h = _ from outsAt0_C m c ⟨n, h⟩ h0 (by dsimp only; omega) h3, last]; rfl
      · rw [show outsAt0 m c n h = _ from outsAt0_B m c ⟨n, h⟩ h0 (by dsimp only; omega) h3, next]; rfl)
    n h hn

/-- The output block is written at the scratch. -/
theorem out_scratch (c : Dev nD) (t : Fin cfg0.N) (ht : t.val % 4 = 3) :
    (outsAt0 m c t.val t.isLt).1 = (outsAt0 m c t.val t.isLt).2 := by
  rw [outsAt0_C m c t (by omega) (by omega) ht]
  dsimp only
  rw [out, last]

/-- THE RESULT, entry by entry: the product of the two operands, contracted over their rows. -/
theorem result_apply (c : Dev nD) (i : S5632x2048.Idx) :
    (G2 m c : S5632x2048.Idx → EReal) i = ∑ k : Fin 8192, term m c (i 0).val (i 1).val k.val := by
  have h0 : (i 0).val < 5632 := (i 0).isLt
  have h1 : (i 1).val < 2048 := (i 1).isLt
  have hN : cfg0.N = 88 := N_0
  have e : pt2Of i = 4 * (2 * ((i 0).val / 512) + (i 1).val / 1024) + 3 := by
    show 4 * (2 * ((i 0).val / 512 - 0) + 1 * ((i 1).val / 1024 - 0)) + 3 = _
    omega
  have hp : pt2Of i < cfg0.N := by omega
  unfold G2
  rw [dif_pos hp, ← outsAt0_sweep m c _ hp, out_scratch m c ⟨_, hp⟩ (by dsimp only; omega), scratch_apply m c _ _ hp (by omega)]
  rw [show 512 * (pt2Of i / 4 / 2) + (loc2Of i 0).val = (i 0).val by show 512 * _ + (i 0).val % 512 = _; rw [e]; omega,
    show 1024 * (pt2Of i / 4 % 2) + (loc2Of i 1).val = (i 1).val by show 1024 * _ + (i 1).val % 1024 = _; rw [e]; omega]

end value

end Cert.Kernel3Ideal.Hand

namespace Cert.Proof

open Idealize.ShloMosaic Idealize.ShloMosaic.TcCoe Idealize.SL.Sem Cert.Tiles

theorem bodies3 : Cert.Kernel3.defs₀ (F := Bits) = Cert.Kernel3Ideal.defs₀ (F := Bits) :=
  congrArg Defs.onTc (funext fun l => funext fun x => match l, x with | 0, (_, _) => rfl)

theorem frame_Kernel3 : Cert.quiescent_Kernel3 := fun m g _ =>
  (congrArg (fun d => θ_run (Pipeline.defs _ d) _ _ _) bodies3).mpr (Cert.Kernel3Ideal.Gen.frame (F := Bits) m g)

theorem frame_Kernel3Ideal : Cert.quiescent_Kernel3Ideal := fun m g _ => Cert.Kernel3Ideal.Gen.frame m g

theorem frame_Reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The reference's gradient at an entry is the same sum. -/
theorem reference3_apply (x0 : Cert.Reference3Ideal.S8192x5632.Idx → EReal) (x1 : Cert.Reference3Ideal.S8192x2048.Idx → EReal)
    (i : Cert.Reference3Ideal.S5632x2048.Idx) :
    (Cert.Reference3Ideal.Read.val_main_v5 (F := Ideal) x0 x1 : Cert.Reference3Ideal.S5632x2048.Idx → EReal) i
      = ∑ k : Fin 8192, entry x0 ![k.val, (i 0).val] * entry x1 ![k.val, (i 1).val] := by
  refine (Cert.Reference3Ideal.Read.val_main_v5_apply (F := Ideal) x0 x1 i).trans ((Cert.Reference3Ideal.Read.val_main_v4_apply x0 x1 _).trans ?_)
  refine Finset.sum_congr rfl fun k _ => ?_
  have e0 := entry_val x0 (Cert.Reference3Ideal.Read.ridx_main_v4 (Cert.Reference3Ideal.Read.idx_main_v5 i) k) ![k.val, (i 0).val]
    fun a => match a with | ⟨0, _⟩ => rfl | ⟨1, _⟩ => rfl
  have e1 := entry_val x1 (Cert.Reference3Ideal.Read.lidx_main_v4 (Cert.Reference3Ideal.Read.idx_main_v5 i) k) ![k.val, (i 1).val]
    fun a => match a with | ⟨0, _⟩ => rfl | ⟨1, _⟩ => rfl
  exact (congrArg₂ (fun a b : EReal => a * b) e1 e0).trans (mul_comm (entry x1 _) (entry x0 _))

theorem algebraic3 : Cert.algebraic_Kernel3Ideal_Reference3Ideal := fun m g m' g' _ h =>
  ⟨fun c => Cert.Kernel3Ideal.Value.G2 m c, Cert.Kernel3Ideal.Value.run m g,
    (θ_run Cert.Reference3Ideal.defs _ _).mono (fun r hr c => ⟨(hr c).1.trans (by
      obtain ⟨h0, h1⟩ := h c
      rw [h0, h1]
      refine (Cert.Reference3Ideal.Read.val_main_v5_eq _ _).trans (funext fun i => ?_)
      exact (reference3_apply _ _ i).trans (Cert.Kernel3Ideal.Hand.result_apply m c i).symm), (hr c).2⟩)
      (Cert.Reference3Ideal.Value.run m' g')⟩

end Cert.Proof

end
-- ==== Proof.UpDx.lean ====
module

public import proofs.«01_k».proof.Defs
public import proofs.«01_k».proof.Proof.Gen.Kernel4
public import proofs.«01_k».proof.Proof.Gen.Kernel4Ideal.Value
public import proofs.«01_k».proof.Proof.Gen.Reference4Ideal.Read
public import proofs.«01_k».proof.Proof.ProductSum
public import Idealize.ShloMosaic.Lib.Pointwise
public import Idealize.ShloMosaic.Lib.Pipeline.ReadBack

/-! # The input's gradient of the feed-forward layer's first product, dy·wᵀ in bf16: frame and value -/

@[expose] public section

namespace Cert.Kernel4Ideal.Hand

open Cert.Kernel4Ideal.Gen Cert.Kernel4Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S1x1024x2816) hz3,
    View.ld_unit_zero (S := S1024x2816) hz, shapeCast_self]

theorem next (n : ℕ) (h : n < cfg0.N) (y : S1024x1024.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S1x1024x2816) hz3, View.ld_unit_zero (S := S1024x2816) hz,
      View.ld_unit_zero (S := S1024x1024) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S1x1024x2816) hz3, View.ld_unit_zero (S := S1024x2816) hz,
      View.ld_unit_zero (S := S1024x1024) hz, shapeCast_self, read_unread_whole]
    rfl

/-- The output is the scratch, cast to bf16: the same value. -/
theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x1024) _ hz]
  rfl

/-- The blocks the three windows are on at point `t`. -/
theorem blocks : ∀ t : Fin cfg0.N, win0_0.index t = ![t.val % 4 / 2, t.val / 4 / 2, t.val % 4 % 2] ∧ win0_1.index t = ![t.val / 4 % 2, t.val % 4] :=
  (by decide +kernel : ∀ t : Fin grid0.N, _)

/-- The summand of the result's entry `(r, l)` at place `k` of the contracted axis. -/
noncomputable def term (r l k : ℕ) : EReal :=
  entry (m ((c : Thread nD τ).loc main_arg0) : S2x8192x5632.Idx → EReal) ![k / 5632, r, k % 5632]
    * entry (m ((c : Thread nD τ).loc main_arg1) : S2048x11264.Idx → EReal) ![l, k]

theorem part_apply (n : ℕ) (h : n < cfg0.N) (y : S1024x1024.Idx) : part m c n h y = ∑ k : Fin 2816,
    term m c (1024 * (n / 4 / 2) + (y 0).val) (1024 * (n / 4 % 2) + (y 1).val) (2816 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix3 0 (y 0) k)) _ ?_
    show ∀ a, win0_0.index ⟨n, h⟩ a * _ + 1 * (ValueIdx.ix3 0 (y 0) k a).val = _
    rw [(blocks ⟨n, h⟩).1]
    exact fun
      | 0 => by
        show n % 4 / 2 * 1 + 1 * 0 = (2816 * (n % 4) + k.val) / 5632
        omega
      | 1 => block_coord _ _ _
      | 2 => by
        show n % 4 % 2 * 2816 + 1 * k.val = (2816 * (n % 4) + k.val) % 5632
        omega
  · refine entry_val (m ((c : Thread nD τ).loc main_arg1)) (((cfg0.win 1).blk ⟨n, h⟩).view.emb (ValueIdx.ix2 (y 1) k)) _ ?_
    show ∀ a, win0_1.index ⟨n, h⟩ a * _ + 1 * (ValueIdx.ix2 (y 1) k a).val = _
    rw [(blocks ⟨n, h⟩).2]
    exact fun | 0 => block_coord _ _ _ | 1 => block_coord _ _ _

/-- THE RESULT, entry by entry: the product of the two operands, contracted over their columns. -/
theorem result_apply (i : S8192x2048.Idx) :
    (G2 m c : S8192x2048.Idx → EReal) i = ∑ k : Fin 11264, term m c (i 0).val (i 1).val k.val := by
  have h0 : (i 0).val < 8192 := (i 0).isLt
  have h1 : (i 1).val < 2048 := (i 1).isLt
  have hN : cfg0.N = 64 := N_0
  have e : pt2Of i = 4 * (2 * ((i 0).val / 1024) + (i 1).val / 1024) + (4 - 1) := by
    show 4 * (2 * ((i 0).val / 1024 - 0) + 1 * ((i 1).val / 1024 - 0)) + 3 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel4Ideal.Hand

namespace Cert.Proof

open Idealize.ShloMosaic Idealize.ShloMosaic.TcCoe Idealize.SL.Sem Cert.Tiles

theorem bodies4 : Cert.Kernel4.defs₀ (F := Bits) = Cert.Kernel4Ideal.defs₀ (F := Bits) :=
  congrArg Defs.onTc (funext fun l => funext fun x => match l, x with | 0, (_, _) => rfl)

theorem frame_Kernel4 : Cert.quiescent_Kernel4 := fun m g _ =>
  (congrArg (fun d => θ_run (Pipeline.defs _ d) _ _ _) bodies4).mpr (Cert.Kernel4Ideal.Gen.frame (F := Bits) m g)

theorem frame_Kernel4Ideal : Cert.quiescent_Kernel4Ideal := fun m g _ => Cert.Kernel4Ideal.Gen.frame m g

theorem frame_Reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The reference's gradient at an entry is the same sum. -/
theorem reference4_apply (x0 : Cert.Reference4Ideal.S2x8192x5632.Idx → EReal) (x1 : Cert.Reference4Ideal.S2048x11264.Idx → EReal)
    (i : Cert.Reference4Ideal.S8192x2048.Idx) :
    (Cert.Reference4Ideal.Read.val_main_v7 (F := Ideal) x0 x1 : Cert.Reference4Ideal.S8192x2048.Idx → EReal) i
      = ∑ k : Fin 11264, entry x0 ![k.val / 5632, (i 0).val, k.val % 5632] * entry x1 ![(i 1).val, k.val] := by
  refine (Cert.Reference4Ideal.Read.val_main_v7_apply (F := Ideal) x0 x1 i).trans ((Cert.Reference4Ideal.Read.val_main_v6_apply x0 x1 _).trans ?_)
  refine Finset.sum_congr rfl fun k _ => congrArg₂ (fun a b : EReal => a * b) ?_ ?_
  · refine (Cert.Reference4Ideal.Read.val_main_v1_apply (F := Ideal) x0 _).trans ((Cert.Reference4Ideal.Read.val_main_v0_apply (F := Ideal) x0 _).trans ?_)
    exact entry_val x0 _ _ fun
      | 0 => by show ((i 0).val * 11264 + k.val) / 5632 % 2 = k.val / 5632; omega
      | 1 => by show ((i 0).val * 11264 + k.val) / 11264 = (i 0).val; omega
      | 2 => by show ((i 0).val * 11264 + k.val) % 5632 = k.val % 5632; omega
  · exact entry_val x1 (Cert.Reference4Ideal.Read.ridx_main_v6 i k) _ fun | 0 => rfl | 1 => rfl

theorem algebraic4 : Cert.algebraic_Kernel4Ideal_Reference4Ideal := fun m g m' g' _ h =>
  ⟨fun c => Cert.Kernel4Ideal.Value.G2 m c, Cert.Kernel4Ideal.Value.run m g,
    (θ_run Cert.Reference4Ideal.defs _ _).mono (fun r hr c => ⟨(hr c).1.trans (by
      obtain ⟨h0, h1⟩ := h c
      rw [h0, h1]
      refine (Cert.Reference4Ideal.Read.val_main_v7_eq _ _).trans (funext fun i => ?_)
      exact (reference4_apply _ _ i).trans (Cert.Kernel4Ideal.Hand.result_apply m c i).symm), (hr c).2⟩)
      (Cert.Reference4Ideal.Value.run m' g')⟩

end Cert.Proof

end
-- ==== Proof.UpDw.lean ====
module

public import proofs.«01_k».proof.Defs
public import proofs.«01_k».proof.Proof.Gen.Kernel5
public import proofs.«01_k».proof.Proof.Gen.Kernel5Ideal.Value
public import proofs.«01_k».proof.Proof.Gen.Reference5Ideal.Read
public import proofs.«01_k».proof.Proof.ProductSum
public import Idealize.ShloMosaic.Lib.Pointwise
public import Idealize.ShloMosaic.Lib.Pipeline.ReadBack

/-! # The weight gradient of the feed-forward layer's first product, xᵀ·dy: frame and value -/

@[expose] public section

namespace Cert.Kernel5Ideal.Hand

open Cert.Kernel5Ideal.Gen Cert.Kernel5Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x512.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S2048x1024) hz,
    View.ld_unit_zero (S := S1x2048x512) hz3, shapeCast_self]

theorem next (n : ℕ) (h : n < cfg0.N) (y : S1024x512.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S2048x1024) hz, View.ld_unit_zero (S := S1x2048x512) hz3,
      View.ld_unit_zero (S := S1024x512) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S2048x1024) hz, View.ld_unit_zero (S := S1x2048x512) hz3,
      View.ld_unit_zero (S := S1024x512) hz, shapeCast_self, read_unread_whole]
    rfl

theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x512) _ hz]

/-- The blocks the three windows are on at point `t`. -/
theorem blocks : ∀ t : Fin cfg0.N, win0_0.index t = ![t.val % 4, t.val / 4 / 22] ∧ win0_1.index t = ![t.val / 4 % 22 / 11, t.val % 4, t.val / 4 % 22 % 11] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![k, r]
    * entry (m ((c : Thread nD τ).loc main_arg1) : S2x8192x5632.Idx → EReal) ![l / 5632, k, l % 5632]

theorem part_apply (n : ℕ) (h : n < cfg0.N) (y : S1024x512.Idx) : part m c n h y = ∑ k : Fin 2048,
    term m c (1024 * (n / 4 / 22) + (y 0).val) (512 * (n / 4 % 22) + (y 1).val) (2048 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 k (y 0))) _ ?_
    show ∀ a, win0_0.index ⟨n, h⟩ a * _ + 1 * (ValueIdx.ix2 k (y 0) a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix3 0 k (y 1))) _ ?_
    show ∀ a, win0_1.index ⟨n, h⟩ a * _ + 1 * (ValueIdx.ix3 0 k (y 1) a).val = _
    rw [(blocks ⟨n, h⟩).2]
    have hy : (y 1).val < 512 := (y 1).isLt
    exact fun
      | 0 => by
        show n / 4 % 22 / 11 * 1 + 1 * 0 = (512 * (n / 4 % 22) + (y 1).val) / 5632
        omega
      | 1 => block_coord _ _ _
      | 2 => by
        show n / 4 % 22 % 11 * 512 + 1 * (y 1).val = (512 * (n / 4 % 22) + (y 1).val) % 5632
        omega

/-- THE RESULT, entry by entry: the product of the two operands, contracted over their rows. -/
theorem result_apply (i : S2048x11264.Idx) :
    (G2 m c : S2048x11264.Idx → EReal) i = ∑ k : Fin 8192, term m c (i 0).val (i 1).val k.val := by
  have h0 : (i 0).val < 2048 := (i 0).isLt
  have h1 : (i 1).val < 11264 := (i 1).isLt
  have hN : cfg0.N = 176 := N_0
  have e : pt2Of i = 4 * (22 * ((i 0).val / 1024) + (i 1).val / 512) + (4 - 1) := by
    show 4 * (22 * ((i 0).val / 1024 - 0) + 1 * ((i 1).val / 512 - 0)) + 3 = _
    omega
  have hp : pt2Of i < cfg0.N := by omega
  unfold G2
  rw [dif_pos hp, ← outsAt0_sweep m c _ hp]
  exact blocked_sum (by decide) (by decide) (fun y : S1024x512.Idx => (y 0).val) (fun y => (y 1).val) (outsAt0 m c) (part m c)
    (first m c) (next m c) (out m c) (term m c) (part_apply m c) _ _ _ hp e (by omega) _ rfl rfl

end Cert.Kernel5Ideal.Hand

namespace Cert.Proof

open Idealize.ShloMosaic Idealize.ShloMosaic.TcCoe Idealize.SL.Sem Cert.Tiles

theorem bodies5 : Cert.Kernel5.defs₀ (F := Bits) = Cert.Kernel5Ideal.defs₀ (F := Bits) :=
  congrArg Defs.onTc (funext fun l => funext fun x => match l, x with | 0, (_, _) => rfl)

theorem frame_Kernel5 : Cert.quiescent_Kernel5 := fun m g _ =>
  (congrArg (fun d => θ_run (Pipeline.defs _ d) _ _ _) bodies5).mpr (Cert.Kernel5Ideal.Gen.frame (F := Bits) m g)

theorem frame_Kernel5Ideal : Cert.quiescent_Kernel5Ideal := fun m g _ => Cert.Kernel5Ideal.Gen.frame m g

theorem frame_Reference5Ideal : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The reference's gradient at an entry is the same sum. -/
theorem reference5_apply (x0 : Cert.Reference5Ideal.S8192x2048.Idx → EReal) (x1 : Cert.Reference5Ideal.S2x8192x5632.Idx → EReal)
    (i : Cert.Reference5Ideal.S2048x11264.Idx) :
    (Cert.Reference5Ideal.Read.val_main_v7 (F := Ideal) x0 x1 : Cert.Reference5Ideal.S2048x11264.Idx → EReal) i
      = ∑ k : Fin 8192, entry x0 ![k.val, (i 0).val] * entry x1 ![(i 1).val / 5632, k.val, (i 1).val % 5632] := by
  refine (Cert.Reference5Ideal.Read.val_main_v7_apply (F := Ideal) x0 x1 i).trans ((Cert.Reference5Ideal.Read.val_main_v6_apply x0 x1 _).trans ?_)
  refine Finset.sum_congr rfl fun k _ => (congrArg₂ (fun a b : EReal => a * b) ?_ ?_).trans (mul_comm (entry x1 _) (entry x0 _))
  · refine (Cert.Reference5Ideal.Read.val_main_v1_apply (F := Ideal) x1 _).trans ((Cert.Reference5Ideal.Read.val_main_v0_apply (F := Ideal) x1 _).trans ?_)
    have h1 : (i 1).val < 11264 := (i 1).isLt
    exact entry_val x1 _ _ fun
      | 0 => by show (k.val * 11264 + (i 1).val) / 5632 % 2 = (i 1).val / 5632; omega
      | 1 => by show (k.val * 11264 + (i 1).val) / 11264 = k.val; omega
      | 2 => by show (k.val * 11264 + (i 1).val) % 5632 = (i 1).val % 5632; omega
  · exact entry_val x0 (Cert.Reference5Ideal.Read.ridx_main_v6 (Cert.Reference5Ideal.Read.idx_main_v7 i) k) _ fun | 0 => rfl | 1 => rfl

theorem algebraic5 : Cert.algebraic_Kernel5Ideal_Reference5Ideal := fun m g m' g' _ h =>
  ⟨fun c => Cert.Kernel5Ideal.Value.G2 m c, Cert.Kernel5Ideal.Value.run m g,
    (θ_run Cert.Reference5Ideal.defs _ _).mono (fun r hr c => ⟨(hr c).1.trans (by
      obtain ⟨h0, h1⟩ := h c
      rw [h0, h1]
      refine (Cert.Reference5Ideal.Read.val_main_v7_eq _ _).trans (funext fun i => ?_)
      exact (reference5_apply _ _ i).trans (Cert.Kernel5Ideal.Hand.result_apply m c i).symm), (hr c).2⟩)
      (Cert.Reference5Ideal.Value.run m' g')⟩

end Cert.Proof

end
-- ==== Proof.Pw1Dx.lean ====
module

public import proofs.«01_k».proof.Defs
public import proofs.«01_k».proof.Proof.Gen.Kernel6
public import proofs.«01_k».proof.Proof.Gen.Kernel6Ideal.Value
public import proofs.«01_k».proof.Proof.Gen.Reference6Ideal.Read
public import proofs.«01_k».proof.Proof.ProductSum
public import Idealize.ShloMosaic.Lib.Pointwise
public import Idealize.ShloMosaic.Lib.Pipeline.ReadBack

/-! # The input's gradient of the convolution module's first product, dy·wᵀ in bf16: frame and value -/

@[expose] public section

namespace Cert.Kernel6Ideal.Hand

open Cert.Kernel6Ideal.Gen Cert.Kernel6Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 2 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S1024x2048) hz, shapeCast_self]

theorem next (n : ℕ) (h : n < cfg0.N) (y : S1024x1024.Idx) (h0 : n % 2 ≠ 0) :
    (outsAt0 m c n h).2 y = (outsAt0 m c (n - 1) (Nat.lt_of_le_of_lt (Nat.sub_le _ _) h)).2 y + part m c n h y := by
  rw [show outsAt0 m c n h = _ from outsAt0_B m c ⟨n, h⟩ h0 (by dsimp only; omega) (by dsimp only; omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  unfold k0_pay3
  simp only [View.readAt_eq_ld, Memref.IsWhole.read_unread, View.ld_unit_zero (S := S1024x2048) hz,
    View.ld_unit_zero (S := S1024x1024) hz, shapeCast_self, read_unread_whole]
  rfl

/-- The output is the scratch, cast to bf16: the same value. -/
theorem out (n : ℕ) (h : n < cfg0.N) (h1 : n % 2 = 1) : (outsAt0 m c n h).1 = (outsAt0 m c n h).2 := by
  rw [show outsAt0 m c n h = _ from outsAt0_B m c ⟨n, h⟩ (by dsimp only; omega) h1 h1]
  dsimp only
  unfold out0_B_2 sout0_B_0
  rw [View.read_writes_eq_canon _ _ _ (cover0_B_2 _ _ _ _ _ _ _ _ _ _ _ _ _ _ _ _),
    View.read_writes_eq_canon _ _ _ (scover0_B_0 _ _ _ _ _ _ _ _ _ _ _ _ _ _ _ _)]
  unfold kernelRun0_B
  dsimp only
  sl_unfold_words
  rw [View.canon_unit_zero hz, View.canon_unit_zero hz, View.readCov_unit_zero (S := S1024x1024) _ hz]
  rfl

/-- The blocks the three windows are on at point `t`. -/
theorem blocks : ∀ t : Fin cfg0.N, win0_0.index t = ![t.val / 2 / 2, t.val % 2] ∧ win0_1.index t = ![t.val / 2 % 2, t.val % 2] :=
  (by decide +kernel : ∀ t : Fin grid0.N, _)

/-- The summand of the result's entry `(r, l)` at place `k` of the contracted axis. -/
noncomputable def term (r l k : ℕ) : EReal :=
  entry (m ((c : Thread nD τ).loc main_arg0) : S8192x4096.Idx → EReal) ![r, k]
    * entry (m ((c : Thread nD τ).loc main_arg1) : S2048x4096.Idx → EReal) ![l, k]

theorem part_apply (n : ℕ) (h : n < cfg0.N) (y : S1024x1024.Idx) : part m c n h y = ∑ k : Fin 2048,
    term m c (1024 * (n / 2 / 2) + (y 0).val) (1024 * (n / 2 % 2) + (y 1).val) (2048 * (n % 2) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 (y 0) k)) _ ?_
    show ∀ a, win0_0.index ⟨n, h⟩ a * _ + 1 * (ValueIdx.ix2 (y 0) k a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 (y 1) k)) _ ?_
    show ∀ a, win0_1.index ⟨n, h⟩ a * _ + 1 * (ValueIdx.ix2 (y 1) k a).val = _
    rw [(blocks ⟨n, h⟩).2]
    exact fun | 0 => block_coord _ _ _ | 1 => block_coord _ _ _

/-- THE RESULT, entry by entry: the product of the two operands, contracted over their columns. -/
theorem result_apply (i : S8192x2048.Idx) :
    (G2 m c : S8192x2048.Idx → EReal) i = ∑ k : Fin 4096, term m c (i 0).val (i 1).val k.val := by
  have h0 : (i 0).val < 8192 := (i 0).isLt
  have h1 : (i 1).val < 2048 := (i 1).isLt
  have hN : cfg0.N = 32 := N_0
  have e : pt2Of i = 2 * (2 * ((i 0).val / 1024) + (i 1).val / 1024) + (2 - 1) := by
    show 2 * (2 * ((i 0).val / 1024 - 0) + 1 * ((i 1).val / 1024 - 0)) + 1 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel6Ideal.Hand

namespace Cert.Proof

open Idealize.ShloMosaic Idealize.ShloMosaic.TcCoe Idealize.SL.Sem Cert.Tiles

theorem bodies6 : Cert.Kernel6.defs₀ (F := Bits) = Cert.Kernel6Ideal.defs₀ (F := Bits) :=
  congrArg Defs.onTc (funext fun l => funext fun x => match l, x with | 0, (_, _) => rfl)

theorem frame_Kernel6 : Cert.quiescent_Kernel6 := fun m g _ =>
  (congrArg (fun d => θ_run (Pipeline.defs _ d) _ _ _) bodies6).mpr (Cert.Kernel6Ideal.Gen.frame (F := Bits) m g)

theorem frame_Kernel6Ideal : Cert.quiescent_Kernel6Ideal := fun m g _ => Cert.Kernel6Ideal.Gen.frame m g

theorem frame_Reference6Ideal : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The reference's gradient at an entry is the same sum. -/
theorem reference6_apply (x0 : Cert.Reference6Ideal.S8192x4096.Idx → EReal) (x1 : Cert.Reference6Ideal.S2048x4096.Idx → EReal)
    (i : Cert.Reference6Ideal.S8192x2048.Idx) :
    (Cert.Reference6Ideal.Read.val_main_v5 (F := Ideal) x0 x1 : Cert.Reference6Ideal.S8192x2048.Idx → EReal) i
      = ∑ k : Fin 4096, entry x0 ![(i 0).val, k.val] * entry x1 ![(i 1).val, k.val] := by
  refine (Cert.Reference6Ideal.Read.val_main_v5_apply (F := Ideal) x0 x1 i).trans ((Cert.Reference6Ideal.Read.val_main_v4_apply x0 x1 _).trans ?_)
  refine Finset.sum_congr rfl fun k _ => congrArg₂ (fun a b : EReal => a * b) ?_ ?_
  · exact entry_val x0 (Cert.Reference6Ideal.Read.lidx_main_v4 i k) _ fun | 0 => rfl | 1 => rfl
  · exact entry_val x1 (Cert.Reference6Ideal.Read.ridx_main_v4 i k) _ fun | 0 => rfl | 1 => rfl

theorem algebraic6 : Cert.algebraic_Kernel6Ideal_Reference6Ideal := fun m g m' g' _ h =>
  ⟨fun c => Cert.Kernel6Ideal.Value.G2 m c, Cert.Kernel6Ideal.Value.run m g,
    (θ_run Cert.Reference6Ideal.defs _ _).mono (fun r hr c => ⟨(hr c).1.trans (by
      obtain ⟨h0, h1⟩ := h c
      rw [h0, h1]
      refine (Cert.Reference6Ideal.Read.val_main_v5_eq _ _).trans (funext fun i => ?_)
      exact (reference6_apply _ _ i).trans (Cert.Kernel6Ideal.Hand.result_apply m c i).symm), (hr c).2⟩)
      (Cert.Reference6Ideal.Value.run m' g')⟩

end Cert.Proof

end
-- ==== Proof.Pw1Dw.lean ====
module

public import proofs.«01_k».proof.Defs
public import proofs.«01_k».proof.Proof.Gen.Kernel7
public import proofs.«01_k».proof.Proof.Gen.Kernel7Ideal.Value
public import proofs.«01_k».proof.Proof.Gen.Reference7Ideal.Read
public import proofs.«01_k».proof.Proof.ProductSum
public import Idealize.ShloMosaic.Lib.Pointwise
public import Idealize.ShloMosaic.Lib.Pipeline.ReadBack

/-! # The weight gradient of the convolution module's first product, xᵀ·dy: frame and value -/

@[expose] public section

namespace Cert.Kernel7Ideal.Hand

open Cert.Kernel7Ideal.Gen Cert.Kernel7Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S2048x1024) hz, shapeCast_self]

theorem next (n : ℕ) (h : n < cfg0.N) (y : S1024x1024.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl

theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x1024) _ hz]

/-- The blocks the three windows are on at point `t`. -/
theorem blocks : ∀ t : Fin cfg0.N, win0_0.index t = ![t.val % 4, t.val / 4 / 4] ∧ win0_1.index t = ![t.val % 4, t.val / 4 % 4] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![k, r]
    * entry (m ((c : Thread nD τ).loc main_arg1) : S8192x4096.Idx → EReal) ![k, l]

theorem part_apply (n : ℕ) (h : n < cfg0.N) (y : S1024x1024.Idx) : part m c n h y = ∑ k : Fin 2048,
    term m c (1024 * (n / 4 / 4) + (y 0).val) (1024 * (n / 4 % 4) + (y 1).val) (2048 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 k (y 0))) _ ?_
    show ∀ a, win0_0.index ⟨n, h⟩ a * _ + 1 * (ValueIdx.ix2 k (y 0) a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 k (y 1))) _ ?_
    show ∀ a, win0_1.index ⟨n, h⟩ a * _ + 1 * (ValueIdx.ix2 k (y 1) a).val = _
    rw [(blocks ⟨n, h⟩).2]
    exact fun | 0 => block_coord _ _ _ | 1 => block_coord _ _ _

/-- THE RESULT, entry by entry: the product of the two operands, contracted over their rows. -/
theorem result_apply (i : S2048x4096.Idx) :
    (G2 m c : S2048x4096.Idx → EReal) i = ∑ k : Fin 8192, term m c (i 0).val (i 1).val k.val := by
  have h0 : (i 0).val < 2048 := (i 0).isLt
  have h1 : (i 1).val < 4096 := (i 1).isLt
  have hN : cfg0.N = 32 := N_0
  have e : pt2Of i = 4 * (4 * ((i 0).val / 1024) + (i 1).val / 1024) + (4 - 1) := by
    show 4 * (4 * ((i 0).val / 1024 - 0) + 1 * ((i 1).val / 1024 - 0)) + 3 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel7Ideal.Hand

namespace Cert.Proof

open Idealize.ShloMosaic Idealize.ShloMosaic.TcCoe Idealize.SL.Sem Cert.Tiles

theorem bodies7 : Cert.Kernel7.defs₀ (F := Bits) = Cert.Kernel7Ideal.defs₀ (F := Bits) :=
  congrArg Defs.onTc (funext fun l => funext fun x => match l, x with | 0, (_, _) => rfl)

theorem frame_Kernel7 : Cert.quiescent_Kernel7 := fun m g _ =>
  (congrArg (fun d => θ_run (Pipeline.defs _ d) _ _ _) bodies7).mpr (Cert.Kernel7Ideal.Gen.frame (F := Bits) m g)

theorem frame_Kernel7Ideal : Cert.quiescent_Kernel7Ideal := fun m g _ => Cert.Kernel7Ideal.Gen.frame m g

theorem frame_Reference7Ideal : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The reference's gradient at an entry is the same sum. -/
theorem reference7_apply (x0 : Cert.Reference7Ideal.S8192x2048.Idx → EReal) (x1 : Cert.Reference7Ideal.S8192x4096.Idx → EReal)
    (i : Cert.Reference7Ideal.S2048x4096.Idx) :
    (Cert.Reference7Ideal.Read.val_main_v5 (F := Ideal) x0 x1 : Cert.Reference7Ideal.S2048x4096.Idx → EReal) i
      = ∑ k : Fin 8192, entry x0 ![k.val, (i 0).val] * entry x1 ![k.val, (i 1).val] := by
  refine (Cert.Reference7Ideal.Read.val_main_v5_apply (F := Ideal) x0 x1 i).trans ((Cert.Reference7Ideal.Read.val_main_v4_apply x0 x1 _).trans ?_)
  refine Finset.sum_congr rfl fun k _ => (congrArg₂ (fun a b : EReal => a * b) ?_ ?_).trans (mul_comm (entry x1 _) (entry x0 _))
  · exact entry_val x1 (Cert.Reference7Ideal.Read.lidx_main_v4 (Cert.Reference7Ideal.Read.idx_main_v5 i) k) _ fun | 0 => rfl | 1 => rfl
  · exact entry_val x0 (Cert.Reference7Ideal.Read.ridx_main_v4 (Cert.Reference7Ideal.Read.idx_main_v5 i) k) _ fun | 0 => rfl | 1 => rfl

theorem algebraic7 : Cert.algebraic_Kernel7Ideal_Reference7Ideal := fun m g m' g' _ h =>
  ⟨fun c => Cert.Kernel7Ideal.Value.G2 m c, Cert.Kernel7Ideal.Value.run m g,
    (θ_run Cert.Reference7Ideal.defs _ _).mono (fun r hr c => ⟨(hr c).1.trans (by
      obtain ⟨h0, h1⟩ := h c
      rw [h0, h1]
      refine (Cert.Reference7Ideal.Read.val_main_v5_eq _ _).trans (funext fun i => ?_)
      exact (reference7_apply _ _ i).trans (Cert.Kernel7Ideal.Hand.result_apply m c i).symm), (hr c).2⟩)
      (Cert.Reference7Ideal.Value.run m' g')⟩

end Cert.Proof

end
-- ==== Proof.QDx.lean ====
module

public import proofs.«01_k».proof.Defs
public import proofs.«01_k».proof.Proof.Gen.Kernel8
public import proofs.«01_k».proof.Proof.Gen.Kernel8Ideal.Value
public import proofs.«01_k».proof.Proof.Gen.Reference8Ideal.Read
public import proofs.«01_k».proof.Proof.ProductSum
public import Idealize.ShloMosaic.Lib.Pointwise
public import Idealize.ShloMosaic.Lib.Pipeline.ReadBack

/-! # The input's gradient of the query projection, dy·wᵀ in bf16: frame and value -/

@[expose] public section

namespace Cert.Kernel8Ideal.Hand

open Cert.Kernel8Ideal.Gen Cert.Kernel8Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 2 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S1024x1536) hz, shapeCast_self]

theorem next (n : ℕ) (h : n < cfg0.N) (y : S1024x1024.Idx) (h0 : n % 2 ≠ 0) :
    (outsAt0 m c n h).2 y = (outsAt0 m c (n - 1) (Nat.lt_of_le_of_lt (Nat.sub_le _ _) h)).2 y + part m c n h y := by
  rw [show outsAt0 m c n h = _ from outsAt0_B m c ⟨n, h⟩ h0 (by dsimp only; omega) (by dsimp only; omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  unfold k0_pay3
  simp only [View.readAt_eq_ld, Memref.IsWhole.read_unread, View.ld_unit_zero (S := S1024x1536) hz,
    View.ld_unit_zero (S := S1024x1024) hz, shapeCast_self, read_unread_whole]
  rfl

/-- The output is the scratch, cast to bf16: the same value. -/
theorem out (n : ℕ) (h : n < cfg0.N) (h1 : n % 2 = 1) : (outsAt0 m c n h).1 = (outsAt0 m c n h).2 := by
  rw [show outsAt0 m c n h = _ from outsAt0_B m c ⟨n, h⟩ (by dsimp only; omega) h1 h1]
  dsimp only
  unfold out0_B_2 sout0_B_0
  rw [View.read_writes_eq_canon _ _ _ (cover0_B_2 _ _ _ _ _ _ _ _ _ _ _ _ _ _ _ _),
    View.read_writes_eq_canon _ _ _ (scover0_B_0 _ _ _ _ _ _ _ _ _ _ _ _ _ _ _ _)]
  unfold kernelRun0_B
  dsimp only
  sl_unfold_words
  rw [View.canon_unit_zero hz, View.canon_unit_zero hz, View.readCov_unit_zero (S := S1024x1024) _ hz]
  rfl

/-- The blocks the three windows are on at point `t`. -/
theorem blocks : ∀ t : Fin cfg0.N, win0_0.index t = ![t.val / 2 / 2, t.val % 2] ∧ win0_1.index t = ![t.val / 2 % 2, t.val % 2] :=
  (by decide +kernel : ∀ t : Fin grid0.N, _)

/-- The summand of the result's entry `(r, l)` at place `k` of the contracted axis. -/
noncomputable def term (r l k : ℕ) : EReal :=
  entry (m ((c : Thread nD τ).loc main_arg0) : S8192x3072.Idx → EReal) ![r, k]
    * entry (m ((c : Thread nD τ).loc main_arg1) : S2048x3072.Idx → EReal) ![l, k]

theorem part_apply (n : ℕ) (h : n < cfg0.N) (y : S1024x1024.Idx) : part m c n h y = ∑ k : Fin 1536,
    term m c (1024 * (n / 2 / 2) + (y 0).val) (1024 * (n / 2 % 2) + (y 1).val) (1536 * (n % 2) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 (y 0) k)) _ ?_
    show ∀ a, win0_0.index ⟨n, h⟩ a * _ + 1 * (ValueIdx.ix2 (y 0) k a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 (y 1) k)) _ ?_
    show ∀ a, win0_1.index ⟨n, h⟩ a * _ + 1 * (ValueIdx.ix2 (y 1) k a).val = _
    rw [(blocks ⟨n, h⟩).2]
    exact fun | 0 => block_coord _ _ _ | 1 => block_coord _ _ _

/-- THE RESULT, entry by entry: the product of the two operands, contracted over their columns. -/
theorem result_apply (i : S8192x2048.Idx) :
    (G2 m c : S8192x2048.Idx → EReal) i = ∑ k : Fin 3072, term m c (i 0).val (i 1).val k.val := by
  have h0 : (i 0).val < 8192 := (i 0).isLt
  have h1 : (i 1).val < 2048 := (i 1).isLt
  have hN : cfg0.N = 32 := N_0
  have e : pt2Of i = 2 * (2 * ((i 0).val / 1024) + (i 1).val / 1024) + (2 - 1) := by
    show 2 * (2 * ((i 0).val / 1024 - 0) + 1 * ((i 1).val / 1024 - 0)) + 1 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel8Ideal.Hand

namespace Cert.Proof

open Idealize.ShloMosaic Idealize.ShloMosaic.TcCoe Idealize.SL.Sem Cert.Tiles

theorem bodies8 : Cert.Kernel8.defs₀ (F := Bits) = Cert.Kernel8Ideal.defs₀ (F := Bits) :=
  congrArg Defs.onTc (funext fun l => funext fun x => match l, x with | 0, (_, _) => rfl)

theorem frame_Kernel8 : Cert.quiescent_Kernel8 := fun m g _ =>
  (congrArg (fun d => θ_run (Pipeline.defs _ d) _ _ _) bodies8).mpr (Cert.Kernel8Ideal.Gen.frame (F := Bits) m g)

theorem frame_Kernel8Ideal : Cert.quiescent_Kernel8Ideal := fun m g _ => Cert.Kernel8Ideal.Gen.frame m g

theorem frame_Reference8Ideal : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The reference's gradient at an entry is the same sum. -/
theorem reference8_apply (x0 : Cert.Reference8Ideal.S8192x3072.Idx → EReal) (x1 : Cert.Reference8Ideal.S2048x3072.Idx → EReal)
    (i : Cert.Reference8Ideal.S8192x2048.Idx) :
    (Cert.Reference8Ideal.Read.val_main_v5 (F := Ideal) x0 x1 : Cert.Reference8Ideal.S8192x2048.Idx → EReal) i
      = ∑ k : Fin 3072, entry x0 ![(i 0).val, k.val] * entry x1 ![(i 1).val, k.val] := by
  refine (Cert.Reference8Ideal.Read.val_main_v5_apply (F := Ideal) x0 x1 i).trans ((Cert.Reference8Ideal.Read.val_main_v4_apply x0 x1 _).trans ?_)
  refine Finset.sum_congr rfl fun k _ => congrArg₂ (fun a b : EReal => a * b) ?_ ?_
  · exact entry_val x0 (Cert.Reference8Ideal.Read.lidx_main_v4 i k) _ fun | 0 => rfl | 1 => rfl
  · exact entry_val x1 (Cert.Reference8Ideal.Read.ridx_main_v4 i k) _ fun | 0 => rfl | 1 => rfl

theorem algebraic8 : Cert.algebraic_Kernel8Ideal_Reference8Ideal := fun m g m' g' _ h =>
  ⟨fun c => Cert.Kernel8Ideal.Value.G2 m c, Cert.Kernel8Ideal.Value.run m g,
    (θ_run Cert.Reference8Ideal.defs _ _).mono (fun r hr c => ⟨(hr c).1.trans (by
      obtain ⟨h0, h1⟩ := h c
      rw [h0, h1]
      refine (Cert.Reference8Ideal.Read.val_main_v5_eq _ _).trans (funext fun i => ?_)
      exact (reference8_apply _ _ i).trans (Cert.Kernel8Ideal.Hand.result_apply m c i).symm), (hr c).2⟩)
      (Cert.Reference8Ideal.Value.run m' g')⟩

end Cert.Proof

end
-- ==== Proof.QDw.lean ====
module

public import proofs.«01_k».proof.Defs
public import proofs.«01_k».proof.Proof.Gen.Kernel9
public import proofs.«01_k».proof.Proof.Gen.Kernel9Ideal.Value
public import proofs.«01_k».proof.Proof.Gen.Reference9Ideal.Read
public import proofs.«01_k».proof.Proof.ProductSum
public import Idealize.ShloMosaic.Lib.Pointwise
public import Idealize.ShloMosaic.Lib.Pipeline.ReadBack

/-! # The weight gradient of the query projection, xᵀ·dy: frame and value -/

@[expose] public section

namespace Cert.Kernel9Ideal.Hand

open Cert.Kernel9Ideal.Gen Cert.Kernel9Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S2048x1024) hz, shapeCast_self]

theorem next (n : ℕ) (h : n < cfg0.N) (y : S1024x1024.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl

theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x1024) _ hz]

/-- The blocks the three windows are on at point `t`. -/
theorem blocks : ∀ t : Fin cfg0.N, win0_0.index t = ![t.val % 4, t.val / 4 / 3] ∧ win0_1.index t = ![t.val % 4, t.val / 4 % 3] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![k, r]
    * entry (m ((c : Thread nD τ).loc main_arg1) : S8192x3072.Idx → EReal) ![k, l]

theorem part_apply (n : ℕ) (h : n < cfg0.N) (y : S1024x1024.Idx) : part m c n h y = ∑ k : Fin 2048,
    term m c (1024 * (n / 4 / 3) + (y 0).val) (1024 * (n / 4 % 3) + (y 1).val) (2048 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 k (y 0))) _ ?_
    show ∀ a, win0_0.index ⟨n, h⟩ a * _ + 1 * (ValueIdx.ix2 k (y 0) a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 k (y 1))) _ ?_
    show ∀ a, win0_1.index ⟨n, h⟩ a * _ + 1 * (ValueIdx.ix2 k (y 1) a).val = _
    rw [(blocks ⟨n, h⟩).2]
    exact fun | 0 => block_coord _ _ _ | 1 => block_coord _ _ _

/-- THE RESULT, entry by entry: the product of the two operands, contracted over their rows. -/
theorem result_apply (i : S2048x3072.Idx) :
    (G2 m c : S2048x3072.Idx → EReal) i = ∑ k : Fin 8192, term m c (i 0).val (i 1).val k.val := by
  have h0 : (i 0).val < 2048 := (i 0).isLt
  have h1 : (i 1).val < 3072 := (i 1).isLt
  have hN : cfg0.N = 24 := N_0
  have e : pt2Of i = 4 * (3 * ((i 0).val / 1024) + (i 1).val / 1024) + (4 - 1) := by
    show 4 * (3 * ((i 0).val / 1024 - 0) + 1 * ((i 1).val / 1024 - 0)) + 3 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel9Ideal.Hand

namespace Cert.Proof

open Idealize.ShloMosaic Idealize.ShloMosaic.TcCoe Idealize.SL.Sem Cert.Tiles

theorem bodies9 : Cert.Kernel9.defs₀ (F := Bits) = Cert.Kernel9Ideal.defs₀ (F := Bits) :=
  congrArg Defs.onTc (funext fun l => funext fun x => match l, x with | 0, (_, _) => rfl)

theorem frame_Kernel9 : Cert.quiescent_Kernel9 := fun m g _ =>
  (congrArg (fun d => θ_run (Pipeline.defs _ d) _ _ _) bodies9).mpr (Cert.Kernel9Ideal.Gen.frame (F := Bits) m g)

theorem frame_Kernel9Ideal : Cert.quiescent_Kernel9Ideal := fun m g _ => Cert.Kernel9Ideal.Gen.frame m g

theorem frame_Reference9Ideal : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- The reference's gradient at an entry is the same sum. -/
theorem reference9_apply (x0 : Cert.Reference9Ideal.S8192x2048.Idx → EReal) (x1 : Cert.Reference9Ideal.S8192x3072.Idx → EReal)
    (i : Cert.Reference9Ideal.S2048x3072.Idx) :
    (Cert.Reference9Ideal.Read.val_main_v5 (F := Ideal) x0 x1 : Cert.Reference9Ideal.S2048x3072.Idx → EReal) i
      = ∑ k : Fin 8192, entry x0 ![k.val, (i 0).val] * entry x1 ![k.val, (i 1).val] := by
  refine (Cert.Reference9Ideal.Read.val_main_v5_apply (F := Ideal) x0 x1 i).trans ((Cert.Reference9Ideal.Read.val_main_v4_apply x0 x1 _).trans ?_)
  refine Finset.sum_congr rfl fun k _ => (congrArg₂ (fun a b : EReal => a * b) ?_ ?_).trans (mul_comm (entry x1 _) (entry x0 _))
  · exact entry_val x1 (Cert.Reference9Ideal.Read.lidx_main_v4 (Cert.Reference9Ideal.Read.idx_main_v5 i) k) _ fun | 0 => rfl | 1 => rfl
  · exact entry_val x0 (Cert.Reference9Ideal.Read.ridx_main_v4 (Cert.Reference9Ideal.Read.idx_main_v5 i) k) _ fun | 0 => rfl | 1 => rfl

theorem algebraic9 : Cert.algebraic_Kernel9Ideal_Reference9Ideal := fun m g m' g' _ h =>
  ⟨fun c => Cert.Kernel9Ideal.Value.G2 m c, Cert.Kernel9Ideal.Value.run m g,
    (θ_run Cert.Reference9Ideal.defs _ _).mono (fun r hr c => ⟨(hr c).1.trans (by
      obtain ⟨h0, h1⟩ := h c
      rw [h0, h1]
      refine (Cert.Reference9Ideal.Read.val_main_v5_eq _ _).trans (funext fun i => ?_)
      exact (reference9_apply _ _ i).trans (Cert.Kernel9Ideal.Hand.result_apply m c i).symm), (hr c).2⟩)
      (Cert.Reference9Ideal.Value.run m' g')⟩

end Cert.Proof

end
-- ==== Proof.KvDw.lean ====
module

public import proofs.«01_k».proof.Defs
public import proofs.«01_k».proof.Proof.Gen.Kernel10
public import proofs.«01_k».proof.Proof.Gen.Kernel10Ideal.Value
public import proofs.«01_k».proof.Proof.Gen.Reference10Ideal.Read
public import proofs.«01_k».proof.Proof.ProductSum
public import Idealize.ShloMosaic.Lib.Pointwise
public import Idealize.ShloMosaic.Lib.Pipeline.ReadBack

/-! # The weight gradient of the key and value projection, xᵀ·dy: frame and value -/

@[expose] public section

namespace Cert.Kernel10Ideal.Hand

open Cert.Kernel10Ideal.Gen Cert.Kernel10Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S2048x1024) hz, shapeCast_self]

theorem next (n : ℕ) (h : n < cfg0.N) (y : S1024x1024.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl

theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x1024) _ hz]

/-- The blocks the three windows are on at point `t`. -/
theorem blocks : ∀ t : Fin cfg0.N, win0_0.index t = ![t.val % 4, t.val / 4 / 6] ∧ win0_1.index t = ![t.val % 4, t.val / 4 % 6] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![k, r]
    * entry (m ((c : Thread nD τ).loc main_arg1) : S8192x6144.Idx → EReal) ![k, l]

theorem part_apply (n : ℕ) (h : n < cfg0.N) (y : S1024x1024.Idx) : part m c n h y = ∑ k : Fin 2048,
    term m c (1024 * (n / 4 / 6) + (y 0).val) (1024 * (n / 4 % 6) + (y 1).val) (2048 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 k (y 0))) _ ?_
    show ∀ a, win0_0.index ⟨n, h⟩ a * _ + 1 * (ValueIdx.ix2 k (y 0) a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 k (y 1))) _ ?_
    show ∀ a, win0_1.index ⟨n, h⟩ a * _ + 1 * (ValueIdx.ix2 k (y 1) a).val = _
    rw [(blocks ⟨n, h⟩).2]
    exact fun | 0 => block_coord _ _ _ | 1 => block_coord _ _ _

/-- THE RESULT, entry by entry: the product of the two operands, contracted over their rows. -/
theorem result_apply (i : S2048x6144.Idx) :
    (G2 m c : S2048x6144.Idx → EReal) i = ∑ k : Fin 8192, term m c (i 0).val (i 1).val k.val := by
  have h0 : (i 0).val < 2048 := (i 0).isLt
  have h1 : (i 1).val < 6144 := (i 1).isLt
  have hN : cfg0.N = 48 := N_0
  have e : pt2Of i = 4 * (6 * ((i 0).val / 1024) + (i 1).val / 1024) + (4 - 1) := by
    show 4 * (6 * ((i 0).val / 1024 - 0) + 1 * ((i 1).val / 1024 - 0)) + 3 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel10Ideal.Hand

namespace Cert.Proof

open Idealize.ShloMosaic Idealize.ShloMosaic.TcCoe Idealize.SL.Sem Cert.Tiles

theorem bodies10 : Cert.Kernel10.defs₀ (F := Bits) = Cert.Kernel10Ideal.defs₀ (F := Bits) :=
  congrArg Defs.onTc (funext fun l => funext fun x => match l, x with | 0, (_, _) => rfl)

theorem frame_Kernel10 : Cert.quiescent_Kernel10 := fun m g _ =>
  (congrArg (fun d => θ_run (Pipeline.defs _ d) _ _ _) bodies10).mpr (Cert.Kernel10Ideal.Gen.frame (F := Bits) m g)

theorem frame_Kernel10Ideal : Cert.quiescent_Kernel10Ideal := fun m g _ => Cert.Kernel10Ideal.Gen.frame m g

theorem frame_Reference10Ideal : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The reference's gradient at an entry is the same sum. -/
theorem reference10_apply (x0 : Cert.Reference10Ideal.S8192x2048.Idx → EReal) (x1 : Cert.Reference10Ideal.S8192x6144.Idx → EReal)
    (i : Cert.Reference10Ideal.S2048x6144.Idx) :
    (Cert.Reference10Ideal.Read.val_main_v5 (F := Ideal) x0 x1 : Cert.Reference10Ideal.S2048x6144.Idx → EReal) i
      = ∑ k : Fin 8192, entry x0 ![k.val, (i 0).val] * entry x1 ![k.val, (i 1).val] := by
  refine (Cert.Reference10Ideal.Read.val_main_v5_apply (F := Ideal) x0 x1 i).trans ((Cert.Reference10Ideal.Read.val_main_v4_apply x0 x1 _).trans ?_)
  refine Finset.sum_congr rfl fun k _ => (congrArg₂ (fun a b : EReal => a * b) ?_ ?_).trans (mul_comm (entry x1 _) (entry x0 _))
  · exact entry_val x1 (Cert.Reference10Ideal.Read.lidx_main_v4 (Cert.Reference10Ideal.Read.idx_main_v5 i) k) _ fun | 0 => rfl | 1 => rfl
  · exact entry_val x0 (Cert.Reference10Ideal.Read.ridx_main_v4 (Cert.Reference10Ideal.Read.idx_main_v5 i) k) _ fun | 0 => rfl | 1 => rfl

theorem algebraic10 : Cert.algebraic_Kernel10Ideal_Reference10Ideal := fun m g m' g' _ h =>
  ⟨fun c => Cert.Kernel10Ideal.Value.G2 m c, Cert.Kernel10Ideal.Value.run m g,
    (θ_run Cert.Reference10Ideal.defs _ _).mono (fun r hr c => ⟨(hr c).1.trans (by
      obtain ⟨h0, h1⟩ := h c
      rw [h0, h1]
      refine (Cert.Reference10Ideal.Read.val_main_v5_eq _ _).trans (funext fun i => ?_)
      exact (reference10_apply _ _ i).trans (Cert.Kernel10Ideal.Hand.result_apply m c i).symm), (hr c).2⟩)
      (Cert.Reference10Ideal.Value.run m' g')⟩

end Cert.Proof

end
-- ==== Proof.Pw2Dx.lean ====
module

public import proofs.«01_k».proof.Defs
public import proofs.«01_k».proof.Proof.Gen.Kernel11
public import proofs.«01_k».proof.Proof.Gen.Kernel11Ideal.Value
public import proofs.«01_k».proof.Proof.Gen.Reference11Ideal.Read
public import proofs.«01_k».proof.Proof.ProductSum
public import Idealize.ShloMosaic.Lib.Pointwise
public import Idealize.ShloMosaic.Lib.Pipeline.ReadBack
public import Idealize.ShloMosaic.Lib.Pipeline.ValueKit.Geometry

/-! # The input's gradient of the convolution module's second product, dy·wᵀ in bf16: frame and value -/

@[expose] public section

namespace Cert.Kernel11Ideal.Hand

open Cert.Kernel11Ideal.Gen Cert.Kernel11Ideal.Value Cert.Tiles
open Idealize.ShloMosaic Idealize.ShloMosaic.TcCoe Idealize.SL Idealize.SL.Sem

variable (m : (ℓ : Loc nD τ sig) → Buf (Elt Ideal) ℓ) (c : Dev nD)

theorem out (t : Fin cfg0.N) : outsAt0 m c t = k0_pay1 (iblk m c 0 t) (iblk m c 1 t) := by
  unfold outsAt0 out0_A_2
  rw [View.read_writes_eq_canon _ _ _ (cover0_A_2 _ _ _ _ _ _ _ _ _ _ _ _)]
  unfold kernelRun0_A
  dsimp only
  sl_unfold_words
  rw [View.canon_unit_zero hz]
  simp only [View.readAt_eq_ld, Memref.IsWhole.read_unread, View.ld_unit_zero (S := S1024x2048) hz]

/-- The blocks the three windows are on at point `t`. -/
theorem blocks : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![r, k]
    * entry (m ((c : Thread nD τ).loc main_arg1) : S2048x2048.Idx → EReal) ![l, k]

/-- THE RESULT, entry by entry: the product of the two operands, contracted over their columns. -/
noncomputable def result : S8192x2048.Idx → EReal := fun i => ∑ k : Fin 2048, term m c (i 0).val (i 1).val k.val

/-- What point `t` leaves at the place `y` of its block is the result there. -/
theorem written (t : Fin cfg0.N) (y : S1024x1024.Idx) : outsAt0 m c t y = result m c (((cfg0.win 2).blk t).view.emb y) := by
  show _ = ∑ k : Fin 2048, term m c (((cfg0.win 2).blk t).view.emb y 0).val (((cfg0.win 2).blk t).view.emb y 1).val k.val
  rw [out]
  simp only [k0_pay1, pointwise, Ideal.ofBits_zero_f32, zero_add]
  have e0 : (((cfg0.win 2).blk t).view.emb y 0).val = 1024 * (t.val / 2) + (y 0).val := by
    show win0_2.index t 0 * 1024 + 1 * (y 0).val = _
    rw [(blocks t).2.2]; exact block_coord _ _ _
  have e1 : (((cfg0.win 2).blk t).view.emb y 1).val = 1024 * (t.val % 2) + (y 1).val := by
    show win0_2.index t 1 * 1024 + 1 * (y 1).val = _
    rw [(blocks t).2.2]; exact block_coord _ _ _
  rw [e0, e1]
  refine Finset.sum_congr rfl fun k _ => congrArg₂ (fun a b : EReal => a * b) ?_ ?_
  · refine entry_val (m ((c : Thread nD τ).loc main_arg0)) (((cfg0.win 0).blk t).view.emb (ValueIdx.ix2 (y 0) k)) _ ?_
    show ∀ a, win0_0.index t a * _ + 1 * (ValueIdx.ix2 (y 0) k a).val = _
    rw [(blocks t).1]
    exact fun | 0 => block_coord _ _ _ | 1 => (block_coord _ _ _).trans (Nat.zero_add _)
  · refine entry_val (m ((c : Thread nD τ).loc main_arg1)) (((cfg0.win 1).blk t).view.emb (ValueIdx.ix2 (y 1) k)) _ ?_
    show ∀ a, win0_1.index t a * _ + 1 * (ValueIdx.ix2 (y 1) k a).val = _
    rw [(blocks t).2.1]
    exact fun | 0 => block_coord _ _ _ | 1 => (block_coord _ _ _).trans (Nat.zero_add _)

theorem covers : (cfg0.win 2).Covers := by decide +kernel

/-- The blocks cover the array, so it ends holding the result. -/
theorem final : (dats m 0 c).arrAt 2 cfg0.N = result m c :=
  (dats m 0 c).arrAt_eq_of_cover 2 (result m c) (fun t _ => by
    rw [flushed2]
    funext y
    exact written m c t y) (covers.cover _ (Memref.isWhole_whole _))

end Cert.Kernel11Ideal.Hand

namespace Cert.Proof

open Idealize.ShloMosaic Idealize.ShloMosaic.TcCoe Idealize.SL.Sem Cert.Tiles

theorem bodies11 : Cert.Kernel11.defs₀ (F := Bits) = Cert.Kernel11Ideal.defs₀ (F := Bits) :=
  congrArg Defs.onTc (funext fun l => funext fun x => match l, x with | 0, (_, _) => rfl)

theorem frame_Kernel11 : Cert.quiescent_Kernel11 := fun m g _ =>
  (congrArg (fun d => θ_run (Pipeline.defs _ d) _ _ _) bodies11).mpr (Cert.Kernel11Ideal.Gen.frame (F := Bits) m g)

theorem frame_Kernel11Ideal : Cert.quiescent_Kernel11Ideal := fun m g _ => Cert.Kernel11Ideal.Gen.frame m g

theorem frame_Reference11Ideal : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

/-- The reference's gradient at an entry is the same sum. -/
theorem reference11_apply (x0 : Cert.Reference11Ideal.S8192x2048.Idx → EReal) (x1 : Cert.Reference11Ideal.S2048x2048.Idx → EReal)
    (i : Cert.Reference11Ideal.S8192x2048.Idx) :
    (Cert.Reference11Ideal.Read.val_main_v5 (F := Ideal) x0 x1 : Cert.Reference11Ideal.S8192x2048.Idx → EReal) i
      = ∑ k : Fin 2048, entry x0 ![(i 0).val, k.val] * entry x1 ![(i 1).val, k.val] := by
  refine (Cert.Reference11Ideal.Read.val_main_v5_apply (F := Ideal) x0 x1 i).trans ((Cert.Reference11Ideal.Read.val_main_v4_apply x0 x1 _).trans ?_)
  refine Finset.sum_congr rfl fun k _ => congrArg₂ (fun a b : EReal => a * b) ?_ ?_
  · exact entry_val x0 (Cert.Reference11Ideal.Read.lidx_main_v4 i k) _ fun | 0 => rfl | 1 => rfl
  · exact entry_val x1 (Cert.Reference11Ideal.Read.ridx_main_v4 i k) _ fun | 0 => rfl | 1 => rfl

theorem algebraic11 : Cert.algebraic_Kernel11Ideal_Reference11Ideal := fun m g m' g' _ h =>
  ⟨fun c => Cert.Kernel11Ideal.Hand.result m c,
    (θ_run Cert.Kernel11Ideal.defs _ _).mono (fun r hr c => ⟨(hr c).1.trans (Cert.Kernel11Ideal.Hand.final m c), (hr c).2⟩)
      (Cert.Kernel11Ideal.Value.run_blocks m g),
    (θ_run Cert.Reference11Ideal.defs _ _).mono (fun r hr c => ⟨(hr c).1.trans (by
      obtain ⟨h0, h1⟩ := h c
      rw [h0, h1]
      exact (Cert.Reference11Ideal.Read.val_main_v5_eq _ _).trans (funext fun i => reference11_apply _ _ i)), (hr c).2⟩)
      (Cert.Reference11Ideal.Value.run m' g')⟩

end Cert.Proof

end
-- ==== Proof.Pw2Dw.lean ====
module

public import proofs.«01_k».proof.Defs
public import proofs.«01_k».proof.Proof.Gen.Kernel12
public import proofs.«01_k».proof.Proof.Gen.Kernel12Ideal.Value
public import proofs.«01_k».proof.Proof.Gen.Reference12Ideal.Read
public import proofs.«01_k».proof.Proof.ProductSum
public import Idealize.ShloMosaic.Lib.Pointwise
public import Idealize.ShloMosaic.Lib.Pipeline.ReadBack

/-! # The weight gradient of the convolution module's second product, xᵀ·dy: frame and value -/

@[expose] public section

namespace Cert.Kernel12Ideal.Hand

open Cert.Kernel12Ideal.Gen Cert.Kernel12Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S2048x1024) hz, shapeCast_self]

theorem next (n : ℕ) (h : n < cfg0.N) (y : S1024x1024.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl

theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x1024) _ hz]

/-- The blocks the three windows are on at point `t`. -/
theorem blocks : ∀ t : Fin cfg0.N, win0_0.index t = ![t.val % 4, t.val / 4 / 2] ∧ win0_1.index t = ![t.val % 4, t.val / 4 % 2] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![k, r]
    * entry (m ((c : Thread nD τ).loc main_arg1) : S8192x2048.Idx → EReal) ![k, l]

theorem part_apply (n : ℕ) (h : n < cfg0.N) (y : S1024x1024.Idx) : part m c n h y = ∑ k : Fin 2048,
    term m c (1024 * (n / 4 / 2) + (y 0).val) (1024 * (n / 4 % 2) + (y 1).val) (2048 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 k (y 0))) _ ?_
    show ∀ a, win0_0.index ⟨n, h⟩ a * _ + 1 * (ValueIdx.ix2 k (y 0) a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 k (y 1))) _ ?_
    show ∀ a, win0_1.index ⟨n, h⟩ a * _ + 1 * (ValueIdx.ix2 k (y 1) a).val = _
    rw [(blocks ⟨n, h⟩).2]
    exact fun | 0 => block_coord _ _ _ | 1 => block_coord _ _ _

/-- THE RESULT, entry by entry: the product of the two operands, contracted over their rows. -/
theorem result_apply (i : S2048x2048.Idx) :
    (G2 m c : S2048x2048.Idx → EReal) i = ∑ k : Fin 8192, term m c (i 0).val (i 1).val k.val := by
  have h0 : (i 0).val < 2048 := (i 0).isLt
  have h1 : (i 1).val < 2048 := (i 1).isLt
  have hN : cfg0.N = 16 := N_0
  have e : pt2Of i = 4 * (2 * ((i 0).val / 1024) + (i 1).val / 1024) + (4 - 1) := by
    show 4 * (2 * ((i 0).val / 1024 - 0) + 1 * ((i 1).val / 1024 - 0)) + 3 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel12Ideal.Hand

namespace Cert.Proof

open Idealize.ShloMosaic Idealize.ShloMosaic.TcCoe Idealize.SL.Sem Cert.Tiles

theorem bodies12 : Cert.Kernel12.defs₀ (F := Bits) = Cert.Kernel12Ideal.defs₀ (F := Bits) :=
  congrArg Defs.onTc (funext fun l => funext fun x => match l, x with | 0, (_, _) => rfl)

theorem frame_Kernel12 : Cert.quiescent_Kernel12 := fun m g _ =>
  (congrArg (fun d => θ_run (Pipeline.defs _ d) _ _ _) bodies12).mpr (Cert.Kernel12Ideal.Gen.frame (F := Bits) m g)

theorem frame_Kernel12Ideal : Cert.quiescent_Kernel12Ideal := fun m g _ => Cert.Kernel12Ideal.Gen.frame m g

theorem frame_Reference12Ideal : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

/-- The reference's gradient at an entry is the same sum. -/
theorem reference12_apply (x0 : Cert.Reference12Ideal.S8192x2048.Idx → EReal) (x1 : Cert.Reference12Ideal.S8192x2048.Idx → EReal)
    (i : Cert.Reference12Ideal.S2048x2048.Idx) :
    (Cert.Reference12Ideal.Read.val_main_v5 (F := Ideal) x0 x1 : Cert.Reference12Ideal.S2048x2048.Idx → EReal) i
      = ∑ k : Fin 8192, entry x0 ![k.val, (i 0).val] * entry x1 ![k.val, (i 1).val] := by
  refine (Cert.Reference12Ideal.Read.val_main_v5_apply (F := Ideal) x0 x1 i).trans ((Cert.Reference12Ideal.Read.val_main_v4_apply x0 x1 _).trans ?_)
  refine Finset.sum_congr rfl fun k _ => (congrArg₂ (fun a b : EReal => a * b) ?_ ?_).trans (mul_comm (entry x1 _) (entry x0 _))
  · exact entry_val x1 (Cert.Reference12Ideal.Read.lidx_main_v4 (Cert.Reference12Ideal.Read.idx_main_v5 i) k) _ fun | 0 => rfl | 1 => rfl
  · exact entry_val x0 (Cert.Reference12Ideal.Read.ridx_main_v4 (Cert.Reference12Ideal.Read.idx_main_v5 i) k) _ fun | 0 => rfl | 1 => rfl

theorem algebraic12 : Cert.algebraic_Kernel12Ideal_Reference12Ideal := fun m g m' g' _ h =>
  ⟨fun c => Cert.Kernel12Ideal.Value.G2 m c, Cert.Kernel12Ideal.Value.run m g,
    (θ_run Cert.Reference12Ideal.defs _ _).mono (fun r hr c => ⟨(hr c).1.trans (by
      obtain ⟨h0, h1⟩ := h c
      rw [h0, h1]
      refine (Cert.Reference12Ideal.Read.val_main_v5_eq _ _).trans (funext fun i => ?_)
      exact (reference12_apply _ _ i).trans (Cert.Kernel12Ideal.Hand.result_apply m c i).symm), (hr c).2⟩)
      (Cert.Reference12Ideal.Value.run m' g')⟩

end Cert.Proof

end
-- ==== Proof.ODx.lean ====
module

public import proofs.«01_k».proof.Defs
public import proofs.«01_k».proof.Proof.Gen.Kernel13
public import proofs.«01_k».proof.Proof.Gen.Kernel13Ideal.Value
public import proofs.«01_k».proof.Proof.Gen.Reference13Ideal.Read
public import proofs.«01_k».proof.Proof.ProductSum
public import Idealize.ShloMosaic.Lib.Pointwise
public import Idealize.ShloMosaic.Lib.Pipeline.ReadBack
public import Idealize.ShloMosaic.Lib.Pipeline.ValueKit.Geometry

/-! # The input's gradient of the attention's output projection, dy·wᵀ: frame and value -/

@[expose] public section

namespace Cert.Kernel13Ideal.Hand

open Cert.Kernel13Ideal.Gen Cert.Kernel13Ideal.Value Cert.Tiles
open Idealize.ShloMosaic Idealize.ShloMosaic.TcCoe Idealize.SL Idealize.SL.Sem

variable (m : (ℓ : Loc nD τ sig) → Buf (Elt Ideal) ℓ) (c : Dev nD)

theorem out (t : Fin cfg0.N) : outsAt0 m c t = k0_pay1 (iblk m c 0 t) (iblk m c 1 t) := by
  unfold outsAt0 out0_A_2
  rw [View.read_writes_eq_canon _ _ _ (cover0_A_2 _ _ _ _ _ _ _ _ _ _ _ _)]
  unfold kernelRun0_A
  dsimp only
  sl_unfold_words
  rw [View.canon_unit_zero hz]
  simp only [View.readAt_eq_ld, Memref.IsWhole.read_unread, View.ld_unit_zero (S := S1024x2048) hz]

/-- The blocks the three windows are on at point `t`. -/
theorem blocks : ∀ t : Fin cfg0.N, win0_0.index t = ![t.val / 1, 0] ∧ win0_1.index t = ![t.val % 1, 0]
    ∧ win0_2.index t = ![t.val / 1, t.val % 1] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![r, k]
    * entry (m ((c : Thread nD τ).loc main_arg1) : S1024x2048.Idx → EReal) ![l, k]

/-- THE RESULT, entry by entry: the product of the two operands, contracted over their columns. -/
noncomputable def result : S8192x1024.Idx → EReal := fun i => ∑ k : Fin 2048, term m c (i 0).val (i 1).val k.val

/-- What point `t` leaves at the place `y` of its block is the result there. -/
theorem written (t : Fin cfg0.N) (y : S1024x1024.Idx) : outsAt0 m c t y = result m c (((cfg0.win 2).blk t).view.emb y) := by
  show _ = ∑ k : Fin 2048, term m c (((cfg0.win 2).blk t).view.emb y 0).val (((cfg0.win 2).blk t).view.emb y 1).val k.val
  rw [out]
  simp only [k0_pay1, pointwise, Ideal.ofBits_zero_f32, zero_add]
  have e0 : (((cfg0.win 2).blk t).view.emb y 0).val = 1024 * (t.val / 1) + (y 0).val := by
    show win0_2.index t 0 * 1024 + 1 * (y 0).val = _
    rw [(blocks t).2.2]; exact block_coord _ _ _
  have e1 : (((cfg0.win 2).blk t).view.emb y 1).val = 1024 * (t.val % 1) + (y 1).val := by
    show win0_2.index t 1 * 1024 + 1 * (y 1).val = _
    rw [(blocks t).2.2]; exact block_coord _ _ _
  rw [e0, e1]
  refine Finset.sum_congr rfl fun k _ => congrArg₂ (fun a b : EReal => a * b) ?_ ?_
  · refine entry_val (m ((c : Thread nD τ).loc main_arg0)) (((cfg0.win 0).blk t).view.emb (ValueIdx.ix2 (y 0) k)) _ ?_
    show ∀ a, win0_0.index t a * _ + 1 * (ValueIdx.ix2 (y 0) k a).val = _
    rw [(blocks t).1]
    exact fun | 0 => block_coord _ _ _ | 1 => (block_coord _ _ _).trans (Nat.zero_add _)
  · refine entry_val (m ((c : Thread nD τ).loc main_arg1)) (((cfg0.win 1).blk t).view.emb (ValueIdx.ix2 (y 1) k)) _ ?_
    show ∀ a, win0_1.index t a * _ + 1 * (ValueIdx.ix2 (y 1) k a).val = _
    rw [(blocks t).2.1]
    exact fun | 0 => block_coord _ _ _ | 1 => (block_coord _ _ _).trans (Nat.zero_add _)

theorem covers : (cfg0.win 2).Covers := by decide +kernel

/-- The blocks cover the array, so it ends holding the result. -/
theorem final : (dats m 0 c).arrAt 2 cfg0.N = result m c :=
  (dats m 0 c).arrAt_eq_of_cover 2 (result m c) (fun t _ => by
    rw [flushed2]
    funext y
    exact written m c t y) (covers.cover _ (Memref.isWhole_whole _))

end Cert.Kernel13Ideal.Hand

namespace Cert.Proof

open Idealize.ShloMosaic Idealize.ShloMosaic.TcCoe Idealize.SL.Sem Cert.Tiles

theorem bodies13 : Cert.Kernel13.defs₀ (F := Bits) = Cert.Kernel13Ideal.defs₀ (F := Bits) :=
  congrArg Defs.onTc (funext fun l => funext fun x => match l, x with | 0, (_, _) => rfl)

theorem frame_Kernel13 : Cert.quiescent_Kernel13 := fun m g _ =>
  (congrArg (fun d => θ_run (Pipeline.defs _ d) _ _ _) bodies13).mpr (Cert.Kernel13Ideal.Gen.frame (F := Bits) m g)

theorem frame_Kernel13Ideal : Cert.quiescent_Kernel13Ideal := fun m g _ => Cert.Kernel13Ideal.Gen.frame m g

theorem frame_Reference13Ideal : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

/-- The reference's gradient at an entry is the same sum. -/
theorem reference13_apply (x0 : Cert.Reference13Ideal.S8192x2048.Idx → EReal) (x1 : Cert.Reference13Ideal.S1024x2048.Idx → EReal)
    (i : Cert.Reference13Ideal.S8192x1024.Idx) :
    (Cert.Reference13Ideal.Read.val_main_v4 (F := Ideal) x0 x1 : Cert.Reference13Ideal.S8192x1024.Idx → EReal) i
      = ∑ k : Fin 2048, entry x0 ![(i 0).val, k.val] * entry x1 ![(i 1).val, k.val] := by
  refine (Cert.Reference13Ideal.Read.val_main_v4_apply x0 x1 _).trans ?_
  refine Finset.sum_congr rfl fun k _ => congrArg₂ (fun a b : EReal => a * b) ?_ ?_
  · exact entry_val x0 (Cert.Reference13Ideal.Read.lidx_main_v4 i k) _ fun | 0 => rfl | 1 => rfl
  · exact entry_val x1 (Cert.Reference13Ideal.Read.ridx_main_v4 i k) _ fun | 0 => rfl | 1 => rfl

theorem algebraic13 : Cert.algebraic_Kernel13Ideal_Reference13Ideal := fun m g m' g' _ h =>
  ⟨fun c => Cert.Kernel13Ideal.Hand.result m c,
    (θ_run Cert.Kernel13Ideal.defs _ _).mono (fun r hr c => ⟨(hr c).1.trans (Cert.Kernel13Ideal.Hand.final m c), (hr c).2⟩)
      (Cert.Kernel13Ideal.Value.run_blocks m g),
    (θ_run Cert.Reference13Ideal.defs _ _).mono (fun r hr c => ⟨(hr c).1.trans (by
      obtain ⟨h0, h1⟩ := h c
      rw [h0, h1]
      exact (Cert.Reference13Ideal.Read.val_main_v4_eq _ _).trans (funext fun i => reference13_apply _ _ i)), (hr c).2⟩)
      (Cert.Reference13Ideal.Value.run m' g')⟩

end Cert.Proof

end
-- ==== Proof.ODw.lean ====
module

public import proofs.«01_k».proof.Defs
public import proofs.«01_k».proof.Proof.Gen.Kernel14
public import proofs.«01_k».proof.Proof.Gen.Kernel14Ideal.Value
public import proofs.«01_k».proof.Proof.Gen.Reference14Ideal.Read
public import proofs.«01_k».proof.Proof.ProductSum
public import Idealize.ShloMosaic.Lib.Pointwise
public import Idealize.ShloMosaic.Lib.Pipeline.ReadBack

/-! # The weight gradient of the attention's output projection, xᵀ·dy: frame and value -/

@[expose] public section

namespace Cert.Kernel14Ideal.Hand

open Cert.Kernel14Ideal.Gen Cert.Kernel14Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 4 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S2048x1024) hz, shapeCast_self]

theorem next (n : ℕ) (h : n < cfg0.N) (y : S1024x1024.Idx) (h0 : n % 4 ≠ 0) :
    (outsAt0 m c n h).2 y = (outsAt0 m c (n - 1) (Nat.lt_of_le_of_lt (Nat.sub_le _ _) h)).2 y + part m c n h y := by
  by_cases h3 : n % 4 = 3
  · rw [show outsAt0 m c n h = _ from outsAt0_C m c ⟨n, h⟩ h0 (by dsimp only; omega) h3]
    dsimp only
    unfold sout0_C_0
    rw [View.read_writes_eq_canon _ _ _ (scover0_C_0 _ _ _ _ _ _ _ _ _ _ _ _ _ _ _ _)]
    unfold kernelRun0_C
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl
  · rw [show outsAt0 m c n h = _ from outsAt0_B m c ⟨n, h⟩ h0 (by dsimp only; omega) h3]
    dsimp only
    unfold sout0_B_0
    rw [View.read_writes_eq_canon _ _ _ (scover0_B_0 _ _ _ _ _ _ _ _ _ _ _ _ _ _ _ _)]
    unfold kernelRun0_B
    dsimp only
    sl_unfold_words
    rw [View.canon_unit_zero hz]
    unfold k0_pay3
    simp only [View.readAt_eq_ld, Memref.IsWhole.read_unread, View.ld_unit_zero (S := S2048x1024) hz,
      View.ld_unit_zero (S := S1024x1024) hz, shapeCast_self, read_unread_whole]
    rfl

theorem out (n : ℕ) (h : n < cfg0.N) (h3 : n % 4 = 3) : (outsAt0 m c n h).1 = (outsAt0 m c n h).2 := by
  rw [show outsAt0 m c n h = _ from outsAt0_C m c ⟨n, h⟩ (by dsimp only; omega) (by dsimp only; omega) h3]
  dsimp only
  unfold out0_C_2 sout0_C_0
  rw [View.read_writes_eq_canon _ _ _ (cover0_C_2 _ _ _ _ _ _ _ _ _ _ _ _ _ _ _ _),
    View.read_writes_eq_canon _ _ _ (scover0_C_0 _ _ _ _ _ _ _ _ _ _ _ _ _ _ _ _)]
  unfold kernelRun0_C
  dsimp only
  sl_unfold_words
  rw [View.canon_unit_zero hz, View.canon_unit_zero hz, View.readCov_unit_zero (S := S1024x1024) _ hz]

/-- The blocks the three windows are on at point `t`. -/
theorem blocks : ∀ t : Fin cfg0.N, win0_0.index t = ![t.val % 4, t.val / 4 / 2] ∧ win0_1.index t = ![t.val % 4, t.val / 4 % 2] :=
  (by decide +kernel : ∀ t : Fin grid0.N, _)

/-- The summand of the result's entry `(r, l)` at place `k` of the contracted axis. -/
noncomputable def term (r l k : ℕ) : EReal :=
  entry (m ((c : Thread nD τ).loc main_arg0) : S8192x1024.Idx → EReal) ![k, r]
    * entry (m ((c : Thread nD τ).loc main_arg1) : S8192x2048.Idx → EReal) ![k, l]

theorem part_apply (n : ℕ) (h : n < cfg0.N) (y : S1024x1024.Idx) : part m c n h y = ∑ k : Fin 2048,
    term m c (1024 * (n / 4 / 2) + (y 0).val) (1024 * (n / 4 % 2) + (y 1).val) (2048 * (n % 4) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 k (y 0))) _ ?_
    show ∀ a, win0_0.index ⟨n, h⟩ a * _ + 1 * (ValueIdx.ix2 k (y 0) a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 k (y 1))) _ ?_
    show ∀ a, win0_1.index ⟨n, h⟩ a * _ + 1 * (ValueIdx.ix2 k (y 1) a).val = _
    rw [(blocks ⟨n, h⟩).2]
    exact fun | 0 => block_coord _ _ _ | 1 => block_coord _ _ _

/-- THE RESULT, entry by entry: the product of the two operands, contracted over their rows. -/
theorem result_apply (i : S1024x2048.Idx) :
    (G2 m c : S1024x2048.Idx → EReal) i = ∑ k : Fin 8192, term m c (i 0).val (i 1).val k.val := by
  have h0 : (i 0).val < 1024 := (i 0).isLt
  have h1 : (i 1).val < 2048 := (i 1).isLt
  have hN : cfg0.N = 8 := N_0
  have e : pt2Of i = 4 * (2 * ((i 0).val / 1024) + (i 1).val / 1024) + (4 - 1) := by
    show 4 * (2 * ((i 0).val / 1024 - 0) + 1 * ((i 1).val / 1024 - 0)) + 3 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel14Ideal.Hand

namespace Cert.Proof

open Idealize.ShloMosaic Idealize.ShloMosaic.TcCoe Idealize.SL.Sem Cert.Tiles

theorem bodies14 : Cert.Kernel14.defs₀ (F := Bits) = Cert.Kernel14Ideal.defs₀ (F := Bits) :=
  congrArg Defs.onTc (funext fun l => funext fun x => match l, x with | 0, (_, _) => rfl)

theorem frame_Kernel14 : Cert.quiescent_Kernel14 := fun m g _ =>
  (congrArg (fun d => θ_run (Pipeline.defs _ d) _ _ _) bodies14).mpr (Cert.Kernel14Ideal.Gen.frame (F := Bits) m g)

theorem frame_Kernel14Ideal : Cert.quiescent_Kernel14Ideal := fun m g _ => Cert.Kernel14Ideal.Gen.frame m g

theorem frame_Reference14Ideal : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

/-- The reference's gradient at an entry is the same sum. -/
theorem reference14_apply (x0 : Cert.Reference14Ideal.S8192x1024.Idx → EReal) (x1 : Cert.Reference14Ideal.S8192x2048.Idx → EReal)
    (i : Cert.Reference14Ideal.S1024x2048.Idx) :
    (Cert.Reference14Ideal.Read.val_main_v5 (F := Ideal) x0 x1 : Cert.Reference14Ideal.S1024x2048.Idx → EReal) i
      = ∑ k : Fin 8192, entry x0 ![k.val, (i 0).val] * entry x1 ![k.val, (i 1).val] := by
  refine (Cert.Reference14Ideal.Read.val_main_v5_apply (F := Ideal) x0 x1 i).trans ((Cert.Reference14Ideal.Read.val_main_v4_apply x0 x1 _).trans ?_)
  refine Finset.sum_congr rfl fun k _ => (congrArg₂ (fun a b : EReal => a * b) ?_ ?_).trans (mul_comm (entry x1 _) (entry x0 _))
  · exact entry_val x1 (Cert.Reference14Ideal.Read.lidx_main_v4 (Cert.Reference14Ideal.Read.idx_main_v5 i) k) _ fun | 0 => rfl | 1 => rfl
  · exact entry_val x0 (Cert.Reference14Ideal.Read.ridx_main_v4 (Cert.Reference14Ideal.Read.idx_main_v5 i) k) _ fun | 0 => rfl | 1 => rfl

theorem algebraic14 : Cert.algebraic_Kernel14Ideal_Reference14Ideal := fun m g m' g' _ h =>
  ⟨fun c => Cert.Kernel14Ideal.Value.G2 m c, Cert.Kernel14Ideal.Value.run m g,
    (θ_run Cert.Reference14Ideal.defs _ _).mono (fun r hr c => ⟨(hr c).1.trans (by
      obtain ⟨h0, h1⟩ := h c
      rw [h0, h1]
      refine (Cert.Reference14Ideal.Read.val_main_v5_eq _ _).trans (funext fun i => ?_)
      exact (reference14_apply _ _ i).trans (Cert.Kernel14Ideal.Hand.result_apply m c i).symm), (hr c).2⟩)
      (Cert.Reference14Ideal.Value.run m' g')⟩

end Cert.Proof

end
-- ==== Proof.Up1.lean ====
module

public import proofs.«01_k».proof.Defs
public import proofs.«01_k».proof.Proof.Gen.Kernel15
public import proofs.«01_k».proof.Proof.Gen.Kernel15Ideal.Value
public import proofs.«01_k».proof.Proof.Gen.Reference15Ideal.Read
public import proofs.«01_k».proof.Proof.ProductSum
public import Idealize.ShloMosaic.Lib.Pointwise
public import Idealize.ShloMosaic.Lib.Pipeline.ReadBack
public import Idealize.ShloMosaic.Lib.Pipeline.ValueKit.Geometry

/-! # The feed-forward layer's first product, x·w: frame and value -/

@[expose] public section

namespace Cert.Kernel15Ideal.Hand

open Cert.Kernel15Ideal.Gen Cert.Kernel15Ideal.Value Cert.Tiles
open Idealize.ShloMosaic Idealize.ShloMosaic.TcCoe Idealize.SL Idealize.SL.Sem

variable (m : (ℓ : Loc nD τ sig) → Buf (Elt Ideal) ℓ) (c : Dev nD)

theorem out (t : Fin cfg0.N) : outsAt0 m c t = k0_pay1 (iblk m c 0 t) (iblk m c 1 t) := by
  unfold outsAt0 out0_A_2
  rw [View.read_writes_eq_canon _ _ _ (cover0_A_2 _ _ _ _ _ _ _ _ _ _ _ _)]
  unfold kernelRun0_A
  dsimp only
  sl_unfold_words
  rw [View.canon_unit_zero hz]
  simp only [View.readAt_eq_ld, Memref.IsWhole.read_unread, View.ld_unit_zero (S := S1024x2048) hz,
    View.ld_unit_zero (S := S2048x1024) hz]

/-- The blocks the three windows are on at point `t`. -/
theorem blocks : ∀ t : Fin cfg0.N, win0_0.index t = ![t.val / 11, 0] ∧ win0_1.index t = ![0, t.val % 11]
    ∧ win0_2.index t = ![t.val / 11, t.val % 11] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![r, k]
    * entry (m ((c : Thread nD τ).loc main_arg1) : S2048x11264.Idx → EReal) ![k, l]

/-- THE RESULT, entry by entry: the product of the two operands, the first contracted over its columns, the second over its rows. -/
noncomputable def result : S8192x11264.Idx → EReal := fun i => ∑ k : Fin 2048, term m c (i 0).val (i 1).val k.val

/-- What point `t` leaves at the place `y` of its block is the result there. -/
theorem written (t : Fin cfg0.N) (y : S1024x1024.Idx) : outsAt0 m c t y = result m c (((cfg0.win 2).blk t).view.emb y) := by
  show _ = ∑ k : Fin 2048, term m c (((cfg0.win 2).blk t).view.emb y 0).val (((cfg0.win 2).blk t).view.emb y 1).val k.val
  rw [out]
  simp only [k0_pay1, pointwise, Ideal.ofBits_zero_f32, zero_add]
  have e0 : (((cfg0.win 2).blk t).view.emb y 0).val = 1024 * (t.val / 11) + (y 0).val := by
    show win0_2.index t 0 * 1024 + 1 * (y 0).val = _
    rw [(blocks t).2.2]; exact block_coord _ _ _
  have e1 : (((cfg0.win 2).blk t).view.emb y 1).val = 1024 * (t.val % 11) + (y 1).val := by
    show win0_2.index t 1 * 1024 + 1 * (y 1).val = _
    rw [(blocks t).2.2]; exact block_coord _ _ _
  rw [e0, e1]
  refine Finset.sum_congr rfl fun k _ => congrArg₂ (fun a b : EReal => a * b) ?_ ?_
  · refine entry_val (m ((c : Thread nD τ).loc main_arg0)) (((cfg0.win 0).blk t).view.emb (ValueIdx.ix2 (y 0) k)) _ ?_
    show ∀ a, win0_0.index t a * _ + 1 * (ValueIdx.ix2 (y 0) k a).val = _
    rw [(blocks t).1]
    exact fun | 0 => block_coord _ _ _ | 1 => (block_coord _ _ _).trans (Nat.zero_add _)
  · refine entry_val (m ((c : Thread nD τ).loc main_arg1)) (((cfg0.win 1).blk t).view.emb (ValueIdx.ix2 k (y 1))) _ ?_
    show ∀ a, win0_1.index t a * _ + 1 * (ValueIdx.ix2 k (y 1) a).val = _
    rw [(blocks t).2.1]
    exact fun | 0 => (block_coord _ _ _).trans (Nat.zero_add _) | 1 => block_coord _ _ _

theorem covers : (cfg0.win 2).Covers := by decide +kernel

/-- The blocks cover the array, so it ends holding the result. -/
theorem final : (dats m 0 c).arrAt 2 cfg0.N = result m c :=
  (dats m 0 c).arrAt_eq_of_cover 2 (result m c) (fun t _ => by
    rw [flushed2]
    funext y
    exact written m c t y) (covers.cover _ (Memref.isWhole_whole _))

end Cert.Kernel15Ideal.Hand

namespace Cert.Proof

open Idealize.ShloMosaic Idealize.ShloMosaic.TcCoe Idealize.SL.Sem Cert.Tiles

theorem bodies15 : Cert.Kernel15.defs₀ (F := Bits) = Cert.Kernel15Ideal.defs₀ (F := Bits) :=
  congrArg Defs.onTc (funext fun l => funext fun x => match l, x with | 0, (_, _) => rfl)

theorem frame_Kernel15 : Cert.quiescent_Kernel15 := fun m g _ =>
  (congrArg (fun d => θ_run (Pipeline.defs _ d) _ _ _) bodies15).mpr (Cert.Kernel15Ideal.Gen.frame (F := Bits) m g)

theorem frame_Kernel15Ideal : Cert.quiescent_Kernel15Ideal := fun m g _ => Cert.Kernel15Ideal.Gen.frame m g

theorem frame_Reference15Ideal : Cert.quiescent_Reference15Ideal := fun m g _ =>
  (θ_run Cert.Reference15Ideal.defs _ _).mono (fun r h => ⟨fun c => (h c).2, sem_eq_zero_of_no_sems (by decide) r.2⟩)
    (Cert.Reference15Ideal.Value.run m g)

/-- The reference's product at an entry is the same sum. -/
theorem reference15_apply (x0 : Cert.Reference15Ideal.S8192x2048.Idx → EReal) (x1 : Cert.Reference15Ideal.S2048x11264.Idx → EReal)
    (i : Cert.Reference15Ideal.S8192x11264.Idx) :
    (Cert.Reference15Ideal.Read.val_main_v2 (F := Ideal) x0 x1 : Cert.Reference15Ideal.S8192x11264.Idx → EReal) i
      = ∑ k : Fin 2048, entry x0 ![(i 0).val, k.val] * entry x1 ![k.val, (i 1).val] := by
  refine (Cert.Reference15Ideal.Read.val_main_v2_apply x0 x1 _).trans ?_
  refine Finset.sum_congr rfl fun k _ => congrArg₂ (fun a b : EReal => a * b) ?_ ?_
  · exact entry_val x0 (Cert.Reference15Ideal.Read.lidx_main_v2 i k) _ fun | 0 => rfl | 1 => rfl
  · exact entry_val x1 (Cert.Reference15Ideal.Read.ridx_main_v2 i k) _ fun | 0 => rfl | 1 => rfl

theorem algebraic15 : Cert.algebraic_Kernel15Ideal_Reference15Ideal := fun m g m' g' _ h =>
  ⟨fun c => Cert.Kernel15Ideal.Hand.result m c,
    (θ_run Cert.Kernel15Ideal.defs _ _).mono (fun r hr c => ⟨(hr c).1.trans (Cert.Kernel15Ideal.Hand.final m c), (hr c).2⟩)
      (Cert.Kernel15Ideal.Value.run_blocks m g),
    (θ_run Cert.Reference15Ideal.defs _ _).mono (fun r hr c => ⟨(hr c).1.trans (by
      obtain ⟨h0, h1⟩ := h c
      rw [h0, h1]
      exact (Cert.Reference15Ideal.Read.val_main_v2_eq _ _).trans (funext fun i => reference15_apply _ _ i)), (hr c).2⟩)
      (Cert.Reference15Ideal.Value.run m' g')⟩

end Cert.Proof

end
-- ==== Proof.Down1.lean ====
module

public import proofs.«01_k».proof.Defs
public import proofs.«01_k».proof.Proof.Gen.Kernel16
public import proofs.«01_k».proof.Proof.Gen.Kernel16Ideal.Value
public import proofs.«01_k».proof.Proof.Gen.Reference16Ideal.Read
public import proofs.«01_k».proof.Proof.ProductSum
public import Idealize.ShloMosaic.Lib.Pointwise
public import Idealize.ShloMosaic.Lib.Pipeline.ReadBack

/-! # The feed-forward layer's second product, z·w: frame and value -/

@[expose] public section

namespace Cert.Kernel16Ideal.Hand

open Cert.Kernel16Ideal.Gen Cert.Kernel16Ideal.Value Cert.Tiles
open Idealize.ShloMosaic Idealize.ShloMosaic.TcCoe Idealize.SL Idealize.SL.Sem

variable (m : (ℓ : Loc nD τ sig) → Buf (Elt Ideal) ℓ) (c : Dev nD)

/-- What point `n` adds to the scratch. -/
noncomputable abbrev part (n : ℕ) (h : n < cfg0.N) : S1024x1024.Idx → EReal := k0_pay1 (iblk m c 0 ⟨n, h⟩) (iblk m c 1 ⟨n, h⟩)

theorem first (n : ℕ) (h : n < cfg0.N) (h0 : n % 2 = 0) : (outsAt0 m c n h).2 = part m c n h := by
  rw [show outsAt0 m c n h = _ from outsAt0_A m c ⟨n, h⟩ h0 (by dsimp only; omega) (by dsimp only; omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz]
  unfold k0_pay2
  simp only [View.readAt_eq_ld, Memref.IsWhole.read_unread, View.ld_unit_zero (S := S1024x2816) hz, View.ld_unit_zero (S := S2816x1024) hz, shapeCast_self]

theorem next (n : ℕ) (h : n < cfg0.N) (y : S1024x1024.Idx) (h0 : n % 2 ≠ 0) :
    (outsAt0 m c n h).2 y = (outsAt0 m c (n - 1) (Nat.lt_of_le_of_lt (Nat.sub_le _ _) h)).2 y + part m c n h y := by
  rw [show outsAt0 m c n h = _ from outsAt0_B m c ⟨n, h⟩ h0 (by dsimp only; omega) (by dsimp only; omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz]
  unfold k0_pay3
  simp only [View.readAt_eq_ld, Memref.IsWhole.read_unread, View.ld_unit_zero (S := S1024x2816) hz, View.ld_unit_zero (S := S2816x1024) hz,
    View.ld_unit_zero (S := S1024x1024) hz, shapeCast_self, read_unread_whole]
  rfl

/-- The output is the scratch. -/
theorem out (n : ℕ) (h : n < cfg0.N) (h1 : n % 2 = 1) : (outsAt0 m c n h).1 = (outsAt0 m c n h).2 := by
  rw [show outsAt0 m c n h = _ from outsAt0_B m c ⟨n, h⟩ (by dsimp only; omega) h1 h1]
  dsimp only
  unfold out0_B_2 sout0_B_0
  rw [View.read_writes_eq_canon _ _ _ (cover0_B_2 _ _ _ _ _ _ _ _ _ _ _ _ _ _ _ _),
    View.read_writes_eq_canon _ _ _ (scover0_B_0 _ _ _ _ _ _ _ _ _ _ _ _ _ _ _ _)]
  unfold kernelRun0_B
  dsimp only
  sl_unfold_words
  rw [View.canon_unit_zero hz, View.canon_unit_zero hz, View.readCov_unit_zero (S := S1024x1024) _ hz]

/-- The blocks the three windows are on at point `t`. -/
theorem blocks : ∀ t : Fin cfg0.N, win0_0.index t = ![t.val / 2 / 2, t.val % 2] ∧ win0_1.index t = ![t.val % 2, t.val / 2 % 2] :=
  (by decide +kernel : ∀ t : Fin grid0.N, _)

/-- The summand of the result's entry `(r, l)` at place `k` of the contracted axis. -/
noncomputable def term (r l k : ℕ) : EReal :=
  entry (m ((c : Thread nD τ).loc main_arg0) : S8192x5632.Idx → EReal) ![r, k]
    * entry (m ((c : Thread nD τ).loc main_arg1) : S5632x2048.Idx → EReal) ![k, l]

theorem part_apply (n : ℕ) (h : n < cfg0.N) (y : S1024x1024.Idx) : part m c n h y = ∑ k : Fin 2816,
    term m c (1024 * (n / 2 / 2) + (y 0).val) (1024 * (n / 2 % 2) + (y 1).val) (2816 * (n % 2) + k.val) := by
  simp only [part, k0_pay1, pointwise, Ideal.ofBits_zero_f32, zero_add]
  refine Finset.sum_congr rfl fun k _ => congrArg₂ (fun a b : EReal => a * b) ?_ ?_
  · refine entry_val (m ((c : Thread nD τ).loc main_arg0)) (((cfg0.win 0).blk ⟨n, h⟩).view.emb (ValueIdx.ix2 (y 0) k)) _ ?_
    show ∀ a, win0_0.index ⟨n, h⟩ a * _ + 1 * (ValueIdx.ix2 (y 0) k a).val = _
    rw [(blocks ⟨n, h⟩).1]
    exact fun | 0 => block_coord _ _ _ | 1 => block_coord _ _ _
  · refine entry_val (m ((c : Thread nD τ).loc main_arg1)) (((cfg0.win 1).blk ⟨n, h⟩).view.emb (ValueIdx.ix2 k (y 1))) _ ?_
    show ∀ a, win0_1.index ⟨n, h⟩ a * _ + 1 * (ValueIdx.ix2 k (y 1) a).val = _
    rw [(blocks ⟨n, h⟩).2]
    exact fun | 0 => block_coord _ _ _ | 1 => block_coord _ _ _

/-- THE RESULT, entry by entry: the product of the two operands, the first contracted over its columns, the second over its rows. -/
theorem result_apply (i : S8192x2048.Idx) :
    (G2 m c : S8192x2048.Idx → EReal) i = ∑ k : Fin 5632, term m c (i 0).val (i 1).val k.val := by
  have h0 : (i 0).val < 8192 := (i 0).isLt
  have h1 : (i 1).val < 2048 := (i 1).isLt
  have hN : cfg0.N = 32 := N_0
  have e : pt2Of i = 2 * (2 * ((i 0).val / 1024) + (i 1).val / 1024) + (2 - 1) := by
    show 2 * (2 * ((i 0).val / 1024 - 0) + 1 * ((i 1).val / 1024 - 0)) + 1 = _
    omega
  have hp : pt2Of i < cfg0.N := by omega
  unfold G2
  rw [dif_pos hp, ← outsAt0_sweep m c _ hp]
  exact blocked_sum (by decide) (by decide) (fun y : S1024x1024.Idx => (y 0).val) (fun y => (y 1).val) (outsAt0 m c) (part m c)
    (first m c) (next m c) (out m c) (term m c) (part_apply m c) _ _ _ hp e (by omega) _ rfl rfl

end Cert.Kernel16Ideal.Hand

namespace Cert.Proof

open Idealize.ShloMosaic Idealize.ShloMosaic.TcCoe Idealize.SL.Sem Cert.Tiles

theorem bodies16 : Cert.Kernel16.defs₀ (F := Bits) = Cert.Kernel16Ideal.defs₀ (F := Bits) :=
  congrArg Defs.onTc (funext fun l => funext fun x => match l, x with | 0, (_, _) => rfl)

theorem frame_Kernel16 : Cert.quiescent_Kernel16 := fun m g _ =>
  (congrArg (fun d => θ_run (Pipeline.defs _ d) _ _ _) bodies16).mpr (Cert.Kernel16Ideal.Gen.frame (F := Bits) m g)

theorem frame_Kernel16Ideal : Cert.quiescent_Kernel16Ideal := fun m g _ => Cert.Kernel16Ideal.Gen.frame m g

theorem frame_Reference16Ideal : Cert.quiescent_Reference16Ideal := fun m g _ =>
  (θ_run Cert.Reference16Ideal.defs _ _).mono (fun r h => ⟨fun c => (h c).2, sem_eq_zero_of_no_sems (by decide) r.2⟩)
    (Cert.Reference16Ideal.Value.run m g)

/-- The reference's product at an entry is the same sum. -/
theorem reference16_apply (x0 : Cert.Reference16Ideal.S8192x5632.Idx → EReal) (x1 : Cert.Reference16Ideal.S5632x2048.Idx → EReal)
    (i : Cert.Reference16Ideal.S8192x2048.Idx) :
    (Cert.Reference16Ideal.Read.val_main_v2 (F := Ideal) x0 x1 : Cert.Reference16Ideal.S8192x2048.Idx → EReal) i
      = ∑ k : Fin 5632, entry x0 ![(i 0).val, k.val] * entry x1 ![k.val, (i 1).val] := by
  refine (Cert.Reference16Ideal.Read.val_main_v2_apply x0 x1 i).trans ?_
  refine Finset.sum_congr rfl fun k _ => congrArg₂ (fun a b : EReal => a * b) ?_ ?_
  · exact entry_val x0 (Cert.Reference16Ideal.Read.lidx_main_v2 i k) _ fun | 0 => rfl | 1 => rfl
  · exact entry_val x1 (Cert.Reference16Ideal.Read.ridx_main_v2 i k) _ fun | 0 => rfl | 1 => rfl

theorem algebraic16 : Cert.algebraic_Kernel16Ideal_Reference16Ideal := fun m g m' g' _ h =>
  ⟨fun c => Cert.Kernel16Ideal.Value.G2 m c, Cert.Kernel16Ideal.Value.run m g,
    (θ_run Cert.Reference16Ideal.defs _ _).mono (fun r hr c => ⟨(hr c).1.trans (by
      obtain ⟨h0, h1⟩ := h c
      rw [h0, h1]
      refine (Cert.Reference16Ideal.Read.val_main_v2_eq _ _).trans (funext fun i => ?_)
      exact (reference16_apply _ _ i).trans (Cert.Kernel16Ideal.Hand.result_apply m c i).symm), (hr c).2⟩)
      (Cert.Reference16Ideal.Value.run m' g')⟩

end Cert.Proof

end
-- ==== Proof.QProj.lean ====
module

public import proofs.«01_k».proof.Defs
public import proofs.«01_k».proof.Proof.Gen.Kernel17
public import proofs.«01_k».proof.Proof.Gen.Kernel17Ideal.Value
public import proofs.«01_k».proof.Proof.Gen.Reference17Ideal.Read
public import proofs.«01_k».proof.Proof.ProductSum
public import Idealize.ShloMosaic.Lib.Pointwise
public import Idealize.ShloMosaic.Lib.Pipeline.ReadBack
public import Idealize.ShloMosaic.Lib.Pipeline.ValueKit.Geometry

/-! # The query projection, x·w: frame and value -/

@[expose] public section

namespace Cert.Kernel17Ideal.Hand

open Cert.Kernel17Ideal.Gen Cert.Kernel17Ideal.Value Cert.Tiles
open Idealize.ShloMosaic Idealize.ShloMosaic.TcCoe Idealize.SL Idealize.SL.Sem

variable (m : (ℓ : Loc nD τ sig) → Buf (Elt Ideal) ℓ) (c : Dev nD)

theorem out (t : Fin cfg0.N) : outsAt0 m c t = k0_pay1 (iblk m c 0 t) (iblk m c 1 t) := by
  unfold outsAt0 out0_A_2
  rw [View.read_writes_eq_canon _ _ _ (cover0_A_2 _ _ _ _ _ _ _ _ _ _ _ _)]
  unfold kernelRun0_A
  dsimp only
  sl_unfold_words
  rw [View.canon_unit_zero hz]
  simp only [View.readAt_eq_ld, Memref.IsWhole.read_unread, View.ld_unit_zero (S := S1024x2048) hz,
    View.ld_unit_zero (S := S2048x1024) hz]

/-- The blocks the three windows are on at point `t`. -/
theorem blocks : ∀ t : Fin cfg0.N, win0_0.index t = ![t.val / 3, 0] ∧ win0_1.index t = ![0, t.val % 3]
    ∧ win0_2.index t = ![t.val / 3, t.val % 3] :=
  (by decide +kernel : ∀ t : Fin grid0.N, _)

/-- The summand of the result's entry `(r, l)` at place `k` of the contracted axis. -/
noncomputable def term (r l k : ℕ) : EReal :=
  entry (m ((c : Thread nD τ).loc main_arg0) : S8192x2048.Idx → EReal) ![r, k]
    * entry (m ((c : Thread nD τ).loc main_arg1) : S2048x3072.Idx → EReal) ![k, l]

/-- THE RESULT, entry by entry: the product of the two operands, the first contracted over its columns, the second over its rows. -/
noncomputable def result : S8192x3072.Idx → EReal := fun i => ∑ k : Fin 2048, term m c (i 0).val (i 1).val k.val

/-- What point `t` leaves at the place `y` of its block is the result there. -/
theorem written (t : Fin cfg0.N) (y : S1024x1024.Idx) : outsAt0 m c t y = result m c (((cfg0.win 2).blk t).view.emb y) := by
  show _ = ∑ k : Fin 2048, term m c (((cfg0.win 2).blk t).view.emb y 0).val (((cfg0.win 2).blk t).view.emb y 1).val k.val
  rw [out]
  simp only [k0_pay1, pointwise, Ideal.ofBits_zero_f32, zero_add]
  have e0 : (((cfg0.win 2).blk t).view.emb y 0).val = 1024 * (t.val / 3) + (y 0).val := by
    show win0_2.index t 0 * 1024 + 1 * (y 0).val = _
    rw [(blocks t).2.2]; exact block_coord _ _ _
  have e1 : (((cfg0.win 2).blk t).view.emb y 1).val = 1024 * (t.val % 3) + (y 1).val := by
    show win0_2.index t 1 * 1024 + 1 * (y 1).val = _
    rw [(blocks t).2.2]; exact block_coord _ _ _
  rw [e0, e1]
  refine Finset.sum_congr rfl fun k _ => congrArg₂ (fun a b : EReal => a * b) ?_ ?_
  · refine entry_val (m ((c : Thread nD τ).loc main_arg0)) (((cfg0.win 0).blk t).view.emb (ValueIdx.ix2 (y 0) k)) _ ?_
    show ∀ a, win0_0.index t a * _ + 1 * (ValueIdx.ix2 (y 0) k a).val = _
    rw [(blocks t).1]
    exact fun | 0 => block_coord _ _ _ | 1 => (block_coord _ _ _).trans (Nat.zero_add _)
  · refine entry_val (m ((c : Thread nD τ).loc main_arg1)) (((cfg0.win 1).blk t).view.emb (ValueIdx.ix2 k (y 1))) _ ?_
    show ∀ a, win0_1.index t a * _ + 1 * (ValueIdx.ix2 k (y 1) a).val = _
    rw [(blocks t).2.1]
    exact fun | 0 => (block_coord _ _ _).trans (Nat.zero_add _) | 1 => block_coord _ _ _

theorem covers : (cfg0.win 2).Covers := by decide +kernel

/-- The blocks cover the array, so it ends holding the result. -/
theorem final : (dats m 0 c).arrAt 2 cfg0.N = result m c :=
  (dats m 0 c).arrAt_eq_of_cover 2 (result m c) (fun t _ => by
    rw [flushed2]
    funext y
    exact written m c t y) (covers.cover _ (Memref.isWhole_whole _))

end Cert.Kernel17Ideal.Hand

namespace Cert.Proof

open Idealize.ShloMosaic Idealize.ShloMosaic.TcCoe Idealize.SL.Sem Cert.Tiles

theorem bodies17 : Cert.Kernel17.defs₀ (F := Bits) = Cert.Kernel17Ideal.defs₀ (F := Bits) :=
  congrArg Defs.onTc (funext fun l => funext fun x => match l, x with | 0, (_, _) => rfl)

theorem frame_Kernel17 : Cert.quiescent_Kernel17 := fun m g _ =>
  (congrArg (fun d => θ_run (Pipeline.defs _ d) _ _ _) bodies17).mpr (Cert.Kernel17Ideal.Gen.frame (F := Bits) m g)

theorem frame_Kernel17Ideal : Cert.quiescent_Kernel17Ideal := fun m g _ => Cert.Kernel17Ideal.Gen.frame m g

theorem frame_Reference17Ideal : Cert.quiescent_Reference17Ideal := fun m g _ =>
  (θ_run Cert.Reference17Ideal.defs _ _).mono (fun r h => ⟨fun c => (h c).2, sem_eq_zero_of_no_sems (by decide) r.2⟩)
    (Cert.Reference17Ideal.Value.run m g)

/-- The reference's product at an entry is the same sum. -/
theorem reference17_apply (x0 : Cert.Reference17Ideal.S8192x2048.Idx → EReal) (x1 : Cert.Reference17Ideal.S2048x3072.Idx → EReal)
    (i : Cert.Reference17Ideal.S8192x3072.Idx) :
    (Cert.Reference17Ideal.Read.val_main_v2 (F := Ideal) x0 x1 : Cert.Reference17Ideal.S8192x3072.Idx → EReal) i
      = ∑ k : Fin 2048, entry x0 ![(i 0).val, k.val] * entry x1 ![k.val, (i 1).val] := by
  refine (Cert.Reference17Ideal.Read.val_main_v2_apply x0 x1 _).trans ?_
  refine Finset.sum_congr rfl fun k _ => congrArg₂ (fun a b : EReal => a * b) ?_ ?_
  · exact entry_val x0 (Cert.Reference17Ideal.Read.lidx_main_v2 i k) _ fun | 0 => rfl | 1 => rfl
  · exact entry_val x1 (Cert.Reference17Ideal.Read.ridx_main_v2 i k) _ fun | 0 => rfl | 1 => rfl

theorem algebraic17 : Cert.algebraic_Kernel17Ideal_Reference17Ideal := fun m g m' g' _ h =>
  ⟨fun c => Cert.Kernel17Ideal.Hand.result m c,
    (θ_run Cert.Kernel17Ideal.defs _ _).mono (fun r hr c => ⟨(hr c).1.trans (Cert.Kernel17Ideal.Hand.final m c), (hr c).2⟩)
      (Cert.Kernel17Ideal.Value.run_blocks m g),
    (θ_run Cert.Reference17Ideal.defs _ _).mono (fun r hr c => ⟨(hr c).1.trans (by
      obtain ⟨h0, h1⟩ := h c
      rw [h0, h1]
      exact (Cert.Reference17Ideal.Read.val_main_v2_eq _ _).trans (funext fun i => reference17_apply _ _ i)), (hr c).2⟩)
      (Cert.Reference17Ideal.Value.run m' g')⟩

end Cert.Proof

end
-- ==== Proof.GluBwd.lean ====
module

public import proofs.«01_k».proof.Defs
public import proofs.«01_k».proof.Proof.Gen.Kernel18
public import proofs.«01_k».proof.Proof.Gen.Kernel18Ideal.Value
public import proofs.«01_k».proof.Proof.Gen.Reference18Ideal.Read
public import proofs.«01_k».proof.Proof.ProductSum
public import proofs.«01_k».proof.Proof.DqReal
public import Idealize.ShloMosaic.Lib.Pointwise
public import Idealize.ShloMosaic.Lib.Pipeline.ReadBack
public import Idealize.ShloMosaic.Lib.Pipeline.ValueKit.Geometry

/-! # The gradient of the gate `a · σ(g)`: frame and value

The kernel walks the rows in 32 tiles. At each it writes the two halves of the rows' gradient, and adds the
tile's column sums to the bias's gradient. -/

@[expose] public section

namespace Cert.Kernel18Ideal.Hand

open Cert.Kernel18Ideal.Gen Cert.Kernel18Ideal.Value Cert.Tiles
open Idealize.ShloMosaic Idealize.ShloMosaic.TcCoe Idealize.SL Idealize.SL.Sem

variable (m : (ℓ : Loc nD τ sig) → Buf (Elt Ideal) ℓ) (c : Dev nD)

/-- The blocks the five windows are on at point `t`: the row tile `t`, and the whole of the bias and of its gradient. -/
theorem blocks : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-! ## The gradient, entry by entry -/

/-- The cotangent of row `r`, column `l`. -/
noncomputable def cotangent (r l : ℕ) : EReal := entry (m ((c : Thread nD τ).loc main_arg0) : S8192x2048.Idx → EReal) ![r, l]

/-- The biased entry of row `r`, column `l`. -/
noncomputable def biased (r l : ℕ) : EReal :=
  entry (m ((c : Thread nD τ).loc main_arg1) : S8192x4096.Idx → EReal) ![r, l]
    + entry (m ((c : Thread nD τ).loc main_arg2) : S1x4096.Idx → EReal) ![0, l]

/-- The gradient's entry in the first half. -/
noncomputable def left (r l : ℕ) : EReal := cotangent m c r l * Ideal.logistic (biased m c r (l + 2048))

/-- The gradient's entry in the second half. -/
noncomputable def right (r l : ℕ) : EReal :=
  cotangent m c r l * biased m c r l * Ideal.logistic (biased m c r (l + 2048))
    * (((1 : ℝ) : EReal) - Ideal.logistic (biased m c r (l + 2048)))

noncomputable def grad (r l : ℕ) : EReal := if l < 2048 then left m c r l else right m c r (l - 2048)

/-- THE ROWS' GRADIENT. -/
noncomputable def rows : S8192x4096.Idx → EReal := fun i => grad m c (i 0).val (i 1).val

/-- THE BIAS'S GRADIENT: the columns' sums of the rows' gradient. -/
@[irreducible] noncomputable def cols : S1x4096.Idx → EReal := fun i => ∑ k : Fin 8192, grad m c k.val (i 1).val

theorem cols_apply (i : S1x4096.Idx) (l : ℕ) (h : (i 1).val = l) : cols m c i = ∑ k : Fin 8192, grad m c k.val l := by
  subst h
  unfold cols
  rfl

/-! ## The body's values at a tile -/

theorem cotangent_at (t : Fin cfg0.N) (j : S256x2048.Idx) :
    (iblk m c 0 t j : EReal) = cotangent m c (256 * t.val + (j 0).val) (j 1).val := by
  refine entry_val (m ((c : Thread nD τ).loc main_arg0)) (((cfg0.win 0).blk t).view.emb j) _ ?_
  show ∀ a, win0_0.index t a * _ + 1 * (j a).val = _
  rw [(blocks t).1]
  exact fun | 0 => block_coord _ _ _ | 1 => (block_coord _ _ _).trans (Nat.zero_add _)

theorem biased_at (t : Fin cfg0.N) (j : S256x4096.Idx) :
    (k0_pay1 (iblk m c 1 t) (iblk m c 2 t) j : EReal) = biased m c (256 * t.val + (j 0).val) (j 1).val := by
  refine congrArg₂ (fun a b : EReal => a + b) ?_ ?_
  · refine entry_val (m ((c : Thread nD τ).loc main_arg1)) (((cfg0.win 1).blk t).view.emb j) _ ?_
    show ∀ a, win0_1.index t a * _ + 1 * (j a).val = _
    rw [(blocks t).2.1]
    exact fun | 0 => block_coord _ _ _ | 1 => (block_coord _ _ _).trans (Nat.zero_add _)
  · refine (broadcastTo_apply _ _ j (ValueIdx.ix2 0 (j 1)) fun | 0 => rfl | 1 => rfl).trans ?_
    refine entry_val (m ((c : Thread nD τ).loc main_arg2)) (((cfg0.win 2).blk t).view.emb (ValueIdx.ix2 0 (j 1))) _ ?_
    show ∀ a, win0_2.index t a * _ + 1 * (ValueIdx.ix2 0 (j 1) a).val = _
    rw [(blocks t).2.2.1]
    exact fun | 0 => rfl | 1 => (block_coord _ _ _).trans (Nat.zero_add _)

theorem gate_at (t : Fin cfg0.N) (j : S256x2048.Idx) : (k0_pay2 (iblk m c 1 t) (iblk m c 2 t) j : EReal)
    = Ideal.logistic (biased m c (256 * t.val + (j 0).val) ((j 1).val + 2048)) := by
  refine congrArg Ideal.logistic ?_
  have hj : (j 1).val < 2048 := (j 1).isLt
  refine (extractStridedSlice_apply ![0, 2048] _ _ j (ValueIdx.ix2 (j 0) ⟨(j 1).val + 2048, by omega⟩ : S256x4096.Idx)
    fun | 0 => (Nat.zero_add _).symm | 1 => Nat.add_comm _ _).trans ?_
  exact biased_at m c t _

theorem left_at (t : Fin cfg0.N) (j : S256x2048.Idx) : (k0_pay3 (iblk m c 1 t) (iblk m c 2 t) (iblk m c 0 t) j : EReal)
    = grad m c (256 * t.val + (j 0).val) (j 1).val := by
  rw [grad, if_pos (show (j 1).val < 2048 from (j 1).isLt)]
  exact congrArg₂ (fun a b : EReal => a * b) (cotangent_at m c t j) (gate_at m c t j)

theorem right_at (t : Fin cfg0.N) (j : S256x2048.Idx) : (k0_pay4 (iblk m c 1 t) (iblk m c 2 t) (iblk m c 0 t) j : EReal)
    = grad m c (256 * t.val + (j 0).val) ((j 1).val + 2048) := by
  rw [grad, if_neg (show ¬(j 1).val + 2048 < 2048 by omega), Nat.add_sub_cancel]
  have hj : (j 1).val < 2048 := (j 1).isLt
  refine congrArg₂ (fun a b : EReal => a * b) (congrArg₂ (fun a b : EReal => a * b)
    (congrArg₂ (fun a b : EReal => a * b) (cotangent_at m c t j) ?_) (gate_at m c t j))
    (congrArg₂ (fun a b : EReal => a - b) Cert.Dq.one_word (gate_at m c t j))
  refine (extractStridedSlice_apply ![0, 0] _ _ j (ValueIdx.ix2 (j 0) ⟨(j 1).val, by omega⟩ : S256x4096.Idx)
    fun | 0 => (Nat.zero_add _).symm | 1 => (Nat.zero_add _).symm).trans ?_
  exact biased_at m c t _

/-- The tile's column sums. -/
theorem sums_at (t : Fin cfg0.N) (y : S1x4096.Idx) :
    (k0_pay7 (iblk m c 1 t) (iblk m c 2 t) (iblk m c 0 t) y : EReal) = ∑ k : Fin 256, grad m c (256 * t.val + k.val) (y 1).val := by
  have hy : (y 1).val < 4096 := (y 1).isLt
  have h0 : (y 0).val = 0 := by have : (y 0).val < 1 := (y 0).isLt; omega
  have hsum : ∀ (x : FVec Ideal S256x2048 .f32) (j : S1x2048.Idx) (l : ℕ)
      (_ : ∀ k : Fin 256, (x (ValueIdx.ix2 k (j 1)) : EReal) = grad m c (256 * t.val + k.val) l),
      (shapeCast S1x2048 (multiReduction .add [0] S2048 x 0x00000000#32 reduces_S256x2048_S2048 (.inl rfl) rfl)
        shapeCasts_S2048_S1x2048 j : EReal) = ∑ k : Fin 256, grad m c (256 * t.val + k.val) l := by
    intro x j l hx
    refine (shapeCast_apply _ _ j (ValueIdx.ix1 (j 1)) (by
      have hj : (j 0).val = 0 := by have : (j 0).val < 1 := (j 0).isLt; omega
      rw [Shape.rowMajor_val_one, Shape.rowMajor_val_two]; show (j 1).val = (j 0).val * 2048 + (j 1).val; omega)).trans ?_
    simp only [pointwise]
    exact Finset.sum_congr rfl fun k _ => hx k
  by_cases hl : (y 1).val < 2048
  · refine (concatenate_pair_apply_left (s₁ := S1x2048) (s₂ := S1x2048) 1 _ _ concatenates_S1x2048_S1x2048_S1x4096_d1 y rfl (ValueIdx.ix2 0 ⟨(y 1).val, hl⟩ : S1x2048.Idx) fun | 0 => h0.symm | 1 => rfl).trans ?_
    exact hsum _ _ _ fun k => left_at m c t (ValueIdx.ix2 k ⟨(y 1).val, hl⟩)
  · refine (concatenate_pair_apply_right (s₁ := S1x2048) (s₂ := S1x2048) 1 _ _ concatenates_S1x2048_S1x2048_S1x4096_d1 y rfl rfl (ValueIdx.ix2 0 ⟨(y 1).val - 2048, by omega⟩ : S1x2048.Idx)
      (fun | 0, _ => h0.symm | 1, h => absurd rfl h) (by show (y 1).val - 2048 + 2048 = _; omega)).trans ?_
    refine hsum _ _ _ fun k => (right_at m c t (ValueIdx.ix2 k ⟨(y 1).val - 2048, by omega⟩)).trans ?_
    show grad m c _ ((y 1).val - 2048 + 2048) = _
    rw [Nat.sub_add_cancel (by omega)]

/-! ## What the points leave -/

/-- The two halves as pieces of the block, and that they tile it. -/
noncomputable abbrev pieces (p0 p1 : Vec Ideal S256x2048 .bf16) : List (View.Piece (Elt Ideal) S256x4096 .bf16) :=
  [⟨Rect.unit (s := S256x4096) ![0, 2048] S256x2048.size inb_S256x4096_S256x2048_0_2048, p1⟩,
    ⟨Rect.unit (s := S256x4096) ![0, 0] S256x2048.size inb_S256x4096_S256x2048_0_0, p0⟩]

theorem halves_cover (p0 p1 : Vec Ideal S256x2048 .bf16) (y : S256x4096.Idx) : ∃ pc ∈ pieces p0 p1, y ∈ pc.1.set :=
  View.cover_of_tiledL (pieces p0 p1) S256x2048.size (by sl_kernel_rfl) y

/-- The two halves laid into a block, read at a place. -/
theorem halves (t : Fin cfg0.N) (y : S256x4096.Idx) :
    View.canon (pieces (k0_pay5 (iblk m c 1 t) (iblk m c 2 t) (iblk m c 0 t)) (k0_pay6 (iblk m c 1 t) (iblk m c 2 t) (iblk m c 0 t))) y
      = grad m c (256 * t.val + (y 0).val) (y 1).val := by
  refine View.canon_apply_of_pieces (fun y : S256x4096.Idx => (grad m c (256 * t.val + (y 0).val) (y 1).val : EReal)) _ ?_ y
    (halves_cover _ _ y)
  intro pc hpc
  rcases List.mem_cons.mp hpc with rfl | hpc
  · refine fun x => (right_at m c t x).trans ?_
    show grad m c _ _ = grad m c (256 * t.val + (0 + 1 * (x 0).val)) (2048 + 1 * (x 1).val)
    rw [Nat.zero_add, Nat.one_mul, Nat.one_mul, Nat.add_comm 2048]
  rcases List.mem_cons.mp hpc with rfl | hpc
  · refine fun x => (left_at m c t x).trans ?_
    show grad m c _ _ = grad m c (256 * t.val + (0 + 1 * (x 0).val)) (0 + 1 * (x 1).val)
    rw [Nat.zero_add, Nat.one_mul, Nat.one_mul, Nat.zero_add]
  nomatch hpc

theorem rows_at (t : Fin cfg0.N) (y : S256x4096.Idx) :
    ((outsAt0 m c t.val t.isLt).1 y : EReal) = grad m c (256 * t.val + (y 0).val) (y 1).val := by
  have hN : t.val < 32 := lt_of_lt_of_eq t.isLt N_0
  by_cases h0 : t.val % 32 = 0
  · rw [outsAt0_A m c t h0 (by omega)]
    dsimp only
    unfold out0_A_3
    rw [View.read_writes_eq_canon _ _ _ (cover0_A_3 _ _ _ _ _ _ _ _ _ _ _ _ _ _ _ _ _)]
    unfold kernelRun0_A
    dsimp only
    sl_unfold_words
    simp only [View.readAt_eq_ld, Memref.IsWhole.read_unread, View.ld_unit_zero (S := S256x4096) hz,
      View.ld_unit_zero (S := S1x4096) hz, View.ld_unit_zero (S := S256x2048) hz]
    exact halves m c t y
  · rw [outsAt0_B m c t h0 (by omega)]
    dsimp only
    unfold out0_B_3
    rw [View.read_writes_eq_canon _ _ _ (cover0_B_3 _ _ _ _ _ _ _ _ _ _ _ _ _ _ _ _ _ _)]
    unfold kernelRun0_B
    dsimp only
    sl_unfold_words
    simp only [View.readAt_eq_ld, Memref.IsWhole.read_unread, View.ld_unit_zero (S := S256x4096) hz,
      View.ld_unit_zero (S := S1x4096) hz, View.ld_unit_zero (S := S256x2048) hz]
    exact halves m c t y

theorem first (t : Fin cfg0.N) (h0 : t.val % 32 = 0) : (outsAt0 m c t.val t.isLt).2 = k0_pay7 (iblk m c 1 t) (iblk m c 2 t) (iblk m c 0 t) := by
  rw [outsAt0_A m c t h0 (by have hN : t.val < 32 := lt_of_lt_of_eq t.isLt N_0; omega)]
  dsimp only
  unfold out0_A_4
  rw [View.read_writes_eq_canon _ _ _ (cover0_A_4 _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S256x4096) hz,
    View.ld_unit_zero (S := S1x4096) hz, View.ld_unit_zero (S := S256x2048) hz]

theorem next (t : Fin cfg0.N) (h0 : t.val % 32 ≠ 0) (y : S1x4096.Idx) : ((outsAt0 m c t.val t.isLt).2 y : EReal)
    = (fun a b : EReal => a + b) ((outsAt0 m c (t.val - 1) (Nat.lt_of_le_of_lt (Nat.sub_le _ _) t.isLt)).2 y)
      (k0_pay7 (iblk m c 1 t) (iblk m c 2 t) (iblk m c 0 t) y) := by
  rw [outsAt0_B m c t h0 (by omega)]
  dsimp only
  unfold out0_B_4
  rw [View.read_writes_eq_canon _ _ _ (cover0_B_4 _ _ _ _ _ _ _ _ _ _ _ _ _ _ _ _ _ _)]
  unfold kernelRun0_B
  dsimp only
  sl_unfold_words
  rw [View.canon_unit_zero hz]
  unfold k0_pay8
  simp only [View.readAt_eq_ld, Memref.IsWhole.read_unread, View.ld_unit_zero (S := S256x4096) hz,
    View.ld_unit_zero (S := S1x4096) hz, View.ld_unit_zero (S := S256x2048) hz, shapeCast_self]
  rfl

/-- After the last point the bias's gradient is whole. -/
theorem cols_at (t : Fin cfg0.N) (h : t.val % 32 = 32 - 1) (y : S1x4096.Idx) :
    ((outsAt0 m c t.val t.isLt).2 y : EReal) = ∑ k : Fin 8192, grad m c k.val (y 1).val :=
  tiled_sum (N := cfg0.N) (nk := 32) (tc := 256) (by decide) (by decide) (fun n hn => ((outsAt0 m c n hn).2 y : EReal))
    (fun _ k => grad m c k (y 1).val)
    (fun n hn h0 => (congrFun (first m c ⟨n, hn⟩ h0) y).trans ((sums_at m c ⟨n, hn⟩ y).trans (by
      rw [Nat.mod_eq_of_lt (lt_of_lt_of_eq hn N_0)])))
    (fun n hn h0 => (next m c ⟨n, hn⟩ h0 y).trans (congrArg _ ((sums_at m c ⟨n, hn⟩ y).trans (by
      rw [Nat.mod_eq_of_lt (lt_of_lt_of_eq hn N_0)])))) t.val t.isLt h

theorem covers3 : (cfg0.win 3).Covers := by decide +kernel
theorem covers4 : (cfg0.win 4).Covers := by decide +kernel

theorem last4 : ∀ t : Fin cfg0.N, (cfg0.win 4).flush t = true → t.val % 32 = 32 - 1 :=
  (by decide +kernel : ∀ t : Fin grid0.N, _)

theorem final3 : (dats m 0 c).arrAt 3 cfg0.N = rows m c :=
  (dats m 0 c).arrAt_eq_of_cover 3 (rows m c) (fun t _ => by
    rw [flushed3]
    funext y
    refine (rows_at m c t y).trans ?_
    show _ = grad m c (win0_3.index t 0 * 256 + 1 * (y 0).val) (win0_3.index t 1 * 4096 + 1 * (y 1).val)
    rw [(blocks t).2.2.2.1]
    exact congrArg₂ (grad m c) (block_coord _ _ _).symm ((block_coord _ _ _).trans (Nat.zero_add _)).symm)
    (covers3.cover _ (Memref.isWhole_whole _))

theorem final4 : (dats m 0 c).arrAt 4 cfg0.N = cols m c :=
  (dats m 0 c).arrAt_eq_of_cover 4 (cols m c) (fun t ht => by
    rw [flushed4]
    funext y
    have e : (((cfg0.win 4).blk t).view.emb y 1).val = (y 1).val := by
      show win0_4.index t 1 * 4096 + 1 * (y 1).val = _
      rw [(blocks t).2.2.2.2]; exact (block_coord _ _ _).trans (Nat.zero_add _)
    exact (cols_at m c t (last4 t ht) y).trans (cols_apply m c (((cfg0.win 4).blk t).view.emb y) _ e).symm)
    (covers4.cover _ (Memref.isWhole_whole _))

end Cert.Kernel18Ideal.Hand

namespace Cert.Proof

open Idealize.ShloMosaic Idealize.ShloMosaic.TcCoe Idealize.SL.Sem Cert.Tiles

theorem bodies18 : Cert.Kernel18.defs₀ (F := Bits) = Cert.Kernel18Ideal.defs₀ (F := Bits) :=
  congrArg Defs.onTc (funext fun l => funext fun x => match l, x with | 0, (_, _) => rfl)

theorem frame_Kernel18 : Cert.quiescent_Kernel18 := fun m g _ =>
  (congrArg (fun d => θ_run (Pipeline.defs _ d) _ _ _) bodies18).mpr (Cert.Kernel18Ideal.Gen.frame (F := Bits) m g)

theorem frame_Kernel18Ideal : Cert.quiescent_Kernel18Ideal := fun m g _ => Cert.Kernel18Ideal.Gen.frame m g

theorem frame_Reference18Ideal : Cert.quiescent_Reference18Ideal := fun m g _ =>
  (θ_run Cert.Reference18Ideal.defs _ _).mono (fun r h => ⟨fun c => (h c).2.2, sem_eq_zero_of_no_sems (by decide) r.2⟩)
    (Cert.Reference18Ideal.Value.run m g)

/-- The gradient's entry as a function of the three arrays. -/
noncomputable def gate_grad (x0 : Cert.Reference18Ideal.S8192x2048.Idx → EReal) (x1 : Cert.Reference18Ideal.S8192x4096.Idx → EReal)
    (x2 : Cert.Reference18Ideal.S1x4096.Idx → EReal) (r l : ℕ) : EReal :=
  if l < 2048 then entry x0 ![r, l] * Ideal.logistic (entry x1 ![r, l + 2048] + entry x2 ![0, l + 2048])
  else entry x0 ![r, l - 2048] * (entry x1 ![r, l - 2048] + entry x2 ![0, l - 2048])
    * Ideal.logistic (entry x1 ![r, l - 2048 + 2048] + entry x2 ![0, l - 2048 + 2048])
    * (((1 : ℝ) : EReal) - Ideal.logistic (entry x1 ![r, l - 2048 + 2048] + entry x2 ![0, l - 2048 + 2048]))

/-- The reference multiplies the same four factors in another order. -/
theorem regroup (a d s e : EReal) : a * d * (s * e) = d * a * s * e := by
  rw [mul_comm a d, mul_assoc (d * a)]

/-- The reference's gradient before its rounding, at an entry. -/
theorem reference18_apply (x0 : Cert.Reference18Ideal.S8192x2048.Idx → EReal) (x1 : Cert.Reference18Ideal.S8192x4096.Idx → EReal)
    (x2 : Cert.Reference18Ideal.S1x4096.Idx → EReal) (i : Cert.Reference18Ideal.S8192x4096.Idx) :
    (Cert.Reference18Ideal.Read.val_main_v17 (F := Ideal) x0 x1 x2 : Cert.Reference18Ideal.S8192x4096.Idx → EReal) i
      = gate_grad x0 x1 x2 (i 0).val (i 1).val := by
  have hi : (i 1).val < 4096 := (i 1).isLt
  have hb : ∀ j : Cert.Reference18Ideal.S8192x4096.Idx, (Cert.Reference18Ideal.Read.val_main_v1 (F := Ideal) x1 x2 j : EReal)
      = entry x1 ![(j 0).val, (j 1).val] + entry x2 ![0, (j 1).val] := fun j => by
    rw [Cert.Reference18Ideal.Read.val_main_v1_apply, Cert.Reference18Ideal.Read.val_main_v0_apply]
    exact congrArg₂ (fun a b : EReal => a + b) (entry_val x1 j _ fun | 0 => rfl | 1 => rfl)
      (entry_val x2 _ _ fun | 0 => rfl | 1 => rfl)
  have hg : ∀ j : Cert.Reference18Ideal.S8192x2048.Idx, (Cert.Reference18Ideal.Read.val_main_v9 (F := Ideal) x1 x2 j : EReal)
      = Ideal.logistic (entry x1 ![(j 0).val, (j 1).val + 2048] + entry x2 ![0, (j 1).val + 2048]) := fun j => by
    rw [Cert.Reference18Ideal.Read.val_main_v9_apply, Cert.Reference18Ideal.Read.val_main_v8_apply,
      Cert.Reference18Ideal.Read.val_main_v7_apply, Cert.Reference18Ideal.Read.val_main_v6_apply,
      Cert.Reference18Ideal.Read.val_main_v5_apply, Cert.Reference18Ideal.Read.val_main_v4_apply,
      Cert.Reference18Ideal.Read.val_main_v3_apply, hb]
    show Ideal.div (Ideal.ofBits .f32 0x3F800000#32) (Ideal.ofBits .f32 0x3F800000#32
      + Ideal.exp (-(entry x1 ![(j 0).val, 2048 + (j 1).val] + entry x2 ![0, 2048 + (j 1).val] : EReal))) = _
    rw [Cert.Dq.one_word, Nat.add_comm 2048]
    rfl
  rw [gate_grad]
  by_cases hl : (i 1).val < 2048
  · rw [if_pos hl]
    refine (concatenate_pair_apply_left (s₁ := Cert.Reference18Ideal.S8192x2048) (s₂ := Cert.Reference18Ideal.S8192x2048) 1 _ _
      Cert.Reference18Ideal.Gen.concatenates_S8192x2048_S8192x2048_S8192x4096_d1 i rfl
      (ValueIdx.ix2 (i 0) ⟨(i 1).val, hl⟩ : Cert.Reference18Ideal.S8192x2048.Idx) fun | 0 => rfl | 1 => rfl).trans ?_
    rw [Cert.Reference18Ideal.Read.val_main_v15_apply]
    exact congrArg₂ (fun a b : EReal => a * b) (entry_val x0 _ _ fun | 0 => rfl | 1 => rfl) (hg _)
  · rw [if_neg hl]
    refine (concatenate_pair_apply_right (s₁ := Cert.Reference18Ideal.S8192x2048) (s₂ := Cert.Reference18Ideal.S8192x2048) 1 _ _
      Cert.Reference18Ideal.Gen.concatenates_S8192x2048_S8192x2048_S8192x4096_d1 i rfl rfl
      (ValueIdx.ix2 (i 0) ⟨(i 1).val - 2048, by omega⟩ : Cert.Reference18Ideal.S8192x2048.Idx)
      (fun | 0, _ => rfl | 1, h => absurd rfl h) (by show (i 1).val - 2048 + 2048 = _; omega)).trans ?_
    rw [Cert.Reference18Ideal.Read.val_main_v16_apply, Cert.Reference18Ideal.Read.val_main_v14_apply,
      Cert.Reference18Ideal.Read.val_main_v12_apply, Cert.Reference18Ideal.Read.val_main_v11_apply,
      Cert.Reference18Ideal.Read.val_main_v10_apply, Cert.Reference18Ideal.Read.val_main_v2_apply, hb, hg]
    rw [entry_val x0 (ValueIdx.ix2 (i 0) ⟨(i 1).val - 2048, by omega⟩ : Cert.Reference18Ideal.S8192x2048.Idx)
      ![(i 0).val, (i 1).val - 2048] fun | 0 => rfl | 1 => rfl]
    exact (congrArg₂ (fun a b : EReal => a * b) rfl (congrArg₂ (fun a b : EReal => a * b) rfl
      (congrArg₂ (fun a b : EReal => a - b) Cert.Dq.one_word rfl))).trans (regroup _ _ _ _)

/-- The reference's gradient of the bias, at an entry. -/
theorem reference18_cols (x0 : Cert.Reference18Ideal.S8192x2048.Idx → EReal) (x1 : Cert.Reference18Ideal.S8192x4096.Idx → EReal)
    (x2 : Cert.Reference18Ideal.S1x4096.Idx → EReal) (i : Cert.Reference18Ideal.S1x4096.Idx) :
    (Cert.Reference18Ideal.Read.val_main_v19 (F := Ideal) x0 x1 x2 : Cert.Reference18Ideal.S1x4096.Idx → EReal) i
      = ∑ k : Fin 8192, gate_grad x0 x1 x2 k.val (i 1).val := by
  refine (Cert.Reference18Ideal.Read.val_main_v19_apply (F := Ideal) x0 x1 x2 i).trans
    ((Cert.Reference18Ideal.Read.val_main_v18_apply x0 x1 x2 _).trans ?_)
  rw [Finset.sum_congr rfl fun k _ => reference18_apply x0 x1 x2 _]
  refine (congrArg (fun z : EReal => z + _) Ideal.ofBits_zero_f32).trans ((zero_add _).trans ?_)
  have h0 : (i 0).val < 1 := (i 0).isLt
  exact Finset.sum_congr rfl fun k _ => congrArg (gate_grad x0 x1 x2 k.val) (by
    show (i 0).val * 4096 + (i 1).val = (i 1).val; omega)

theorem algebraic18 : Cert.algebraic_Kernel18Ideal_Reference18Ideal := fun m g m' g' _ h =>
  ⟨fun c => Cert.Kernel18Ideal.Hand.rows m c, fun c => Cert.Kernel18Ideal.Hand.cols m c,
    (θ_run Cert.Kernel18Ideal.defs _ _).mono (fun r hr c => ⟨(hr c).1.trans (Cert.Kernel18Ideal.Hand.final3 m c),
      (hr c).2.1.trans (Cert.Kernel18Ideal.Hand.final4 m c), (hr c).2.2⟩) (Cert.Kernel18Ideal.Value.run_blocks m g),
    (θ_run Cert.Reference18Ideal.defs _ _).mono (fun r hr c => ⟨(hr c).1.trans (by
      obtain ⟨h0, h1, h2⟩ := h c
      rw [h0, h1, h2]
      exact (Cert.Reference18Ideal.Read.val_main_v20_eq _ _ _).trans (funext fun i => reference18_apply _ _ _ i)),
      (hr c).2.1.trans (by
      obtain ⟨h0, h1, h2⟩ := h c
      rw [h0, h1, h2]
      refine (Cert.Reference18Ideal.Read.val_main_v19_eq (F := Ideal) _ _ _).trans (funext fun i => ?_)
      exact (reference18_cols _ _ _ i).trans (Cert.Kernel18Ideal.Hand.cols_apply m c i _ rfl).symm), (hr c).2.2⟩)
      (Cert.Reference18Ideal.Value.run m' g')⟩

end Cert.Proof

end
-- ==== Proof.NormRow.lean ====
module

public import proofs.«01_k».proof.Proof.ProductSum
public import proofs.«01_k».proof.Proof.DqReal
public import Idealize.ShloMosaic.PureOps
public import Idealize.ShloMosaic.Lib.Pointwise
public import Idealize.ShloMosaic.Lib.Pipeline.Value
public import Idealize.ShloMosaic.Lib.Pipeline.ValueKit.Geometry

/-! # The channel norm of one row of 2048 entries, and of a tile of 256 rows

A row is a function of its column. The first part is the norm's formula on a row. The second says that the vector operations
a kernel applies to a tile of rows compute, at each place, that formula of the place's row. -/

@[expose] public section

noncomputable section

namespace Cert.Norm

open Idealize.ShloMosaic

/-! ## The formula -/

/-- The row's length and the variance's offset, as the programs spell them. -/
def width : EReal := Ideal.ofBits .f32 0x45000000#32
def eps : EReal := Ideal.ofBits .f32 0x358637BD#32

def mean (f : ℕ → EReal) : EReal := Ideal.div (∑ k : Fin 2048, f k.val) width
def dev (f : ℕ → EReal) (l : ℕ) : EReal := f l - mean f
/-- The variance with its offset. -/
def spread (f : ℕ → EReal) : EReal := mean (fun l => dev f l * dev f l) + eps
def inv (f : ℕ → EReal) : EReal := Ideal.rsqrt (spread f)
def unit (f : ℕ → EReal) (l : ℕ) : EReal := dev f l * inv f
/-- The normalised row under its gain `g` and offset `b`. -/
def affine (f g b : ℕ → EReal) (l : ℕ) : EReal := unit f l * g l + b l

/-- The swish's derivative. -/
def slope (z : EReal) : EReal := Ideal.logistic z * (((1 : ℝ) : EReal) + z * (((1 : ℝ) : EReal) - Ideal.logistic z))
/-- What the norm hands back to a row of inverse deviation `w` and unit row `u` whose unit row receives `h`. -/
def back (w : EReal) (u h : ℕ → EReal) (l : ℕ) : EReal := w * (h l - mean h - u l * mean (fun l => h l * u l))

/-! ## A tile's operations -/

abbrev Tile : Shape := ⟨2, ![256, 2048]⟩
abbrev Column : Shape := ⟨2, ![256, 1]⟩
abbrev Line : Shape := ⟨1, ![256]⟩
abbrev Row : Shape := ⟨2, ![1, 2048]⟩

section
variable (hR : Tile.Reduces [1] Line) (hC : Line.ShapeCasts Column) (hB : Column.Broadcasts Tile) (hG : Row.Broadcasts Tile)

/-- The column of the rows' means. -/
def means (x : FVec Ideal Tile .f32) : FVec Ideal Column .f32 :=
  divf (shapeCast Column (multiReduction .add [1] Line x 0x00000000#32 hR (.inl rfl) rfl) hC)
    (broadcast Column (Scalar.ofBits .f32 0x45000000#32))

theorem means_apply {x : FVec Ideal Tile .f32} {X : ℕ → ℕ → EReal} {o : ℕ} (h : ∀ j, (x j : EReal) = X (o + (j 0).val) (j 1).val)
    (j : Column.Idx) : (means hR hC x j : EReal) = mean (X (o + (j 0).val)) := by
  refine congrArg (fun a : EReal => Ideal.div a width) ?_
  have hj : (j 1).val = 0 := by have : (j 1).val < 1 := (j 1).isLt; omega
  refine (shapeCast_apply _ _ j (ValueIdx.ix1 (j 0)) (by
    rw [Shape.rowMajor_val_one, Shape.rowMajor_val_two]; show (j 0).val = (j 0).val * 1 + (j 1).val; omega)).trans ?_
  simp only [pointwise]
  exact Finset.sum_congr rfl fun k _ => h (ValueIdx.ix2 (j 0) k)

theorem column_apply (y : FVec Ideal Column .f32) (j : Tile.Idx) : broadcastTo Tile y hB j = y (ValueIdx.ix2 (j 0) 0) :=
  broadcastTo_apply _ _ j (ValueIdx.ix2 (j 0) 0) fun | 0 => rfl | 1 => rfl

theorem row_apply (y : FVec Ideal Row .f32) (j : Tile.Idx) : broadcastTo Tile y hG j = y (ValueIdx.ix2 0 (j 1)) :=
  broadcastTo_apply _ _ j (ValueIdx.ix2 0 (j 1)) fun | 0 => rfl | 1 => rfl

/-- The rows less their means. -/
def devs (x : FVec Ideal Tile .f32) : FVec Ideal Tile .f32 := subf x (broadcastTo Tile (means hR hC x) hB)

theorem devs_apply {x : FVec Ideal Tile .f32} {X : ℕ → ℕ → EReal} {o : ℕ} (h : ∀ j, (x j : EReal) = X (o + (j 0).val) (j 1).val)
    (j : Tile.Idx) : (devs hR hC hB x j : EReal) = dev (X (o + (j 0).val)) (j 1).val :=
  congrArg₂ (fun a b : EReal => a - b) (h j) ((column_apply hB _ j).trans (means_apply hR hC h _))

/-- The column of the rows' inverse deviations. -/
def invs (x : FVec Ideal Tile .f32) : FVec Ideal Column .f32 :=
  rsqrt (addf (means hR hC (mulf (devs hR hC hB x) (devs hR hC hB x))) (broadcast Column (Scalar.ofBits .f32 0x358637BD#32)))

theorem invs_apply {x : FVec Ideal Tile .f32} {X : ℕ → ℕ → EReal} {o : ℕ} (h : ∀ j, (x j : EReal) = X (o + (j 0).val) (j 1).val)
    (j : Column.Idx) : (invs hR hC hB x j : EReal) = inv (X (o + (j 0).val)) :=
  congrArg (fun a : EReal => Ideal.rsqrt (a + eps)) (means_apply hR hC (X := fun r l => dev (X r) l * dev (X r) l)
    (fun j => congrArg₂ (fun a b : EReal => a * b) (devs_apply hR hC hB h j) (devs_apply hR hC hB h j)) j)

/-- The rows in units of their deviations. -/
def units (x : FVec Ideal Tile .f32) : FVec Ideal Tile .f32 :=
  mulf (devs hR hC hB x) (broadcastTo Tile (invs hR hC hB x) hB)

theorem units_apply {x : FVec Ideal Tile .f32} {X : ℕ → ℕ → EReal} {o : ℕ} (h : ∀ j, (x j : EReal) = X (o + (j 0).val) (j 1).val)
    (j : Tile.Idx) : (units hR hC hB x j : EReal) = unit (X (o + (j 0).val)) (j 1).val :=
  congrArg₂ (fun a b : EReal => a * b) (devs_apply hR hC hB h j) ((column_apply hB _ j).trans (invs_apply hR hC hB h _))

/-- The normalised tile. -/
def affines (x : FVec Ideal Tile .f32) (g b : FVec Ideal Row .f32) : FVec Ideal Tile .f32 :=
  addf (mulf (units hR hC hB x) (broadcastTo Tile g hG)) (broadcastTo Tile b hG)

theorem affines_apply {x : FVec Ideal Tile .f32} {g b : FVec Ideal Row .f32} {X : ℕ → ℕ → EReal} {G B : ℕ → EReal} {o : ℕ}
    (h : ∀ j, (x j : EReal) = X (o + (j 0).val) (j 1).val) (hg : ∀ j, (g j : EReal) = G (j 1).val)
    (hb : ∀ j, (b j : EReal) = B (j 1).val) (j : Tile.Idx) :
    (affines hR hC hB hG x g b j : EReal) = affine (X (o + (j 0).val)) G B (j 1).val :=
  congrArg₂ (fun a b : EReal => a + b)
    (congrArg₂ (fun a b : EReal => a * b) (units_apply hR hC hB h j) ((row_apply hG _ j).trans (hg _)))
    ((row_apply hG _ j).trans (hb _))

/-- The columns' sums. -/
theorem sums_apply (hS : Tile.Reduces [0] ⟨1, ![2048]⟩) (hT : (⟨1, ![2048]⟩ : Shape).ShapeCasts Row) (x : FVec Ideal Tile .f32)
    (j : Row.Idx) : (shapeCast Row (multiReduction .add [0] ⟨1, ![2048]⟩ x 0x00000000#32 hS (.inl rfl) rfl) hT j : EReal)
      = ∑ k : Fin 256, (x (ValueIdx.ix2 k (j 1)) : EReal) := by
  refine (shapeCast_apply _ _ j (ValueIdx.ix1 (j 1)) (by
    have hj : (j 0).val = 0 := by have : (j 0).val < 1 := (j 0).isLt; omega
    rw [Shape.rowMajor_val_one, Shape.rowMajor_val_two]; show (j 1).val = (j 0).val * 2048 + (j 1).val; omega)).trans ?_
  simp only [pointwise]
  rfl

/-- The tile handed back through the norm. -/
def backs (w : FVec Ideal Column .f32) (u y : FVec Ideal Tile .f32) (g : FVec Ideal Row .f32) : FVec Ideal Tile .f32 :=
  mulf (broadcastTo Tile w hB)
    (subf (subf (mulf y (broadcastTo Tile g hG)) (broadcastTo Tile (means hR hC (mulf y (broadcastTo Tile g hG))) hB))
      (mulf u (broadcastTo Tile (means hR hC (mulf (mulf y (broadcastTo Tile g hG)) u)) hB)))

theorem backs_apply {w : FVec Ideal Column .f32} {u y : FVec Ideal Tile .f32} {g : FVec Ideal Row .f32}
    {W : ℕ → EReal} {U Y : ℕ → ℕ → EReal} {G : ℕ → EReal} {o : ℕ} (hw : ∀ j, (w j : EReal) = W (o + (j 0).val))
    (hu : ∀ j, (u j : EReal) = U (o + (j 0).val) (j 1).val) (hy : ∀ j, (y j : EReal) = Y (o + (j 0).val) (j 1).val)
    (hg : ∀ j, (g j : EReal) = G (j 1).val) (j : Tile.Idx) :
    (backs hR hC hB hG w u y g j : EReal)
      = back (W (o + (j 0).val)) (U (o + (j 0).val)) (fun l => Y (o + (j 0).val) l * G l) (j 1).val := by
  have h : ∀ j, (mulf y (broadcastTo Tile g hG) j : EReal) = (fun r l => Y r l * G l) (o + (j 0).val) (j 1).val := fun j =>
    congrArg₂ (fun a b : EReal => a * b) (hy j) ((row_apply hG _ j).trans (hg _))
  have hm : ∀ j, (mulf (mulf y (broadcastTo Tile g hG)) u j : EReal)
      = (fun r l => Y r l * G l * U r l) (o + (j 0).val) (j 1).val := fun j =>
    congrArg₂ (fun a b : EReal => a * b) (h j) (hu j)
  refine congrArg₂ (fun a b : EReal => a * b) ((column_apply hB _ j).trans (hw _)) ?_
  refine congrArg₂ (fun a b : EReal => a - b) ?_ ?_
  · exact congrArg₂ (fun a b : EReal => a - b) (h j) ((column_apply hB _ j).trans (means_apply hR hC (X := fun r l => Y r l * G l) h _))
  · exact congrArg₂ (fun a b : EReal => a * b) (hu j) ((column_apply hB _ j).trans (means_apply hR hC (X := fun r l => Y r l * G l * U r l) hm _))

end

end Cert.Norm

end

end
-- ==== Proof.NormReal.lean ====
module

public import proofs.«01_k».proof.Proof.NormRow
public import Mathlib.Tactic.FieldSimp
public import Mathlib.Tactic.Ring

/-! # The channel norm of a row of real numbers, and its gradient by the chain rule

The formula of `Cert.Norm` at a real row is a real number. The gradient as the chain rule takes it, one operation after
another, is the closed form that the formula `back` is. -/

@[expose] public section

noncomputable section

namespace Cert.Norm

open Idealize.ShloMosaic

/-! ## The constants -/

theorem width_word : Ideal.ofBits .f32 0x45000000#32 = ((2048 : ℝ) : EReal) := by
  have h : Ideal.ofBits .f32 0x45000000#32
      = (((1 : ℝ) * ((2 ^ 23 + (0 : ℕ) : ℕ) : ℝ) * (2 : ℝ) ^ ((138 : ℤ) - (2 ^ (8 - 1) - 1) - (23 : ℕ)) : ℝ) : EReal) := by
    simp [Ideal.ofBits, Ideal.ieee]
  rw [h]
  exact congrArg _ (by norm_num)

theorem two_word : Ideal.ofBits .f32 0x40000000#32 = ((2 : ℝ) : EReal) := by
  have h : Ideal.ofBits .f32 0x40000000#32
      = (((1 : ℝ) * ((2 ^ 23 + (0 : ℕ) : ℕ) : ℝ) * (2 : ℝ) ^ ((128 : ℤ) - (2 ^ (8 - 1) - 1) - (23 : ℕ)) : ℝ) : EReal) := by
    simp [Ideal.ofBits, Ideal.ieee]
  rw [h]
  exact congrArg _ (by norm_num)

theorem half_word : Ideal.ofBits .f32 0xBF000000#32 = ((-(1 / 2) : ℝ) : EReal) := by
  have h : Ideal.ofBits .f32 0xBF000000#32
      = (((-1 : ℝ) * ((2 ^ 23 + (0 : ℕ) : ℕ) : ℝ) * (2 : ℝ) ^ ((126 : ℤ) - (2 ^ (8 - 1) - 1) - (23 : ℕ)) : ℝ) : EReal) := by
    simp [Ideal.ofBits, Ideal.ieee]
  rw [h]
  exact congrArg _ (by norm_num)

/-- The variance's offset, a positive number near a millionth. -/
def reps : ℝ := 8796093 * (2 : ℝ) ^ (-43 : ℤ)

theorem reps_pos : 0 < reps := mul_pos (by norm_num) (zpow_pos (by norm_num) _)

theorem eps_word : Ideal.ofBits .f32 0x358637BD#32 = (reps : EReal) := by
  have h : Ideal.ofBits .f32 0x358637BD#32
      = (((1 : ℝ) * ((2 ^ 23 + (407485 : ℕ) : ℕ) : ℝ) * (2 : ℝ) ^ ((107 : ℤ) - (2 ^ (8 - 1) - 1) - (23 : ℕ)) : ℝ) : EReal) := by
    simp [Ideal.ofBits, Ideal.ieee]
  rw [h]
  exact congrArg _ (by norm_num [reps])

/-! ## The formula in real numbers -/

def rmean (f : ℕ → ℝ) : ℝ := (∑ k : Fin 2048, f k.val) / 2048
def rdev (f : ℕ → ℝ) (l : ℕ) : ℝ := f l - rmean f
def rspread (f : ℕ → ℝ) : ℝ := rmean (fun l => rdev f l * rdev f l) + reps
def rinv (f : ℕ → ℝ) : ℝ := (Real.sqrt (rspread f))⁻¹
def runit (f : ℕ → ℝ) (l : ℕ) : ℝ := rdev f l * rinv f
def raffine (f g b : ℕ → ℝ) (l : ℕ) : ℝ := runit f l * g l + b l
def rsig (z : ℝ) : ℝ := (1 + Real.exp (-z))⁻¹
def rslope (z : ℝ) : ℝ := rsig z * (1 + z * (1 - rsig z))
def rback (w : ℝ) (u h : ℕ → ℝ) (l : ℕ) : ℝ := w * (h l - rmean h - u l * rmean (fun l => h l * u l))

theorem rspread_pos (f : ℕ → ℝ) : 0 < rspread f :=
  add_pos_of_nonneg_of_pos (div_nonneg (Finset.sum_nonneg fun k _ => mul_self_nonneg _) (by norm_num)) reps_pos

theorem mean_coe (f : ℕ → ℝ) : mean (fun l => (f l : EReal)) = (rmean f : EReal) := by
  unfold mean width
  rw [width_word, Cert.Dq.sum_coe (fun k : Fin 2048 => f k.val)]
  exact Cert.Dq.div_real (φ := .f32) rfl rfl (by norm_num)

theorem dev_coe (f : ℕ → ℝ) (l : ℕ) : dev (fun l => (f l : EReal)) l = (rdev f l : EReal) := by
  unfold dev
  rw [mean_coe]
  exact (EReal.coe_sub _ _).symm

theorem spread_coe (f : ℕ → ℝ) : spread (fun l => (f l : EReal)) = (rspread f : EReal) := by
  unfold spread eps
  rw [show (fun l => dev (fun l => (f l : EReal)) l * dev (fun l => (f l : EReal)) l) = fun l => ((rdev f l * rdev f l : ℝ) : EReal) from
    funext fun l => by rw [dev_coe, EReal.coe_mul], mean_coe, eps_word]
  exact (EReal.coe_add _ _).symm

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem inv_coe (f : ℕ → ℝ) : inv (fun l => (f l : EReal)) = (rinv f : EReal) := by
  rw [inv, spread_coe, rsqrt_pos (rspread_pos f)]
  rfl

theorem unit_coe (f : ℕ → ℝ) (l : ℕ) : unit (fun l => (f l : EReal)) l = (runit f l : EReal) := by
  rw [unit, dev_coe, inv_coe]
  exact (EReal.coe_mul _ _).symm

theorem affine_coe (f g b : ℕ → ℝ) (l : ℕ) :
    affine (fun l => (f l : EReal)) (fun l => (g l : EReal)) (fun l => (b l : EReal)) l = (raffine f g b l : EReal) := by
  rw [affine, unit_coe, raffine, EReal.coe_add, EReal.coe_mul]

theorem slope_coe (z : ℝ) : slope (z : EReal) = (rslope z : EReal) := by
  rw [slope, Ideal.logistic_coe, rslope, EReal.coe_mul, EReal.coe_add, EReal.coe_mul, EReal.coe_sub]
  rfl

theorem back_coe (w : ℝ) (u h : ℕ → ℝ) (l : ℕ) :
    back (w : EReal) (fun l => (u l : EReal)) (fun l => (h l : EReal)) l = (rback w u h l : EReal) := by
  rw [back, mean_coe, rback, EReal.coe_mul, EReal.coe_sub, EReal.coe_sub, EReal.coe_mul, ← mean_coe (fun l => h l * u l)]
  simp only [EReal.coe_mul]

/-! ## The chain rule -/

theorem sum_rdev (f : ℕ → ℝ) : ∑ k : Fin 2048, rdev f k.val = 0 := by
  simp only [rdev, Finset.sum_sub_distrib, rmean, Finset.sum_const, Finset.card_univ, Fintype.card_fin, nsmul_eq_mul]
  push_cast
  ring

/-- The variance's share of the gradient, before the deviation it multiplies. -/
def share (f h : ℕ → ℝ) : ℝ := (∑ k : Fin 2048, rdev f k.val * h k.val) * (-(1 / 2) * (rinv f / rspread f)) / 2048

/-- The row's gradient as the chain rule takes it: through the deviation, the variance, and the mean of each. -/
def chain (f h : ℕ → ℝ) (l : ℕ) : ℝ :=
  h l * rinv f + share f h * (2 * rdev f l)
    + (∑ k : Fin 2048, -(h k.val * rinv f) + ∑ k : Fin 2048, -(share f h * (2 * rdev f k.val))) / 2048

theorem chain_eq (f h : ℕ → ℝ) (l : ℕ) : chain f h l = rback (rinv f) (runit f) h l := by
  have hs : rinv f / rspread f = rinv f * rinv f * rinv f := by
    have e : (rspread f)⁻¹ = rinv f * rinv f := by rw [rinv, ← mul_inv, Real.mul_self_sqrt (rspread_pos f).le]
    rw [div_eq_mul_inv, e, mul_assoc]
  have h1 : ∑ k : Fin 2048, -(share f h * (2 * rdev f k.val)) = 0 := by
    rw [Finset.sum_neg_distrib, ← Finset.mul_sum, ← Finset.mul_sum, sum_rdev]
    ring
  have h2 : ∑ k : Fin 2048, -(h k.val * rinv f) = -((∑ k : Fin 2048, h k.val) * rinv f) := by
    rw [Finset.sum_neg_distrib, Finset.sum_mul]
  have h3 : ∑ k : Fin 2048, h k.val * (rdev f k.val * rinv f) = (∑ k : Fin 2048, rdev f k.val * h k.val) * rinv f := by
    rw [Finset.sum_mul]
    exact Finset.sum_congr rfl fun k _ => by ring
  rw [chain, h1, h2, rback, share, hs]
  simp only [rmean, runit]
  rw [h3]
  ring

/-- The swish's gradient as the chain rule takes it. -/
theorem slope_chain (d z : ℝ) : d * rsig z + z * d * (rsig z * (1 - rsig z)) = d * rslope z := by
  rw [rslope]
  ring

end Cert.Norm

end

end
-- ==== Proof.NormBwd.lean ====
module

public import proofs.«01_k».proof.Defs
public import proofs.«01_k».proof.Proof.Gen.Kernel19
public import proofs.«01_k».proof.Proof.Gen.Kernel19Ideal.Value
public import proofs.«01_k».proof.Proof.Gen.Reference19Ideal.Read
public import proofs.«01_k».proof.Proof.NormReal
public import proofs.«01_k».proof.Proof.Below
public import Idealize.ShloMosaic.Lib.Pipeline.ReadBack

/-! # The gradient of the channel norm with swish: frame and value

The kernel walks the rows in 32 tiles. At each it writes the tile's gradient and adds the tile's column sums to the gradients of
the gain and of the offset. All four arguments are taken to hold finite numbers. -/

@[expose] public section

namespace Cert.Norm

/-! ## The three gradients at real arguments -/

/-- The four arguments by their coordinates. -/
structure Args where
  (d x : ℕ → ℕ → ℝ) (g b : ℕ → ℝ)

namespace Args

variable (A : Args)

/-- What the affine row receives. -/
noncomputable def grad (r l : ℕ) : ℝ := A.d r l * rslope (raffine (A.x r) A.g A.b l)
/-- The rows' gradient. -/
noncomputable def rows (r l : ℕ) : ℝ := rback (rinv (A.x r)) (runit (A.x r)) (fun l => A.grad r l * A.g l) l
/-- A row's part in the gain's gradient. -/
noncomputable def gain (r l : ℕ) : ℝ := A.grad r l * runit (A.x r) l

/-- The three results as arrays. -/
noncomputable def rowsArr : (⟨2, ![8192, 2048]⟩ : Idealize.ShloMosaic.Shape).Idx → EReal := fun i => (A.rows (i 0).val (i 1).val : EReal)

@[irreducible] noncomputable def total (f : ℕ → ℕ → ℝ) (l : ℕ) : EReal := ∑ k : Fin 8192, (f k.val l : EReal)

theorem total_eq (f : ℕ → ℕ → ℝ) (l : ℕ) : total f l = ∑ k : Fin 8192, (f k.val l : EReal) := by
  unfold total
  rfl

noncomputable def gainArr : (⟨2, ![1, 2048]⟩ : Idealize.ShloMosaic.Shape).Idx → EReal := fun i => total A.gain (i 1).val
noncomputable def offsetArr : (⟨2, ![1, 2048]⟩ : Idealize.ShloMosaic.Shape).Idx → EReal := fun i => total A.grad (i 1).val

end Args

end Cert.Norm

namespace Cert.Kernel19Ideal.Hand

open Cert.Kernel19Ideal.Gen Cert.Kernel19Ideal.Value Cert.Tiles Cert.Norm
open Idealize.ShloMosaic Idealize.ShloMosaic.TcCoe Idealize.SL Idealize.SL.Sem

variable {m : (ℓ : Loc nD τ sig) → Buf (Elt Ideal) ℓ} {c : Dev nD} {A : Args}

/-- The memory holds the arguments. -/
structure Holds (m : (ℓ : Loc nD τ sig) → Buf (Elt Ideal) ℓ) (c : Dev nD) (A : Args) : Prop where
  d (i : S8192x2048.Idx) : (m ((c : Thread nD τ).loc main_arg0) i : EReal) = (A.d (i 0).val (i 1).val : EReal)
  x (i : S8192x2048.Idx) : (m ((c : Thread nD τ).loc main_arg1) i : EReal) = (A.x (i 0).val (i 1).val : EReal)
  g (i : S1x2048.Idx) : (m ((c : Thread nD τ).loc main_arg2) i : EReal) = (A.g (i 1).val : EReal)
  b (i : S1x2048.Idx) : (m ((c : Thread nD τ).loc main_arg3) i : EReal) = (A.b (i 1).val : EReal)

/-- The blocks the seven windows are on at point `t`. -/
theorem blocks : ∀ t : Fin cfg0.N, (win0_0.index t = ![t.val, 0] ∧ win0_1.index t = ![t.val, 0] ∧ win0_2.index t = ![0, 0]
    ∧ win0_3.index t = ![0, 0]) ∧ win0_4.index t = ![t.val, 0] ∧ win0_5.index t = ![0, 0] ∧ win0_6.index t = ![0, 0] :=
  (by decide +kernel : ∀ t : Fin grid0.N, _)

/-! ## The body's values at a tile -/

theorem d_at (h : Holds m c A) (t : Fin cfg0.N) (j : S256x2048.Idx) :
    (iblk m c 0 t j : EReal) = (A.d (256 * t.val + (j 0).val) (j 1).val : EReal) := by
  refine (h.d (((cfg0.win 0).blk t).view.emb j)).trans (congrArg _ (congrArg₂ A.d ?_ ?_))
  · show win0_0.index t 0 * 256 + 1 * (j 0).val = _
    rw [(blocks t).1.1]; exact block_coord _ _ _
  · show win0_0.index t 1 * 2048 + 1 * (j 1).val = _
    rw [(blocks t).1.1]; exact (block_coord _ _ _).trans (Nat.zero_add _)

theorem x_at (h : Holds m c A) (t : Fin cfg0.N) (j : S256x2048.Idx) :
    (iblk m c 1 t j : EReal) = (A.x (256 * t.val + (j 0).val) (j 1).val : EReal) := by
  refine (h.x (((cfg0.win 1).blk t).view.emb j)).trans (congrArg _ (congrArg₂ A.x ?_ ?_))
  · show win0_1.index t 0 * 256 + 1 * (j 0).val = _
    rw [(blocks t).1.2.1]; exact block_coord _ _ _
  · show win0_1.index t 1 * 2048 + 1 * (j 1).val = _
    rw [(blocks t).1.2.1]; exact (block_coord _ _ _).trans (Nat.zero_add _)

theorem g_at (h : Holds m c A) (t : Fin cfg0.N) (j : S1x2048.Idx) : (iblk m c 2 t j : EReal) = (A.g (j 1).val : EReal) := by
  refine (h.g (((cfg0.win 2).blk t).view.emb j)).trans (congrArg _ (congrArg A.g ?_))
  show win0_2.index t 1 * 2048 + 1 * (j 1).val = _
  rw [(blocks t).1.2.2.1]; exact (block_coord _ _ _).trans (Nat.zero_add _)

theorem b_at (h : Holds m c A) (t : Fin cfg0.N) (j : S1x2048.Idx) : (iblk m c 3 t j : EReal) = (A.b (j 1).val : EReal) := by
  refine (h.b (((cfg0.win 3).blk t).view.emb j)).trans (congrArg _ (congrArg A.b ?_))
  show win0_3.index t 1 * 2048 + 1 * (j 1).val = _
  rw [(blocks t).1.2.2.2]; exact (block_coord _ _ _).trans (Nat.zero_add _)

theorem inv_at (h : Holds m c A) (t : Fin cfg0.N) (j : S256x1.Idx) :
    (k0_pay6 (iblk m c 1 t) j : EReal) = (rinv (A.x (256 * t.val + (j 0).val)) : EReal) :=
  (invs_apply reduces_S256x2048_S256 shapeCasts_S256_S256x1 broadcasts_S256x1_S256x2048
    (X := fun r l => (A.x r l : EReal)) (x_at h t) j).trans (inv_coe _)

theorem unit_at (h : Holds m c A) (t : Fin cfg0.N) (j : S256x2048.Idx) :
    (k0_pay7 (iblk m c 1 t) j : EReal) = (runit (A.x (256 * t.val + (j 0).val)) (j 1).val : EReal) :=
  (units_apply reduces_S256x2048_S256 shapeCasts_S256_S256x1 broadcasts_S256x1_S256x2048
    (X := fun r l => (A.x r l : EReal)) (x_at h t) j).trans (unit_coe _ _)

theorem grad_at (h : Holds m c A) (t : Fin cfg0.N) (j : S256x2048.Idx) :
    (k0_pay8 (iblk m c 1 t) (iblk m c 2 t) (iblk m c 3 t) (iblk m c 0 t) j : EReal)
      = (A.grad (256 * t.val + (j 0).val) (j 1).val : EReal) := by
  have e := (affines_apply reduces_S256x2048_S256 shapeCasts_S256_S256x1 broadcasts_S256x1_S256x2048 broadcasts_S1x2048_S256x2048
    (X := fun r l => (A.x r l : EReal)) (G := fun l => (A.g l : EReal)) (B := fun l => (A.b l : EReal))
    (x_at h t) (g_at h t) (b_at h t) j).trans (affine_coe _ _ _ _)
  rw [Args.grad, EReal.coe_mul, ← slope_coe]
  refine congrArg₂ (fun a b : EReal => a * b) (d_at h t j) ?_
  unfold Cert.Norm.slope
  rw [← Cert.Dq.one_word]
  exact congrArg (fun z : EReal => Ideal.logistic z * (Ideal.ofBits .f32 0x3F800000#32
    + z * (Ideal.ofBits .f32 0x3F800000#32 - Ideal.logistic z))) e

theorem rows_at (h : Holds m c A) (t : Fin cfg0.N) (j : S256x2048.Idx) :
    (k0_pay4 (k0_pay6 (iblk m c 1 t)) (k0_pay7 (iblk m c 1 t))
      (k0_pay8 (iblk m c 1 t) (iblk m c 2 t) (iblk m c 3 t) (iblk m c 0 t)) (iblk m c 2 t) j : EReal)
      = (A.rows (256 * t.val + (j 0).val) (j 1).val : EReal) := by
  refine (backs_apply reduces_S256x2048_S256 shapeCasts_S256_S256x1 broadcasts_S256x1_S256x2048 broadcasts_S1x2048_S256x2048
    (W := fun r => (rinv (A.x r) : EReal)) (U := fun r l => (runit (A.x r) l : EReal)) (Y := fun r l => (A.grad r l : EReal))
    (G := fun l => (A.g l : EReal)) (inv_at h t) (unit_at h t) (grad_at h t) (g_at h t) j).trans ?_
  rw [Args.rows, ← back_coe]
  simp only [EReal.coe_mul]

/-- The tile's column sums. -/
theorem offset_sums (h : Holds m c A) (t : Fin cfg0.N) (y : S1x2048.Idx) :
    (k0_pay2 (k0_pay8 (iblk m c 1 t) (iblk m c 2 t) (iblk m c 3 t) (iblk m c 0 t)) y : EReal)
      = ∑ k : Fin 256, (A.grad (256 * t.val + k.val) (y 1).val : EReal) :=
  (sums_apply reduces_S256x2048_S2048 shapeCasts_S2048_S1x2048 _ y).trans (Finset.sum_congr rfl fun k _ => grad_at h t _)

theorem gain_sums (h : Holds m c A) (t : Fin cfg0.N) (y : S1x2048.Idx) :
    (k0_pay9 (iblk m c 1 t) (iblk m c 2 t) (iblk m c 3 t) (iblk m c 0 t) y : EReal)
      = ∑ k : Fin 256, (A.gain (256 * t.val + k.val) (y 1).val : EReal) :=
  (sums_apply reduces_S256x2048_S2048 shapeCasts_S2048_S1x2048 _ y).trans (Finset.sum_congr rfl fun k _ =>
    (congrArg₂ (fun a b : EReal => a * b) (grad_at h t _) (unit_at h t _)).trans (EReal.coe_mul _ _).symm)

/-! ## What the points leave -/

variable (m c)

theorem left_rows (t : Fin cfg0.N) : (outsAt0 m c t.val t.isLt).1 = k0_pay4 (k0_pay6 (iblk m c 1 t)) (k0_pay7 (iblk m c 1 t))
      (k0_pay8 (iblk m c 1 t) (iblk m c 2 t) (iblk m c 3 t) (iblk m c 0 t)) (iblk m c 2 t) := by
  have hN : t.val < 32 := lt_of_lt_of_eq t.isLt N_0
  by_cases h0 : t.val % 32 = 0
  · rw [outsAt0_A m c t h0 (by omega) h0 (by omega)]
    dsimp only
    unfold out0_A_4
    rw [View.read_writes_eq_canon _ _ _ (cover0_A_4 _ _ _ _ _ _ _ _ _ _ _ _ _ _ _ _ _ _ _ _ _ _ _ _)]
    unfold kernelRun0_A
    dsimp only
    sl_unfold_words
    rw [View.canon_unit_zero hz]
    simp only [View.readAt_eq_ld, Memref.IsWhole.read_unread, View.ld_unit_zero (S := S1x2048) hz, View.ld_unit_zero (S := S256x2048) hz]
  · rw [outsAt0_B m c t h0 (by omega) h0 (by omega)]
    dsimp only
    unfold out0_B_4
    rw [View.read_writes_eq_canon _ _ _ (cover0_B_4 _ _ _ _ _ _ _ _ _ _ _ _ _ _ _ _ _ _ _ _ _ _ _ _ _ _)]
    unfold kernelRun0_B
    dsimp only
    sl_unfold_words
    rw [View.canon_unit_zero hz]
    simp only [View.readAt_eq_ld, Memref.IsWhole.read_unread, View.ld_unit_zero (S := S1x2048) hz, View.ld_unit_zero (S := S256x2048) hz]

theorem first_gain (t : Fin cfg0.N) (h0 : t.val % 32 = 0) : (outsAt0 m c t.val t.isLt).2.1
    = k0_pay9 (iblk m c 1 t) (iblk m c 2 t) (iblk m c 3 t) (iblk m c 0 t) := by
  have hN : t.val < 32 := lt_of_lt_of_eq t.isLt N_0
  rw [outsAt0_A m c t h0 (by omega) h0 (by omega)]
  dsimp only
  unfold out0_A_5
  rw [View.read_writes_eq_canon _ _ _ (cover0_A_5 _ _ _ _ _ _ _ _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1x2048) hz, View.ld_unit_zero (S := S256x2048) hz]

theorem first_offset (t : Fin cfg0.N) (h0 : t.val % 32 = 0) : (outsAt0 m c t.val t.isLt).2.2
    = k0_pay2 (k0_pay8 (iblk m c 1 t) (iblk m c 2 t) (iblk m c 3 t) (iblk m c 0 t)) := by
  have hN : t.val < 32 := lt_of_lt_of_eq t.isLt N_0
  rw [outsAt0_A m c t h0 (by omega) h0 (by omega)]
  dsimp only
  unfold out0_A_6
  rw [View.read_writes_eq_canon _ _ _ (cover0_A_6 _ _ _ _ _ _ _ _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1x2048) hz, View.ld_unit_zero (S := S256x2048) hz]

theorem next_gain (t : Fin cfg0.N) (h0 : t.val % 32 ≠ 0) (y : S1x2048.Idx) : ((outsAt0 m c t.val t.isLt).2.1 y : EReal)
    = (fun a b : EReal => a + b) ((outsAt0 m c (t.val - 1) (Nat.lt_of_le_of_lt (Nat.sub_le _ _) t.isLt)).2.1 y)
      (k0_pay9 (iblk m c 1 t) (iblk m c 2 t) (iblk m c 3 t) (iblk m c 0 t) y) := by
  rw [outsAt0_B m c t h0 (by omega) h0 (by omega)]
  dsimp only
  unfold out0_B_5
  rw [View.read_writes_eq_canon _ _ _ (cover0_B_5 _ _ _ _ _ _ _ _ _ _ _ _ _ _ _ _ _ _ _ _ _ _ _ _ _ _)]
  unfold kernelRun0_B
  dsimp only
  sl_unfold_words
  rw [View.canon_unit_zero hz]
  unfold k0_pay1
  simp only [View.readAt_eq_ld, Memref.IsWhole.read_unread, View.ld_unit_zero (S := S1x2048) hz,
    View.ld_unit_zero (S := S256x2048) hz, shapeCast_self]
  rfl

theorem next_offset (t : Fin cfg0.N) (h0 : t.val % 32 ≠ 0) (y : S1x2048.Idx) : ((outsAt0 m c t.val t.isLt).2.2 y : EReal)
    = (fun a b : EReal => a + b) ((outsAt0 m c (t.val - 1) (Nat.lt_of_le_of_lt (Nat.sub_le _ _) t.isLt)).2.2 y)
      (k0_pay2 (k0_pay8 (iblk m c 1 t) (iblk m c 2 t) (iblk m c 3 t) (iblk m c 0 t)) y) := by
  rw [outsAt0_B m c t h0 (by omega) h0 (by omega)]
  dsimp only
  unfold out0_B_6
  rw [View.read_writes_eq_canon _ _ _ (cover0_B_6 _ _ _ _ _ _ _ _ _ _ _ _ _ _ _ _ _ _ _ _ _ _ _ _ _ _)]
  unfold kernelRun0_B
  dsimp only
  sl_unfold_words
  rw [View.canon_unit_zero hz]
  unfold k0_pay3
  simp only [View.readAt_eq_ld, Memref.IsWhole.read_unread, View.ld_unit_zero (S := S1x2048) hz,
    View.ld_unit_zero (S := S256x2048) hz, shapeCast_self]
  rfl

variable {m c}

/-- A window that starts with its tile's sums and adds each next tile's ends with all rows' sums. -/
theorem summed (f : ℕ → ℕ → ℝ) (at_ : (n : ℕ) → n < cfg0.N → EReal) (tile : Fin cfg0.N → EReal) (l : ℕ)
    (ht : ∀ t, tile t = ∑ k : Fin 256, (f (256 * t.val + k.val) l : EReal))
    (first : ∀ t : Fin cfg0.N, t.val % 32 = 0 → at_ t.val t.isLt = tile t)
    (next : ∀ t : Fin cfg0.N, t.val % 32 ≠ 0 → at_ t.val t.isLt
      = at_ (t.val - 1) (Nat.lt_of_le_of_lt (Nat.sub_le _ _) t.isLt) + tile t)
    (t : Fin cfg0.N) (h : t.val % 32 = 32 - 1) : at_ t.val t.isLt = Args.total f l := by
  rw [Args.total_eq]
  exact tiled_sum (N := cfg0.N) (nk := 32) (tc := 256) (by decide) (by decide) at_ (fun _ k => (f k l : EReal))
    (fun n hn h0 => (first ⟨n, hn⟩ h0).trans ((ht ⟨n, hn⟩).trans (by rw [Nat.mod_eq_of_lt (lt_of_lt_of_eq hn N_0)])))
    (fun n hn h0 => (next ⟨n, hn⟩ h0).trans (congrArg _ ((ht ⟨n, hn⟩).trans (by
      rw [Nat.mod_eq_of_lt (lt_of_lt_of_eq hn N_0)])))) t.val t.isLt h

theorem covers4 : (cfg0.win 4).Covers := by decide +kernel
theorem covers5 : (cfg0.win 5).Covers := by decide +kernel
theorem covers6 : (cfg0.win 6).Covers := by decide +kernel

theorem last5 : ∀ t : Fin cfg0.N, (cfg0.win 5).flush t = true → t.val % 32 = 32 - 1 :=
  (by decide +kernel : ∀ t : Fin grid0.N, _)
theorem last6 : ∀ t : Fin cfg0.N, (cfg0.win 6).flush t = true → t.val % 32 = 32 - 1 :=
  (by decide +kernel : ∀ t : Fin grid0.N, _)

theorem final4 (h : Holds m c A) : (dats m 0 c).arrAt 4 cfg0.N = A.rowsArr :=
  (dats m 0 c).arrAt_eq_of_cover 4 A.rowsArr (fun t _ => by
    rw [flushed4, left_rows]
    funext y
    refine (rows_at h t y).trans ?_
    show _ = ((A.rows (win0_4.index t 0 * 256 + 1 * (y 0).val) (win0_4.index t 1 * 2048 + 1 * (y 1).val) : ℝ) : EReal)
    rw [(blocks t).2.1]
    exact congrArg _ (congrArg₂ A.rows (block_coord _ _ _).symm ((block_coord _ _ _).trans (Nat.zero_add _)).symm))
    (covers4.cover _ (Memref.isWhole_whole _))

theorem final5 (h : Holds m c A) : (dats m 0 c).arrAt 5 cfg0.N = A.gainArr :=
  (dats m 0 c).arrAt_eq_of_cover 5 A.gainArr (fun t ht => by
    rw [flushed5]
    funext y
    have e : (((cfg0.win 5).blk t).view.emb y 1).val = (y 1).val := by
      show win0_5.index t 1 * 2048 + 1 * (y 1).val = _
      rw [(blocks t).2.2.1]; exact (block_coord _ _ _).trans (Nat.zero_add _)
    exact (summed A.gain (fun n hn => ((outsAt0 m c n hn).2.1 y : EReal)) _ (y 1).val (fun t => gain_sums h t y)
      (fun t h0 => congrFun (first_gain m c t h0) y) (fun t h0 => next_gain m c t h0 y) t (last5 t ht)).trans
      (congrArg (Args.total A.gain) e.symm))
    (covers5.cover _ (Memref.isWhole_whole _))

theorem final6 (h : Holds m c A) : (dats m 0 c).arrAt 6 cfg0.N = A.offsetArr :=
  (dats m 0 c).arrAt_eq_of_cover 6 A.offsetArr (fun t ht => by
    rw [flushed6]
    funext y
    have e : (((cfg0.win 6).blk t).view.emb y 1).val = (y 1).val := by
      show win0_6.index t 1 * 2048 + 1 * (y 1).val = _
      rw [(blocks t).2.2.2]; exact (block_coord _ _ _).trans (Nat.zero_add _)
    exact (summed A.grad (fun n hn => ((outsAt0 m c n hn).2.2 y : EReal)) _ (y 1).val (fun t => offset_sums h t y)
      (fun t h0 => congrFun (first_offset m c t h0) y) (fun t h0 => next_offset m c t h0 y) t (last6 t ht)).trans
      (congrArg (Args.total A.grad) e.symm))
    (covers6.cover _ (Memref.isWhole_whole _))

end Cert.Kernel19Ideal.Hand

namespace Cert.Reference19Ideal.Hand

open Cert.Reference19Ideal Cert.Reference19Ideal.Read Cert.Norm Cert.Dq Idealize.ShloMosaic

/-! ## The reference's stages at an entry, in the order it takes them -/

/-- The reference's arrays hold the arguments. -/
structure Holds (x0 x1 : S8192x2048.Idx → EReal) (x2 x3 : S1x2048.Idx → EReal) (A : Args) : Prop where
  d (i : S8192x2048.Idx) : x0 i = (A.d (i 0).val (i 1).val : EReal)
  x (i : S8192x2048.Idx) : x1 i = (A.x (i 0).val (i 1).val : EReal)
  g (i : S1x2048.Idx) : x2 i = (A.g (i 1).val : EReal)
  b (i : S1x2048.Idx) : x3 i = (A.b (i 1).val : EReal)

variable {x0 x1 : S8192x2048.Idx → EReal} {x2 x3 : S1x2048.Idx → EReal} {A : Args} (h : Holds x0 x1 x2 x3 A)
include h

theorem v3 (i : S8192x1.Idx) : (val_main_v3 (F := Ideal) x1 i : EReal) = (rmean (A.x (i 0).val) : EReal) := by
  rw [val_main_v3_apply, val_main_v1_apply, val_main_v2_apply, val_main_v0_apply]
  exact div_real (sum_real Ideal.ofBits_zero_f32 fun k => h.x _) width_word (by norm_num)

theorem v5 (i : S8192x2048.Idx) : (val_main_v5 (F := Ideal) x1 i : EReal) = (rdev (A.x (i 0).val) (i 1).val : EReal) := by
  rw [val_main_v5_apply, val_main_v4_apply]
  exact sub_real (h.x i) (v3 h _)

theorem v14 (i : S8192x2048.Idx) : (val_main_v14 (F := Ideal) x1 i : EReal) = (rdev (A.x (i 0).val) (i 1).val : EReal) := by
  rw [val_main_v14_apply, val_main_v13_apply]
  exact sub_real (h.x i) (v3 h _)

theorem v8 (i : S8192x2048.Idx) : (val_main_v8 (F := Ideal) x1 i : EReal) = ((2 * rdev (A.x (i 0).val) (i 1).val : ℝ) : EReal) := by
  rw [val_main_v8_apply, val_main_v7_apply]
  exact mul_real two_word (v5 h i)

theorem v16 (i : S8192x1.Idx) : (val_main_v16 (F := Ideal) x1 i : EReal) = (rspread (A.x (i 0).val) : EReal) := by
  rw [val_main_v16_apply, val_main_v15_apply, val_main_v12_apply, val_main_v10_apply, val_main_v11_apply, val_main_v9_apply]
  refine add_real (div_real (sum_real Ideal.ofBits_zero_f32 fun k => ?_) width_word (by norm_num)) eps_word
  rw [val_main_v6_apply]
  exact mul_real (v5 h _) (v5 h _)

theorem v17 (i : S8192x1.Idx) : (val_main_v17 (F := Ideal) x1 i : EReal) = (rinv (A.x (i 0).val) : EReal) := by
  rw [val_main_v17_apply, v16 h]
  exact rsqrt_pos (rspread_pos _)

theorem v20 (i : S8192x1.Idx) : (val_main_v20 (F := Ideal) x1 i : EReal)
    = ((-(1 / 2) * (rinv (A.x (i 0).val) / rspread (A.x (i 0).val)) : ℝ) : EReal) := by
  rw [val_main_v20_apply, val_main_v19_apply, val_main_v18_apply]
  exact mul_real half_word (div_real (v17 h i) (v16 h i) (rspread_pos _).ne')

theorem v22 (i : S8192x2048.Idx) : (val_main_v22 (F := Ideal) x1 i : EReal) = (runit (A.x (i 0).val) (i 1).val : EReal) := by
  rw [val_main_v22_apply, val_main_v21_apply]
  exact mul_real (v14 h i) (v17 h _)

theorem v26 (i : S8192x2048.Idx) :
    (val_main_v26 (F := Ideal) x1 x2 x3 i : EReal) = (raffine (A.x (i 0).val) A.g A.b (i 1).val : EReal) := by
  rw [val_main_v26_apply, val_main_v25_apply, val_main_v24_apply, val_main_v23_apply]
  exact add_real (mul_real (v22 h i) (h.g _)) (h.b _)

theorem v27 (i : S8192x2048.Idx) :
    (val_main_v27_2 (F := Ideal) x1 x2 x3 i : EReal) = (rsig (raffine (A.x (i 0).val) A.g A.b (i 1).val) : EReal) := by
  rw [val_main_v27_2_apply, val_main_call0_v4_apply, val_main_call0_v3_apply, val_main_call0_v2_apply, val_main_call0_v1_apply,
    val_main_call0_v0_apply]
  refine (div_real one_word (add_real one_word (exp_real (neg_real (v26 h i)))) (by positivity)).trans (congrArg _ ?_)
  exact one_div _

theorem v29 (i : S8192x2048.Idx) :
    (val_main_v29 (F := Ideal) x0 x1 x2 x3 i : EReal) = (A.grad (i 0).val (i 1).val : EReal) := by
  rw [val_main_v29_apply, val_main_call1_v1_apply, val_main_call1_v2_apply, val_main_call1_v0_apply, val_main_v27_1_apply,
    val_main_call0_v7_apply, val_main_call0_v6_apply]
  have hd : (val_main_v28 (F := Ideal) x0 i : EReal) = (A.d (i 0).val (i 1).val : EReal) := h.d i
  refine (add_real (mul_real hd (v27 h i)) (mul_real (mul_real (v26 h i) hd)
    (mul_real (v27 h i) (sub_real one_word (v27 h i))))).trans (congrArg _ ?_)
  exact slope_chain _ _

theorem v31 (i : S1x2048.Idx) : (val_main_v31 (F := Ideal) x0 x1 x2 x3 i : EReal) = Args.total A.grad (i 1).val := by
  rw [Args.total_eq, val_main_v31_apply, val_main_v30_apply]
  refine (congrArg (fun z : EReal => z + _) Ideal.ofBits_zero_f32).trans ((zero_add _).trans
    (Finset.sum_congr rfl fun k _ => (v29 h _).trans (congrArg _ (congrArg (A.grad k.val) ?_))))
  have h0 : (i 0).val < 1 := (i 0).isLt
  show (i 0).val * 2048 + (i 1).val = (i 1).val
  omega

theorem v34 (i : S1x2048.Idx) : (val_main_v34 (F := Ideal) x0 x1 x2 x3 i : EReal) = Args.total A.gain (i 1).val := by
  rw [Args.total_eq, val_main_v34_apply, val_main_v33_apply]
  refine (congrArg (fun z : EReal => z + _) Ideal.ofBits_zero_f32).trans ((zero_add _).trans
    (Finset.sum_congr rfl fun k _ => ?_))
  rw [val_main_v32_apply]
  refine (mul_real (v22 h _) (v29 h _)).trans (congrArg _ ((mul_comm _ _).trans (congrArg (A.gain k.val) ?_)))
  have h0 : (i 0).val < 1 := (i 0).isLt
  show (i 0).val * 2048 + (i 1).val = (i 1).val
  omega

/-- What the unit row receives. -/
theorem v36 (i : S8192x2048.Idx) : (val_main_v36 (F := Ideal) x0 x1 x2 x3 i : EReal)
    = ((A.grad (i 0).val (i 1).val * A.g (i 1).val : ℝ) : EReal) := by
  rw [val_main_v36_apply, val_main_v35_apply]
  exact mul_real (v29 h i) (h.g _)

theorem v41 (i : S8192x2048.Idx) : (val_main_v41 (F := Ideal) x0 x1 x2 x3 i : EReal)
    = ((A.grad (i 0).val (i 1).val * A.g (i 1).val * rinv (A.x (i 0).val) : ℝ) : EReal) := by
  rw [val_main_v41_apply, val_main_v40_apply]
  exact mul_real (v36 h i) (v17 h _)

theorem v47 (i : S8192x1.Idx) : (val_main_v47 (F := Ideal) x0 x1 x2 x3 i : EReal)
    = (share (A.x (i 0).val) (fun l => A.grad (i 0).val l * A.g l) : EReal) := by
  rw [val_main_v47_apply, val_main_v46_apply, val_main_v42_apply, val_main_v39_apply, val_main_v38_apply]
  have h1 : (i 1).val = 0 := by have : (i 1).val < 1 := (i 1).isLt; omega
  refine div_real (mul_real (sum_real Ideal.ofBits_zero_f32 fun k => ?_) (v20 h i)) width_word (by norm_num)
  rw [val_main_v37_apply]
  refine (mul_real (v14 h _) (v36 h _)).trans ?_
  rw [show ((idx_main_v38 (idx_main_v39 i) k) 0).val = (i 0).val by
    show (i 0).val * 1 + (i 1).val = _; omega]

theorem v50 (i : S8192x2048.Idx) : (val_main_v50 (F := Ideal) x0 x1 x2 x3 i : EReal)
    = ((share (A.x (i 0).val) (fun l => A.grad (i 0).val l * A.g l) * (2 * rdev (A.x (i 0).val) (i 1).val) : ℝ) : EReal) := by
  rw [val_main_v50_apply, val_main_v49_apply, val_main_v48_apply]
  refine mul_real ((sum_real Ideal.ofBits_zero_f32 fun k => v47 h _).trans (congrArg _ ?_)) (v8 h i)
  exact Fin.sum_univ_one _

theorem v57 (i : S8192x1.Idx) : (val_main_v57 (F := Ideal) x0 x1 x2 x3 i : EReal)
    = (((∑ k : Fin 2048, -(A.grad (i 0).val k.val * A.g k.val * rinv (A.x (i 0).val))
      + ∑ k : Fin 2048, -(share (A.x (i 0).val) (fun l => A.grad (i 0).val l * A.g l) * (2 * rdev (A.x (i 0).val) k.val))) / 2048 : ℝ)
        : EReal) := by
  rw [val_main_v57_apply, val_main_v56_apply, val_main_v55_apply, val_main_v45_apply, val_main_v44_apply, val_main_v53_apply,
    val_main_v52_apply]
  have h1 : (i 1).val = 0 := by have : (i 1).val < 1 := (i 1).isLt; omega
  have e : (i 0).val * 1 + (i 1).val = (i 0).val := by omega
  refine div_real (add_real (sum_real Ideal.ofBits_zero_f32 fun k => ?_) (sum_real Ideal.ofBits_zero_f32 fun k => ?_))
    width_word (by norm_num)
  · rw [val_main_v43_apply]
    refine (neg_real (v41 h _)).trans ?_
    rw [show ((idx_main_v44 (idx_main_v45 i) k) 0).val = (i 0).val from e]
  · rw [val_main_v51_apply]
    refine (neg_real (v50 h _)).trans ?_
    rw [show ((idx_main_v52 (idx_main_v53 i) k) 0).val = (i 0).val from e]

/-- The rows' gradient by the chain rule is the closed form. -/
theorem v60 (i : S8192x2048.Idx) : (val_main_v60 (F := Ideal) x0 x1 x2 x3 i : EReal) = A.rowsArr i := by
  rw [val_main_v60_apply, val_main_v59_apply, val_main_v58_apply, val_main_v54_apply]
  refine (add_real (add_real (v41 h i) (v50 h i)) ((sum_real Ideal.ofBits_zero_f32 fun k => v57 h _).trans
    (congrArg _ (Fin.sum_univ_one _)))).trans (congrArg _ ?_)
  exact chain_eq (A.x (i 0).val) (fun l => A.grad (i 0).val l * A.g l) (i 1).val

end Cert.Reference19Ideal.Hand

namespace Cert.Proof

open Idealize.ShloMosaic Idealize.ShloMosaic.TcCoe Idealize.SL.Sem Cert.Tiles

theorem bodies19 : Cert.Kernel19.defs₀ (F := Bits) = Cert.Kernel19Ideal.defs₀ (F := Bits) :=
  congrArg Defs.onTc (funext fun l => funext fun x => match l, x with | 0, (_, _) => rfl)

theorem facts_finite_rows : Cert.Pre_finite_rows.Facts where
  bcast_S_S8192x2048 := by decide
  bcast_S_S1x2048 := by decide

theorem frame_Kernel19 : Cert.quiescent_Kernel19 := fun m g _ =>
  (congrArg (fun d => θ_run (Pipeline.defs _ d) _ _ _) bodies19).mpr (Cert.Kernel19Ideal.Gen.frame (F := Bits) m g)

theorem frame_Kernel19Ideal : Cert.quiescent_Kernel19Ideal := fun m g _ => Cert.Kernel19Ideal.Gen.frame m g

theorem frame_Kernel19Ideal_finite_rows [Cert.Pre_finite_rows.Facts] : Cert.quiescent_Kernel19Ideal_pre_finite_rows :=
  fun m g _ => Cert.Kernel19Ideal.Gen.frame m g

theorem frame_Reference19Ideal : Cert.quiescent_Reference19Ideal := fun m g _ =>
  (θ_run Cert.Reference19Ideal.defs _ _).mono (fun r h => ⟨fun c => (h c).2.2.2, sem_eq_zero_of_no_sems (by decide) r.2⟩)
    (Cert.Reference19Ideal.Value.run m g)

theorem frame_Reference19Ideal_finite_rows [Cert.Pre_finite_rows.Facts] : Cert.quiescent_Reference19Ideal_pre_finite_rows :=
  fun m g _ => frame_Reference19Ideal m g trivial

/-- An array of real numbers read by its coordinates. -/
theorem real_entry {s : Shape} (x : s.Idx → EReal) (h : ∀ i, ∃ r : ℝ, x i = (r : EReal)) (i : s.Idx) (p : Fin s.rank → ℕ)
    (hp : ∀ a, (i a).val = p a) : x i = (((entry x p).toReal : ℝ) : EReal) := by
  rw [← entry_val x i p hp]
  obtain ⟨r, hr⟩ := h i
  rw [hr, EReal.toReal_coe]

/-- The precondition gives real arguments. -/
theorem args_of [Cert.Pre_finite_rows.Facts] (m : (ℓ : Loc Cert.Kernel19Ideal.nD Cert.Kernel19Ideal.τ Cert.Kernel19Ideal.sig) → Buf (Elt Ideal) ℓ)
    (h : Cert.Pre_Kernel19Ideal_finite_rows m) (c : Dev Cert.Kernel19Ideal.nD) :
    ∃ A : Cert.Norm.Args, Cert.Kernel19Ideal.Hand.Holds m c A := by
  obtain ⟨h0, h1, h2, h3⟩ := h c
  have row : ∀ i : Cert.Kernel19Ideal.S1x2048.Idx, (i 0).val = 0 := fun i => by have : (i 0).val < 1 := (i 0).isLt; omega
  exact ⟨⟨fun r l => (entry (m ((c.tc : Thread Cert.Kernel19Ideal.nD Cert.Kernel19Ideal.τ).loc Cert.Kernel19Ideal.main_arg0) : Cert.Kernel19Ideal.S8192x2048.Idx → EReal) ![r, l]).toReal,
    fun r l => (entry (m ((c.tc : Thread Cert.Kernel19Ideal.nD Cert.Kernel19Ideal.τ).loc Cert.Kernel19Ideal.main_arg1) : Cert.Kernel19Ideal.S8192x2048.Idx → EReal) ![r, l]).toReal,
    fun l => (entry (m ((c.tc : Thread Cert.Kernel19Ideal.nD Cert.Kernel19Ideal.τ).loc Cert.Kernel19Ideal.main_arg2) : Cert.Kernel19Ideal.S1x2048.Idx → EReal) ![0, l]).toReal,
    fun l => (entry (m ((c.tc : Thread Cert.Kernel19Ideal.nD Cert.Kernel19Ideal.τ).loc Cert.Kernel19Ideal.main_arg3) : Cert.Kernel19Ideal.S1x2048.Idx → EReal) ![0, l]).toReal⟩,
    fun i => real_entry _ (real_of_below _ _ inf_bf16 h0) i _ fun | 0 => rfl | 1 => rfl,
    fun i => real_entry _ (real_of_below _ _ inf_f32 h1) i _ fun | 0 => rfl | 1 => rfl,
    fun i => real_entry _ (real_of_below _ _ inf_f32 h2) i _ fun | 0 => row i | 1 => rfl,
    fun i => real_entry _ (real_of_below _ _ inf_f32 h3) i _ fun | 0 => row i | 1 => rfl⟩

theorem algebraic19 [Cert.Pre_finite_rows.Facts] : Cert.algebraic_Kernel19Ideal_Reference19Ideal_pre_finite_rows :=
  fun m g m' g' hf h => by
  choose A hA using args_of m hf
  have hR : ∀ c : Dev Cert.Kernel19Ideal.nD, Cert.Reference19Ideal.Hand.Holds
      (m' ((c.tc : Thread Cert.Reference19Ideal.nD Cert.Reference19Ideal.τ).loc Cert.Reference19Ideal.main_arg0))
      (m' ((c.tc : Thread Cert.Reference19Ideal.nD Cert.Reference19Ideal.τ).loc Cert.Reference19Ideal.main_arg1))
      (m' ((c.tc : Thread Cert.Reference19Ideal.nD Cert.Reference19Ideal.τ).loc Cert.Reference19Ideal.main_arg2))
      (m' ((c.tc : Thread Cert.Reference19Ideal.nD Cert.Reference19Ideal.τ).loc Cert.Reference19Ideal.main_arg3)) (A c) := fun c => by
    obtain ⟨h0, h1, h2, h3⟩ := h c
    rw [h0, h1, h2, h3]
    exact ⟨(hA c).d, (hA c).x, (hA c).g, (hA c).b⟩
  exact ⟨fun c => (A c).rowsArr, fun c => (A c).gainArr, fun c => (A c).offsetArr,
    (θ_run Cert.Kernel19Ideal.defs _ _).mono (fun r hr c => ⟨(hr c).1.trans (Cert.Kernel19Ideal.Hand.final4 (hA c)),
      (hr c).2.1.trans (Cert.Kernel19Ideal.Hand.final5 (hA c)), (hr c).2.2.1.trans (Cert.Kernel19Ideal.Hand.final6 (hA c)),
      (hr c).2.2.2⟩) (Cert.Kernel19Ideal.Value.run_blocks m g),
    (θ_run Cert.Reference19Ideal.defs _ _).mono (fun r hr c => ⟨
      (hr c).1.trans ((Cert.Reference19Ideal.Read.val_main_v60_eq (F := Ideal) m' c).trans
        (funext fun i => Cert.Reference19Ideal.Hand.v60 (hR c) i)),
      (hr c).2.1.trans ((Cert.Reference19Ideal.Read.val_main_v34_eq (F := Ideal) m' c).trans
        (funext fun i => Cert.Reference19Ideal.Hand.v34 (hR c) i)),
      (hr c).2.2.1.trans ((Cert.Reference19Ideal.Read.val_main_v31_eq (F := Ideal) m' c).trans
        (funext fun i => Cert.Reference19Ideal.Hand.v31 (hR c) i)),
      (hr c).2.2.2⟩) (Cert.Reference19Ideal.Value.run m' g')⟩

end Cert.Proof

end
-- ==== Proof.GluFwd.lean ====
module

public import proofs.«01_k».proof.Defs
public import proofs.«01_k».proof.Proof.Gen.Kernel20
public import proofs.«01_k».proof.Proof.Gen.Kernel20Ideal.Value
public import proofs.«01_k».proof.Proof.Gen.Reference20Ideal.Read
public import proofs.«01_k».proof.Proof.ProductSum
public import proofs.«01_k».proof.Proof.DqReal
public import Idealize.ShloMosaic.Lib.Pointwise
public import Idealize.ShloMosaic.Lib.Pipeline.ReadBack
public import Idealize.ShloMosaic.Lib.Pipeline.ValueKit.Geometry

/-! # The gate of the convolution module, `a · σ(g)` of the two halves of the projected rows: frame and value -/

@[expose] public section

namespace Cert.Kernel20Ideal.Hand

open Cert.Kernel20Ideal.Gen Cert.Kernel20Ideal.Value Cert.Tiles
open Idealize.ShloMosaic Idealize.ShloMosaic.TcCoe Idealize.SL Idealize.SL.Sem

variable (m : (ℓ : Loc nD τ sig) → Buf (Elt Ideal) ℓ) (c : Dev nD)

/-- The blocks the three windows are on at point `t`: the row tile `t`, the whole bias, the row tile `t`. -/
theorem blocks : ∀ t : Fin cfg0.N, win0_0.index t = ![t.val, 0] ∧ win0_1.index t = ![0, 0] ∧ win0_2.index t = ![t.val, 0] :=
  (by decide +kernel : ∀ t : Fin grid0.N, _)

/-- The biased entry of row `r`, column `l`. -/
noncomputable def biased (r l : ℕ) : EReal :=
  entry (m ((c : Thread nD τ).loc main_arg0) : S8192x4096.Idx → EReal) ![r, l]
    + entry (m ((c : Thread nD τ).loc main_arg1) : S1x4096.Idx → EReal) ![0, l]

/-- THE RESULT, entry by entry: the first half times the second half's logistic. -/
noncomputable def result : S8192x2048.Idx → EReal := fun i =>
  biased m c (i 0).val (i 1).val * Ideal.logistic (biased m c (i 0).val ((i 1).val + 2048))

/-- The biased entry, read from the blocks of the point. -/
theorem biased_at (t : Fin cfg0.N) (j : S256x4096.Idx) (k : S1x4096.Idx) (r l : ℕ) (h0 : 256 * t.val + (j 0).val = r)
    (h1 : (j 1).val = l) (h2 : (k 0).val = 0) (h3 : (k 1).val = l) :
    (fun a b : EReal => a + b) (iblk m c 0 t j) (iblk m c 1 t k) = biased m c r l := by
  refine congrArg₂ (fun a b : EReal => a + b) ?_ ?_
  · refine entry_val (m ((c : Thread nD τ).loc main_arg0)) (((cfg0.win 0).blk t).view.emb j) _ ?_
    show ∀ a, win0_0.index t a * _ + 1 * (j a).val = _
    rw [(blocks t).1]
    exact fun | 0 => (block_coord _ _ _).trans h0 | 1 => ((block_coord _ _ _).trans (Nat.zero_add _)).trans h1
  · refine entry_val (m ((c : Thread nD τ).loc main_arg1)) (((cfg0.win 1).blk t).view.emb k) _ ?_
    show ∀ a, win0_1.index t a * _ + 1 * (k a).val = _
    rw [(blocks t).2.1]
    exact fun | 0 => ((block_coord _ _ _).trans (Nat.zero_add _)).trans h2 | 1 => ((block_coord _ _ _).trans (Nat.zero_add _)).trans h3

/-- What point `t` leaves at the place `y` of its block is the result there. -/
theorem written (t : Fin cfg0.N) (y : S256x2048.Idx) :
    out0_2 (iblk m c 0 t) (iblk m c 1 t) y = result m c (((cfg0.win 2).blk t).view.emb y) := by
  unfold out0_2
  rw [canon2_eq]
  simp only [View.ld_unit_zero (S := S256x4096) hz, View.ld_unit_zero (S := S1x4096) hz]
  have e0 : (((cfg0.win 2).blk t).view.emb y 0).val = 256 * t.val + (y 0).val := by
    show win0_2.index t 0 * 256 + 1 * (y 0).val = _
    rw [(blocks t).2.2]; exact block_coord _ _ _
  have e1 : (((cfg0.win 2).blk t).view.emb y 1).val = (y 1).val := by
    show win0_2.index t 1 * 2048 + 1 * (y 1).val = _
    rw [(blocks t).2.2]; exact (block_coord _ _ _).trans (Nat.zero_add _)
  show _ = biased m c (((cfg0.win 2).blk t).view.emb y 0).val (((cfg0.win 2).blk t).view.emb y 1).val
    * Ideal.logistic (biased m c (((cfg0.win 2).blk t).view.emb y 0).val ((((cfg0.win 2).blk t).view.emb y 1).val + 2048))
  rw [e0, e1]
  exact congrArg₂ (fun a b : EReal => a * Ideal.logistic b) (biased_at m c t _ _ _ _ rfl rfl rfl rfl) (biased_at m c t _ _ _ _ rfl rfl rfl rfl)

theorem covers : (cfg0.win 2).Covers := by decide +kernel

/-- The blocks cover the array, so it ends holding the result. -/
theorem final : (dats m 0 c).arrAt 2 cfg0.N = result m c :=
  (dats m 0 c).arrAt_eq_of_cover 2 (result m c) (fun t _ => by
    rw [flushed2]
    funext y
    exact written m c t y) (covers.cover _ (Memref.isWhole_whole _))

end Cert.Kernel20Ideal.Hand

namespace Cert.Proof

open Idealize.ShloMosaic Idealize.ShloMosaic.TcCoe Idealize.SL.Sem Cert.Tiles

theorem bodies20 : Cert.Kernel20.defs₀ (F := Bits) = Cert.Kernel20Ideal.defs₀ (F := Bits) :=
  congrArg Defs.onTc (funext fun l => funext fun x => match l, x with | 0, (_, _) => rfl)

theorem frame_Kernel20 : Cert.quiescent_Kernel20 := fun m g _ =>
  (congrArg (fun d => θ_run (Pipeline.defs _ d) _ _ _) bodies20).mpr (Cert.Kernel20Ideal.Gen.frame (F := Bits) m g)

theorem frame_Kernel20Ideal : Cert.quiescent_Kernel20Ideal := fun m g _ => Cert.Kernel20Ideal.Gen.frame m g

theorem frame_Reference20Ideal : Cert.quiescent_Reference20Ideal := fun m g _ =>
  (θ_run Cert.Reference20Ideal.defs _ _).mono (fun r h => ⟨fun c => (h c).2, sem_eq_zero_of_no_sems (by decide) r.2⟩)
    (Cert.Reference20Ideal.Value.run m g)

/-- The reference's gate at an entry is the same product. -/
theorem reference20_apply (x0 : Cert.Reference20Ideal.S8192x4096.Idx → EReal) (x1 : Cert.Reference20Ideal.S1x4096.Idx → EReal)
    (i : Cert.Reference20Ideal.S8192x2048.Idx) :
    (Cert.Reference20Ideal.Read.val_main_v10 (F := Ideal) x0 x1 : Cert.Reference20Ideal.S8192x2048.Idx → EReal) i
      = (entry x0 ![(i 0).val, (i 1).val] + entry x1 ![0, (i 1).val])
        * Ideal.logistic (entry x0 ![(i 0).val, (i 1).val + 2048] + entry x1 ![0, (i 1).val + 2048]) := by
  rw [Cert.Reference20Ideal.Read.val_main_v10_apply, Cert.Reference20Ideal.Read.val_main_v2_apply,
    Cert.Reference20Ideal.Read.val_main_v9_apply, Cert.Reference20Ideal.Read.val_main_v8_apply,
    Cert.Reference20Ideal.Read.val_main_v7_apply, Cert.Reference20Ideal.Read.val_main_v6_apply,
    Cert.Reference20Ideal.Read.val_main_v5_apply, Cert.Reference20Ideal.Read.val_main_v4_apply,
    Cert.Reference20Ideal.Read.val_main_v3_apply, Cert.Reference20Ideal.Read.val_main_v1_apply,
    Cert.Reference20Ideal.Read.val_main_v1_apply, Cert.Reference20Ideal.Read.val_main_v0_apply,
    Cert.Reference20Ideal.Read.val_main_v0_apply]
  show (x0 _ + x1 _ : EReal) * Ideal.div (Ideal.ofBits .f32 0x3F800000#32)
    (Ideal.ofBits .f32 0x3F800000#32 + Ideal.exp (-(x0 _ + x1 _ : EReal))) = _
  rw [Cert.Dq.one_word]
  refine congrArg₂ (fun a b : EReal => a * Ideal.logistic b) (congrArg₂ (fun a b : EReal => a + b) ?_ ?_)
    (congrArg₂ (fun a b : EReal => a + b) ?_ ?_)
  · exact entry_val x0 _ _ fun | 0 => rfl | 1 => rfl
  · exact entry_val x1 _ _ fun | 0 => rfl | 1 => rfl
  · exact entry_val x0 _ _ fun | 0 => rfl | 1 => Nat.add_comm _ _
  · exact entry_val x1 _ _ fun | 0 => rfl | 1 => Nat.add_comm _ _

theorem algebraic20 : Cert.algebraic_Kernel20Ideal_Reference20Ideal := fun m g m' g' _ h =>
  ⟨fun c => Cert.Kernel20Ideal.Hand.result m c,
    (θ_run Cert.Kernel20Ideal.defs _ _).mono (fun r hr c => ⟨(hr c).1.trans (Cert.Kernel20Ideal.Hand.final m c), (hr c).2⟩)
      (Cert.Kernel20Ideal.Value.run_blocks m g),
    (θ_run Cert.Reference20Ideal.defs _ _).mono (fun r hr c => ⟨(hr c).1.trans (by
      obtain ⟨h0, h1⟩ := h c
      rw [h0, h1]
      exact (Cert.Reference20Ideal.Read.val_main_v10_eq _ _).trans (funext fun i => reference20_apply _ _ i)), (hr c).2⟩)
      (Cert.Reference20Ideal.Value.run m' g')⟩

end Cert.Proof

end
-- ==== Proof.NormFwd.lean ====
module

public import proofs.«01_k».proof.Defs
public import proofs.«01_k».proof.Proof.Gen.Kernel21
public import proofs.«01_k».proof.Proof.Gen.Kernel21Ideal.Value
public import proofs.«01_k».proof.Proof.Gen.Reference21Ideal.Read
public import proofs.«01_k».proof.Proof.NormRow
public import Idealize.ShloMosaic.Lib.Pipeline.ReadBack

/-! # The channel norm and its swish, `z · σ(z)` of the normalised rows `z`: frame and value -/

@[expose] public section

namespace Cert.Kernel21Ideal.Hand

open Cert.Kernel21Ideal.Gen Cert.Kernel21Ideal.Value Cert.Tiles Cert.Norm
open Idealize.ShloMosaic Idealize.ShloMosaic.TcCoe Idealize.SL Idealize.SL.Sem

variable (m : (ℓ : Loc nD τ sig) → Buf (Elt Ideal) ℓ) (c : Dev nD)

/-- The blocks the four windows are on at point `t`. -/
theorem blocks : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The rows, their gain and their offset, by the coordinates. -/
noncomputable def rows (r l : ℕ) : EReal := entry (m ((c : Thread nD τ).loc main_arg0) : S8192x2048.Idx → EReal) ![r, l]
noncomputable def gain (l : ℕ) : EReal := entry (m ((c : Thread nD τ).loc main_arg1) : S1x2048.Idx → EReal) ![0, l]
noncomputable def offset (l : ℕ) : EReal := entry (m ((c : Thread nD τ).loc main_arg2) : S1x2048.Idx → EReal) ![0, l]

theorem rows_at (t : Fin cfg0.N) (j : S256x2048.Idx) : (iblk m c 0 t j : EReal) = rows m c (256 * t.val + (j 0).val) (j 1).val := by
  refine entry_val (m ((c : Thread nD τ).loc main_arg0)) (((cfg0.win 0).blk t).view.emb j) _ ?_
  show ∀ a, win0_0.index t a * _ + 1 * (j a).val = _
  rw [(blocks t).1]
  exact fun | 0 => block_coord _ _ _ | 1 => (block_coord _ _ _).trans (Nat.zero_add _)

theorem gain_at (t : Fin cfg0.N) (j : S1x2048.Idx) : (iblk m c 1 t j : EReal) = gain m c (j 1).val := by
  have hj : (j 0).val = 0 := by have : (j 0).val < 1 := (j 0).isLt; omega
  refine entry_val (m ((c : Thread nD τ).loc main_arg1)) (((cfg0.win 1).blk t).view.emb j) _ ?_
  show ∀ a, win0_1.index t a * _ + 1 * (j a).val = _
  rw [(blocks t).2.1]
  exact fun | 0 => (block_coord _ _ _).trans ((Nat.zero_add _).trans hj) | 1 => (block_coord _ _ _).trans (Nat.zero_add _)

theorem offset_at (t : Fin cfg0.N) (j : S1x2048.Idx) : (iblk m c 2 t j : EReal) = offset m c (j 1).val := by
  have hj : (j 0).val = 0 := by have : (j 0).val < 1 := (j 0).isLt; omega
  refine entry_val (m ((c : Thread nD τ).loc main_arg2)) (((cfg0.win 2).blk t).view.emb j) _ ?_
  show ∀ a, win0_2.index t a * _ + 1 * (j a).val = _
  rw [(blocks t).2.2.1]
  exact fun | 0 => (block_coord _ _ _).trans ((Nat.zero_add _).trans hj) | 1 => (block_coord _ _ _).trans (Nat.zero_add _)

/-- THE RESULT, entry by entry. -/
noncomputable def swish (x : ℕ → EReal) (g b : ℕ → EReal) (l : ℕ) : EReal := affine x g b l * Ideal.logistic (affine x g b l)

@[irreducible] noncomputable def result : S8192x2048.Idx → EReal := fun i => swish (rows m c (i 0).val) (gain m c) (offset m c) (i 1).val

theorem result_apply (i : S8192x2048.Idx) (r l : ℕ) (h0 : (i 0).val = r) (h1 : (i 1).val = l) :
    result m c i = swish (rows m c r) (gain m c) (offset m c) l := by
  subst h0 h1
  unfold result
  rfl

/-- What point `t` leaves at the place `y` of its block is the result there. -/
theorem written (t : Fin cfg0.N) (y : S256x2048.Idx) :
    (out0_3 (iblk m c 0 t) (iblk m c 1 t) (iblk m c 2 t) y : EReal) = result m c (((cfg0.win 3).blk t).view.emb y) := by
  unfold out0_3
  rw [View.canon_unit_zero hz]
  simp only [View.ld_unit_zero (S := S256x2048) hz, View.ld_unit_zero (S := S1x2048) hz]
  refine Eq.trans ?_ (result_apply m c _ (256 * t.val + (y 0).val) (y 1).val ?_ ?_).symm
  · have e := affines_apply reduces_S256x2048_S256 shapeCasts_S256_S256x1 broadcasts_S256x1_S256x2048 broadcasts_S1x2048_S256x2048
      (rows_at m c t) (gain_at m c t) (offset_at m c t) y
    exact congrArg (fun z : EReal => z * Ideal.logistic z) e
  · show win0_3.index t 0 * 256 + 1 * (y 0).val = _
    rw [(blocks t).2.2.2]; exact block_coord _ _ _
  · show win0_3.index t 1 * 2048 + 1 * (y 1).val = _
    rw [(blocks t).2.2.2]; exact (block_coord _ _ _).trans (Nat.zero_add _)

theorem covers : (cfg0.win 3).Covers := by decide +kernel

/-- The blocks cover the array, so it ends holding the result. -/
theorem final : (dats m 0 c).arrAt 3 cfg0.N = result m c :=
  (dats m 0 c).arrAt_eq_of_cover 3 (result m c) (fun t _ => by
    rw [flushed3]
    funext y
    exact written m c t y) (covers.cover _ (Memref.isWhole_whole _))

end Cert.Kernel21Ideal.Hand

namespace Cert.Reference21Ideal.Hand

open Cert.Reference21Ideal Cert.Reference21Ideal.Read Cert.Tiles Cert.Norm Idealize.ShloMosaic

/-! ## The reference's stages at an entry -/

variable (x0 : S8192x2048.Idx → EReal) (x1 x2 : S1x2048.Idx → EReal)

/-- A row of the array. -/
noncomputable def row (r l : ℕ) : EReal := entry x0 ![r, l]

/-- The single row of a `1 × 2048` array. -/
noncomputable def line (y : S1x2048.Idx → EReal) (l : ℕ) : EReal := entry y ![0, l]

theorem row_val (i : S8192x2048.Idx) (r l : ℕ) (h0 : (i 0).val = r) (h1 : (i 1).val = l) : x0 i = row x0 r l :=
  entry_val x0 i _ fun | 0 => h0 | 1 => h1

theorem v3 (i : S8192x1.Idx) : (val_main_v3 (F := Ideal) x0 i : EReal) = mean (row x0 (i 0).val) := by
  rw [val_main_v3_apply, val_main_v1_apply, val_main_v2_apply, val_main_v0_apply]
  refine congrArg (fun a : EReal => Ideal.div a width) ?_
  exact (congrArg (fun z : EReal => z + _) Ideal.ofBits_zero_f32).trans ((zero_add _).trans
    (Finset.sum_congr rfl fun k _ => row_val x0 _ _ _ rfl rfl))

theorem v5 (i : S8192x2048.Idx) : (val_main_v5 (F := Ideal) x0 i : EReal) = dev (row x0 (i 0).val) (i 1).val := by
  rw [val_main_v5_apply, val_main_v4_apply, v3]
  exact congrArg (fun a : EReal => a - _) (row_val x0 i _ _ rfl rfl)

theorem v12 (i : S8192x2048.Idx) : (val_main_v12 (F := Ideal) x0 i : EReal) = dev (row x0 (i 0).val) (i 1).val := by
  rw [val_main_v12_apply, val_main_v11_apply, v3]
  exact congrArg (fun a : EReal => a - _) (row_val x0 i _ _ rfl rfl)

theorem v14 (i : S8192x1.Idx) : (val_main_v14 (F := Ideal) x0 i : EReal) = spread (row x0 (i 0).val) := by
  rw [val_main_v14_apply, val_main_v13_apply, val_main_v10_apply, val_main_v9_apply, val_main_v8_apply, val_main_v7_apply]
  refine congrArg (fun a : EReal => Ideal.div a width + eps) ?_
  refine (congrArg (fun z : EReal => z + _) Ideal.ofBits_zero_f32).trans ((zero_add _).trans
    (Finset.sum_congr rfl fun k _ => ?_))
  rw [val_main_v6_apply, v5]
  rfl

theorem v15 (i : S8192x1.Idx) : (val_main_v15 (F := Ideal) x0 i : EReal) = inv (row x0 (i 0).val) := by
  rw [val_main_v15_apply, v14]
  rfl

theorem v17 (i : S8192x2048.Idx) : (val_main_v17 (F := Ideal) x0 i : EReal) = unit (row x0 (i 0).val) (i 1).val := by
  rw [val_main_v17_apply, val_main_v16_apply, v12, v15]
  rfl

theorem v21 (i : S8192x2048.Idx) :
    (val_main_v21 (F := Ideal) x0 x1 x2 i : EReal) = affine (row x0 (i 0).val) (line x1) (line x2) (i 1).val := by
  rw [val_main_v21_apply, val_main_v20_apply, val_main_v19_apply, val_main_v18_apply, v17]
  exact congrArg₂ (fun a b : EReal => _ * a + b) (entry_val x1 _ _ fun | 0 => rfl | 1 => rfl) (entry_val x2 _ _ fun | 0 => rfl | 1 => rfl)

theorem v23 (i : S8192x2048.Idx) :
    (val_main_v23 (F := Ideal) x0 x1 x2 : S8192x2048.Idx → EReal) i
      = Cert.Kernel21Ideal.Hand.swish (row x0 (i 0).val) (line x1) (line x2) (i 1).val := by
  rw [val_main_v23_apply, val_main_v22_apply, val_main_call0_v5_apply, val_main_call0_v4_apply, val_main_call0_v3_apply,
    val_main_call0_v2_apply, val_main_call0_v1_apply, val_main_call0_v0_apply, v21]
  show (_ : EReal) * Ideal.div (Ideal.ofBits .f32 0x3F800000#32) (Ideal.ofBits .f32 0x3F800000#32 + Ideal.exp (-_)) = _
  rw [Cert.Dq.one_word]
  rfl

end Cert.Reference21Ideal.Hand

namespace Cert.Proof

open Idealize.ShloMosaic Idealize.ShloMosaic.TcCoe Idealize.SL.Sem

theorem bodies21 : Cert.Kernel21.defs₀ (F := Bits) = Cert.Kernel21Ideal.defs₀ (F := Bits) :=
  congrArg Defs.onTc (funext fun l => funext fun x => match l, x with | 0, (_, _) => rfl)

theorem frame_Kernel21 : Cert.quiescent_Kernel21 := fun m g _ =>
  (congrArg (fun d => θ_run (Pipeline.defs _ d) _ _ _) bodies21).mpr (Cert.Kernel21Ideal.Gen.frame (F := Bits) m g)

theorem frame_Kernel21Ideal : Cert.quiescent_Kernel21Ideal := fun m g _ => Cert.Kernel21Ideal.Gen.frame m g

theorem frame_Reference21Ideal : Cert.quiescent_Reference21Ideal := fun m g _ =>
  (θ_run Cert.Reference21Ideal.defs _ _).mono (fun r h => ⟨fun c => (h c).2, sem_eq_zero_of_no_sems (by decide) r.2⟩)
    (Cert.Reference21Ideal.Value.run m g)

theorem algebraic21 : Cert.algebraic_Kernel21Ideal_Reference21Ideal := fun m g m' g' _ h =>
  ⟨fun c => Cert.Kernel21Ideal.Hand.result m c,
    (θ_run Cert.Kernel21Ideal.defs _ _).mono (fun r hr c => ⟨(hr c).1.trans (Cert.Kernel21Ideal.Hand.final m c), (hr c).2⟩)
      (Cert.Kernel21Ideal.Value.run_blocks m g),
    (θ_run Cert.Reference21Ideal.defs _ _).mono (fun r hr c => ⟨(hr c).1.trans (by
      obtain ⟨h0, h1, h2⟩ := h c
      rw [h0, h1, h2]
      exact (Cert.Reference21Ideal.Read.val_main_v23_eq _ _ _).trans (funext fun i =>
        (Cert.Reference21Ideal.Hand.v23 _ _ _ i).trans (Cert.Kernel21Ideal.Hand.result_apply m c i _ _ rfl rfl).symm)), (hr c).2⟩)
      (Cert.Reference21Ideal.Value.run m' g')⟩

end Cert.Proof

end
-- ==== Proof.AdamOne.lean ====
module

public import proofs.«01_k».proof.Defs
public import proofs.«01_k».proof.Proof.Gen.Kernel22
public import proofs.«01_k».proof.Proof.Gen.Kernel22Ideal.Value
public import proofs.«01_k».proof.Proof.Gen.Reference22Ideal.Read

/-! # The optimiser's step for the first pointwise projection of the convolution module -/

@[expose] public section

namespace Cert.Proof

open Idealize.ShloMosaic Idealize.ShloMosaic.TcCoe Idealize.SL.Sem

theorem bodies22 : Cert.Kernel22.defs₀ (F := Bits) = Cert.Kernel22Ideal.defs₀ (F := Bits) :=
  congrArg Defs.onTc (funext fun l => funext fun x => match l, x with | 0, (_, _) => rfl)

theorem frame_Kernel22 : Cert.quiescent_Kernel22 := fun m g _ =>
  (congrArg (fun d => θ_run (Pipeline.defs _ d) _ _ _) bodies22).mpr (Cert.Kernel22Ideal.Gen.frame (F := Bits) m g)

theorem frame_Kernel22Ideal : Cert.quiescent_Kernel22Ideal := fun m g _ => Cert.Kernel22Ideal.Gen.frame m g

theorem frame_Reference22Ideal : Cert.quiescent_Reference22Ideal := fun m g _ =>
  (θ_run Cert.Reference22Ideal.defs _ _).mono
    (fun r h => ⟨fun c => (h c).2.2.2, sem_eq_zero_of_no_sems (by decide) r.2⟩) (Cert.Reference22Ideal.Value.run m g)

/-- Both steps apply the same formula at each entry. -/
theorem algebraic22 : Cert.algebraic_Kernel22Ideal_Reference22Ideal := fun m g m' g' _ h =>
  ⟨_, _, _, Cert.Kernel22Ideal.Value.run m g,
    (θ_run Cert.Reference22Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference22Ideal.Value.run m' g')⟩

end Cert.Proof

end
-- ==== Proof.AdamRest.lean ====
module

public import proofs.«01_k».proof.Defs
public import proofs.«01_k».proof.Proof.Gen.Kernel23
public import proofs.«01_k».proof.Proof.Gen.Kernel23Ideal.Value
public import proofs.«01_k».proof.Proof.Gen.Reference23Ideal.Read
public import proofs.«01_k».proof.Proof.Gen.Kernel24
public import proofs.«01_k».proof.Proof.Gen.Kernel24Ideal.Value
public import proofs.«01_k».proof.Proof.Gen.Reference24Ideal.Read
public import proofs.«01_k».proof.Proof.Gen.Kernel25
public import proofs.«01_k».proof.Proof.Gen.Kernel25Ideal.Value
public import proofs.«01_k».proof.Proof.Gen.Reference25Ideal.Read
public import proofs.«01_k».proof.Proof.Gen.Kernel26
public import proofs.«01_k».proof.Proof.Gen.Kernel26Ideal.Value
public import proofs.«01_k».proof.Proof.Gen.Reference26Ideal.Read
public import proofs.«01_k».proof.Proof.Gen.Kernel27
public import proofs.«01_k».proof.Proof.Gen.Kernel27Ideal.Value
public import proofs.«01_k».proof.Proof.Gen.Reference27Ideal.Read
public import proofs.«01_k».proof.Proof.Gen.Kernel28
public import proofs.«01_k».proof.Proof.Gen.Kernel28Ideal.Value
public import proofs.«01_k».proof.Proof.Gen.Reference28Ideal.Read

/-! # The optimiser's step for the other six large weights

Each is its own call with its own tiles; in each both programs apply the same formula at each entry, so once the arguments
agree the two results are the same function of them. -/

@[expose] public section

namespace Cert.Proof

open Idealize.ShloMosaic Idealize.ShloMosaic.TcCoe Idealize.SL.Sem

/-! The second pointwise projection of the convolution module. -/

theorem bodies23 : Cert.Kernel23.defs₀ (F := Bits) = Cert.Kernel23Ideal.defs₀ (F := Bits) :=
  congrArg Defs.onTc (funext fun l => funext fun x => match l, x with | 0, (_, _) => rfl)

theorem frame_Kernel23 : Cert.quiescent_Kernel23 := fun m g _ =>
  (congrArg (fun d => θ_run (Pipeline.defs _ d) _ _ _) bodies23).mpr (Cert.Kernel23Ideal.Gen.frame (F := Bits) m g)

theorem frame_Kernel23Ideal : Cert.quiescent_Kernel23Ideal := fun m g _ => Cert.Kernel23Ideal.Gen.frame m g

theorem frame_Reference23Ideal : Cert.quiescent_Reference23Ideal := fun m g _ =>
  (θ_run Cert.Reference23Ideal.defs _ _).mono
    (fun r h => ⟨fun c => (h c).2.2.2, sem_eq_zero_of_no_sems (by decide) r.2⟩) (Cert.Reference23Ideal.Value.run m g)

theorem algebraic23 : Cert.algebraic_Kernel23Ideal_Reference23Ideal := fun m g m' g' _ h =>
  ⟨_, _, _, Cert.Kernel23Ideal.Value.run m g,
    (θ_run Cert.Reference23Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference23Ideal.Value.run m' g')⟩

/-! The keys' and values' projection. -/

theorem bodies24 : Cert.Kernel24.defs₀ (F := Bits) = Cert.Kernel24Ideal.defs₀ (F := Bits) :=
  congrArg Defs.onTc (funext fun l => funext fun x => match l, x with | 0, (_, _) => rfl)

theorem frame_Kernel24 : Cert.quiescent_Kernel24 := fun m g _ =>
  (congrArg (fun d => θ_run (Pipeline.defs _ d) _ _ _) bodies24).mpr (Cert.Kernel24Ideal.Gen.frame (F := Bits) m g)

theorem frame_Kernel24Ideal : Cert.quiescent_Kernel24Ideal := fun m g _ => Cert.Kernel24Ideal.Gen.frame m g

theorem frame_Reference24Ideal : Cert.quiescent_Reference24Ideal := fun m g _ =>
  (θ_run Cert.Reference24Ideal.defs _ _).mono
    (fun r h => ⟨fun c => (h c).2.2.2, sem_eq_zero_of_no_sems (by decide) r.2⟩) (Cert.Reference24Ideal.Value.run m g)

theorem algebraic24 : Cert.algebraic_Kernel24Ideal_Reference24Ideal := fun m g m' g' _ h =>
  ⟨_, _, _, Cert.Kernel24Ideal.Value.run m g,
    (θ_run Cert.Reference24Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference24Ideal.Value.run m' g')⟩

/-! The queries' projection. -/

theorem bodies25 : Cert.Kernel25.defs₀ (F := Bits) = Cert.Kernel25Ideal.defs₀ (F := Bits) :=
  congrArg Defs.onTc (funext fun l => funext fun x => match l, x with | 0, (_, _) => rfl)

theorem frame_Kernel25 : Cert.quiescent_Kernel25 := fun m g _ =>
  (congrArg (fun d => θ_run (Pipeline.defs _ d) _ _ _) bodies25).mpr (Cert.Kernel25Ideal.Gen.frame (F := Bits) m g)

theorem frame_Kernel25Ideal : Cert.quiescent_Kernel25Ideal := fun m g _ => Cert.Kernel25Ideal.Gen.frame m g

theorem frame_Reference25Ideal : Cert.quiescent_Reference25Ideal := fun m g _ =>
  (θ_run Cert.Reference25Ideal.defs _ _).mono
    (fun r h => ⟨fun c => (h c).2.2.2, sem_eq_zero_of_no_sems (by decide) r.2⟩) (Cert.Reference25Ideal.Value.run m g)

theorem algebraic25 : Cert.algebraic_Kernel25Ideal_Reference25Ideal := fun m g m' g' _ h =>
  ⟨_, _, _, Cert.Kernel25Ideal.Value.run m g,
    (θ_run Cert.Reference25Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference25Ideal.Value.run m' g')⟩

/-! The output projection. -/

theorem bodies26 : Cert.Kernel26.defs₀ (F := Bits) = Cert.Kernel26Ideal.defs₀ (F := Bits) :=
  congrArg Defs.onTc (funext fun l => funext fun x => match l, x with | 0, (_, _) => rfl)

theorem frame_Kernel26 : Cert.quiescent_Kernel26 := fun m g _ =>
  (congrArg (fun d => θ_run (Pipeline.defs _ d) _ _ _) bodies26).mpr (Cert.Kernel26Ideal.Gen.frame (F := Bits) m g)

theorem frame_Kernel26Ideal : Cert.quiescent_Kernel26Ideal := fun m g _ => Cert.Kernel26Ideal.Gen.frame m g

theorem frame_Reference26Ideal : Cert.quiescent_Reference26Ideal := fun m g _ =>
  (θ_run Cert.Reference26Ideal.defs _ _).mono
    (fun r h => ⟨fun c => (h c).2.2.2, sem_eq_zero_of_no_sems (by decide) r.2⟩) (Cert.Reference26Ideal.Value.run m g)

theorem algebraic26 : Cert.algebraic_Kernel26Ideal_Reference26Ideal := fun m g m' g' _ h =>
  ⟨_, _, _, Cert.Kernel26Ideal.Value.run m g,
    (θ_run Cert.Reference26Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference26Ideal.Value.run m' g')⟩

/-! The feed-forward up-projection. -/

theorem bodies27 : Cert.Kernel27.defs₀ (F := Bits) = Cert.Kernel27Ideal.defs₀ (F := Bits) :=
  congrArg Defs.onTc (funext fun l => funext fun x => match l, x with | 0, (_, _) => rfl)

theorem frame_Kernel27 : Cert.quiescent_Kernel27 := fun m g _ =>
  (congrArg (fun d => θ_run (Pipeline.defs _ d) _ _ _) bodies27).mpr (Cert.Kernel27Ideal.Gen.frame (F := Bits) m g)

theorem frame_Kernel27Ideal : Cert.quiescent_Kernel27Ideal := fun m g _ => Cert.Kernel27Ideal.Gen.frame m g

theorem frame_Reference27Ideal : Cert.quiescent_Reference27Ideal := fun m g _ =>
  (θ_run Cert.Reference27Ideal.defs _ _).mono
    (fun r h => ⟨fun c => (h c).2.2.2, sem_eq_zero_of_no_sems (by decide) r.2⟩) (Cert.Reference27Ideal.Value.run m g)

theorem algebraic27 : Cert.algebraic_Kernel27Ideal_Reference27Ideal := fun m g m' g' _ h =>
  ⟨_, _, _, Cert.Kernel27Ideal.Value.run m g,
    (θ_run Cert.Reference27Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference27Ideal.Value.run m' g')⟩

/-! The feed-forward down-projection. -/

theorem bodies28 : Cert.Kernel28.defs₀ (F := Bits) = Cert.Kernel28Ideal.defs₀ (F := Bits) :=
  congrArg Defs.onTc (funext fun l => funext fun x => match l, x with | 0, (_, _) => rfl)

theorem frame_Kernel28 : Cert.quiescent_Kernel28 := fun m g _ =>
  (congrArg (fun d => θ_run (Pipeline.defs _ d) _ _ _) bodies28).mpr (Cert.Kernel28Ideal.Gen.frame (F := Bits) m g)

theorem frame_Kernel28Ideal : Cert.quiescent_Kernel28Ideal := fun m g _ => Cert.Kernel28Ideal.Gen.frame m g

theorem frame_Reference28Ideal : Cert.quiescent_Reference28Ideal := fun m g _ =>
  (θ_run Cert.Reference28Ideal.defs _ _).mono
    (fun r h => ⟨fun c => (h c).2.2.2, sem_eq_zero_of_no_sems (by decide) r.2⟩) (Cert.Reference28Ideal.Value.run m g)

theorem algebraic28 : Cert.algebraic_Kernel28Ideal_Reference28Ideal := fun m g m' g' _ h =>
  ⟨_, _, _, Cert.Kernel28Ideal.Value.run m g,
    (θ_run Cert.Reference28Ideal.defs _ _).mono (fun r hr c => by
      obtain ⟨h0, h1, h2, h3⟩ := h c
      refine ⟨(hr c).1.trans ?_, (hr c).2.1.trans ?_, (hr c).2.2.1.trans ?_, (hr c).2.2.2⟩
      · rw [h0, h1, h2, h3]; rfl
      · rw [h1, h2]; rfl
      · rw [h1, h3]; rfl) (Cert.Reference28Ideal.Value.run m' g')⟩

end Cert.Proof

end
-- ==== Proof.Adam.lean ====
module

public import Idealize.ShloMosaic.PureOps.Ideal

/-! # One entry's step of the optimiser

The constants stay the words that both programs print, so no value of theirs is needed. -/

@[expose] public section

namespace Cert.Adam

open Idealize.ShloMosaic

/-- The first moment after the step. -/
noncomputable def first (g m : EReal) : EReal :=
  Ideal.ofBits .f32 0x3F666666#32 * m + Ideal.ofBits .f32 0x3DCCCCCD#32 * g

/-- The second moment after the step. -/
noncomputable def second (g v : EReal) : EReal :=
  Ideal.ofBits .f32 0x3F7FBE77#32 * v + Ideal.ofBits .f32 0x3A83126F#32 * (g * g)

/-- The change of the weight. -/
noncomputable def delta (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- The products of the eight examples, added one after the other from the zero word. -/
noncomputable def chain (f : Fin 8 → EReal) : EReal :=
  Ideal.ofBits .f32 0x00000000#32 + f 0 + f 1 + f 2 + f 3 + f 4 + f 5 + f 6 + f 7

/-- Added so, they are their sum. -/
theorem chain_eq (f : Fin 8 → EReal) : chain f = ∑ e, f e := by
  have h : Ideal.ofBits .f32 0x00000000#32 = (0 : EReal) := by simp [Ideal.ofBits, Ideal.ieee]
  rw [chain, h, zero_add, Fin.sum_univ_eight]

end Cert.Adam

end
-- ==== Proof.ModBody.lean ====
module

public import proofs.«01_k».proof.Proof.Gen.Kernel29Ideal.Frame
public import proofs.«01_k».proof.Proof.ProductSum
public import proofs.«01_k».proof.Proof.Adam
public import Idealize.ShloMosaic.Lib.Pipeline.Value
public import Idealize.ShloMosaic.Lib.Pipeline.ValueKit.Geometry

/-! # What the modulation weights' step leaves in a block

The gradient at an entry is the chain of eight products, one for each example, of a column of the conditioning with a row of
the gradients of the modulation. -/

@[expose] public section

namespace Cert.Kernel29Ideal.Hand

open Cert.Kernel29Ideal.Gen Cert.Tiles Cert.Adam
open Idealize.ShloMosaic

/-- One more product added to equal sums. -/
theorem step {s s' a a' b b' : Ideal .f32} (h : s = s') (ha : a = a') (hb : b = b') :
    FloatOps.addf s (FloatOps.mulf a b) = FloatOps.addf s' (FloatOps.mulf a' b') := by rw [h, ha, hb]

variable (x1 : Vec Ideal S512x8 .f32) (x2 w u v : Vec Ideal S1x8x1024 .f32) (p : S512x1024.Idx)

/-- A column of the conditioning, spread along the tile's rows. -/
theorem column_at (e : Fin 8) (h : S512x8.Slices ![0, e.val] S512x1) :
    broadcastTo S512x1024 (extractStridedSlice S512x1 ![0, e.val] (k0_pay4 x1) h) broadcasts_S512x1_S512x1024 p
      = x1 (ValueIdx.ix2 (p 0) e) :=
  (broadcastTo_apply _ _ p (ValueIdx.ix2 (p 0) 0) fun | 0 => rfl | 1 => rfl).trans
    (extractStridedSlice_apply _ _ _ _ (ValueIdx.ix2 (p 0) e) fun | 0 => (Nat.zero_add _).symm | 1 => rfl)

/-- A row of the gradients of the modulation, spread along the tile's columns. -/
theorem row_at (e : Fin 8) (h : S8x1024.Slices ![e.val, 0] S1x1024) :
    broadcastTo S512x1024 (extractStridedSlice S1x1024 ![e.val, 0] (k0_pay5 x2) h) broadcasts_S1x1024_S512x1024 p
      = x2 (ValueIdx.ix3 0 e (p 1)) :=
  ((broadcastTo_apply _ _ p (ValueIdx.ix2 0 (p 1)) fun | 0 => rfl | 1 => rfl).trans
    (extractStridedSlice_apply _ _ _ _ (ValueIdx.ix2 e (p 1)) fun | 0 => rfl | 1 => (Nat.zero_add _).symm)).trans
    ((shapeCast_dropUnit_apply ![8, 1024] x2 _ (ValueIdx.ix2 e (p 1))).trans
      (congrArg x2 (funext fun | 0 => rfl | 1 => rfl | 2 => rfl)))

/-- The chain that the body adds up. -/
theorem chain_at : (k0_pay8 (k0_pay5 x2) (k0_pay6 x1 x2) (k0_pay7 x1) p : EReal)
    = chain fun e => (x1 (ValueIdx.ix2 (p 0) e) : EReal) * x2 (ValueIdx.ix3 0 e (p 1)) :=
  have c := fun e => column_at x1 p e
  have r := fun e => row_at x2 p e
  step (step (step (step (step (step (step (step (s := FloatOps.ofBits .f32 0x00000000#32) rfl
    (c 0 slices_S512x8_o0_0_S512x1) (r 0 slices_S8x1024_o0_0_S1x1024)) (c 1 slices_S512x8_o0_1_S512x1) (r 1 slices_S8x1024_o1_0_S1x1024))
    (c 2 slices_S512x8_o0_2_S512x1) (r 2 slices_S8x1024_o2_0_S1x1024)) (c 3 slices_S512x8_o0_3_S512x1) (r 3 slices_S8x1024_o3_0_S1x1024))
    (c 4 slices_S512x8_o0_4_S512x1) (r 4 slices_S8x1024_o4_0_S1x1024)) (c 5 slices_S512x8_o0_5_S512x1) (r 5 slices_S8x1024_o5_0_S1x1024))
    (c 6 slices_S512x8_o0_6_S512x1) (r 6 slices_S8x1024_o6_0_S1x1024)) (c 7 slices_S512x8_o0_7_S512x1) (r 7 slices_S8x1024_o7_0_S1x1024)

/-- The block's gradient. -/
noncomputable def slope (y : S1x512x1024.Idx) : EReal :=
  chain fun e => (x1 (ValueIdx.ix2 (y 1) e) : EReal) * x2 (ValueIdx.ix3 0 e (y 2))

/-- A tile kept as a block. -/
theorem kept (z : FVec Ideal S512x1024 .f32) (h : S512x1024.ShapeCasts S1x512x1024) (y : S1x512x1024.Idx) :
    shapeCast S1x512x1024 z h y = z (ValueIdx.ix2 (y 1) (y 2)) :=
  (shapeCast_addUnit_apply ![512, 1024] z h y).trans (congrArg z (funext fun | 0 => rfl | 1 => rfl))

/-- A block taken as a tile. -/
theorem taken (z : Vec Ideal S1x512x1024 .f32) (h : S1x512x1024.ShapeCasts S512x1024) (y : S1x512x1024.Idx) :
    shapeCast S512x1024 z h (ValueIdx.ix2 (y 1) (y 2)) = z y :=
  (shapeCast_dropUnit_apply ![512, 1024] z h (ValueIdx.ix2 (y 1) (y 2))).trans (congrArg z (funext fun
    | 0 => Fin.ext (by have : (y 0).val < 1 := (y 0).isLt; show 0 = (y 0).val; omega) | 1 => rfl | 2 => rfl))

variable (x0 x3 x4 : Vec Ideal S1x512x1024 .f32) (y : S1x512x1024.Idx)

theorem left5 : (out0_5 x0 x1 x2 x3 x4 y : EReal) = slope x1 x2 y := by
  unfold out0_5 k0_pay13 k0_pay14 k0_pay15
  rw [View.canon_unit_zero hz3]
  simp only [View.ld_unit_zero (S := S512x8) hz, View.ld_unit_zero (S := S1x8x1024) hz3]
  exact (kept _ _ y).trans (chain_at x1 x2 _)

/-- The first moment in the block. -/
theorem first_tile : (k0_pay10 (k0_pay5 x2) (k0_pay6 x1 x2) (k0_pay7 x1) x3 (ValueIdx.ix2 (y 1) (y 2)) : EReal)
    = first (slope x1 x2 y) (x3 y) :=
  congrArg₂ first (chain_at x1 x2 _) (taken x3 shapeCasts_S1x512x1024_S512x1024 y)

/-- The second moment in the block. -/
theorem second_tile : (k0_pay11 (k0_pay5 x2) (k0_pay6 x1 x2) (k0_pay7 x1) x4 (ValueIdx.ix2 (y 1) (y 2)) : EReal)
    = second (slope x1 x2 y) (x4 y) :=
  congrArg₂ second (chain_at x1 x2 _) (taken x4 shapeCasts_S1x512x1024_S512x1024 y)

theorem left7 : (out0_7 x0 x1 x2 x3 x4 y : EReal) = first (slope x1 x2 y) (x3 y) := by
  unfold out0_7 k0_pay13 k0_pay14 k0_pay15
  rw [View.canon_unit_zero hz3]
  simp only [View.ld_unit_zero (S := S512x8) hz, View.ld_unit_zero (S := S1x8x1024) hz3, View.ld_unit_zero (S := S1x512x1024) hz3]
  exact (kept _ _ y).trans (first_tile x1 x2 x3 y)

theorem left8 : (out0_8 x0 x1 x2 x3 x4 y : EReal) = second (slope x1 x2 y) (x4 y) := by
  unfold out0_8 k0_pay13 k0_pay14 k0_pay15
  rw [View.canon_unit_zero hz3]
  simp only [View.ld_unit_zero (S := S512x8) hz, View.ld_unit_zero (S := S1x8x1024) hz3, View.ld_unit_zero (S := S1x512x1024) hz3]
  exact (kept _ _ y).trans (second_tile x1 x2 x4 y)

theorem left6 : (out0_6 x0 x1 x2 x3 x4 y : EReal) = delta (x0 y) (slope x1 x2 y) (x3 y) (x4 y) := by
  unfold out0_6 k0_pay13 k0_pay14 k0_pay15
  rw [View.canon_unit_zero hz3]
  simp only [View.ld_unit_zero (S := S512x8) hz, View.ld_unit_zero (S := S1x8x1024) hz3, View.ld_unit_zero (S := S1x512x1024) hz3]
  refine (kept (k0_pay12 (k0_pay5 x2) (k0_pay6 x1 x2) (k0_pay7 x1) x0 x3 x4) shapeCasts_S512x1024_S1x512x1024 y).trans ?_
  unfold delta
  rw [← first_tile, ← second_tile, ← taken x0 shapeCasts_S1x512x1024_S512x1024 y]
  rfl

end Cert.Kernel29Ideal.Hand

end
-- ==== Proof.ModOne.lean ====
module

public import proofs.«01_k».proof.Defs
public import proofs.«01_k».proof.Proof.Gen.Kernel29
public import proofs.«01_k».proof.Proof.Gen.Kernel29Ideal.Frame
public import proofs.«01_k».proof.Proof.Gen.Reference29Ideal.Read
public import proofs.«01_k».proof.Proof.ProductSum
public import proofs.«01_k».proof.Proof.ModBody
public import Idealize.ShloMosaic.Lib.Pipeline.ReadBack
public import Idealize.ShloMosaic.Lib.Pipeline.ValueKit.Geometry

/-! # The modulation's weight: its gradient, a sum over the eight examples, and the optimiser's step with it -/

@[expose] public section

namespace Cert.Kernel29Ideal.Hand

open Cert.Kernel29Ideal.Gen Cert.Tiles Cert.Adam
open Idealize.ShloMosaic Idealize.ShloMosaic.TcCoe Idealize.SL Idealize.SL.Sem

/-- The gradient at an entry: the sum over the examples, in the order in which the kernel adds. -/
noncomputable def grad (x1 : S2048x8.Idx → EReal) (x2 : S2x8x3072.Idx → EReal) : S2x2048x3072.Idx → EReal := fun i =>
  chain fun e => entry x1 ![(i 1).val, e.val] * entry x2 ![(i 0).val, e.val, (i 2).val]

variable (m : (ℓ : Loc nD τ sig) → Buf (Elt Ideal) ℓ) (c : Dev nD)

/-- The windows' blocks at a point, by the coordinates of the first result's: the examples' block has its rows, the gradients'
    its layer and its columns, and the others are its own. -/
theorem blocks : ∀ t : Fin cfg0.N, win0_0.index t = win0_5.index t ∧ win0_1.index t = ![win0_5.index t 1, 0]
    ∧ win0_2.index t = ![win0_5.index t 0, 0, win0_5.index t 2] ∧ win0_3.index t = win0_5.index t
    ∧ win0_4.index t = win0_5.index t ∧ win0_6.index t = win0_5.index t ∧ win0_7.index t = win0_5.index t
    ∧ win0_8.index t = win0_5.index t := (by decide +kernel : ∀ t : Fin grid0.N, _)

variable (t : Fin cfg0.N) (y : S1x512x1024.Idx)

/-- The chain in the block is the gradient at the block's place. -/
theorem grad_at : slope (iblk m c 1 t) (iblk m c 2 t) y
    = grad (m ((c : Thread nD τ).loc main_arg1)) (m ((c : Thread nD τ).loc main_arg2)) (((cfg0.win 5).blk t).view.emb y) := by
  refine congrArg chain (funext fun e => congrArg₂ (fun a b : EReal => a * b) ?_ ?_)
  · refine entry_val (m ((c : Thread nD τ).loc main_arg1)) (((cfg0.win 1).blk t).view.emb (ValueIdx.ix2 (y 1) e)) _ ?_
    show ∀ a, win0_1.index t a * _ + 1 * (ValueIdx.ix2 (y 1) e a).val = _
    rw [(blocks t).2.1]
    exact fun | 0 => rfl | 1 => (block_coord _ _ _).trans (Nat.zero_add _)
  · refine entry_val (m ((c : Thread nD τ).loc main_arg2)) (((cfg0.win 2).blk t).view.emb (ValueIdx.ix3 0 e (y 2))) _ ?_
    show ∀ a, win0_2.index t a * _ + 1 * (ValueIdx.ix3 0 e (y 2) a).val = _
    rw [(blocks t).2.2.1]
    exact fun
      | 0 => congrArg (fun n => win0_5.index t 0 * 1 + 1 * n) (Nat.lt_one_iff.mp (y 0).isLt).symm
      | 1 => (block_coord _ _ _).trans (Nat.zero_add _)
      | 2 => rfl

/-- The weight's entry in the block. -/
theorem weight_at : (iblk m c 0 t y : EReal) = m ((c : Thread nD τ).loc main_arg0) (((cfg0.win 5).blk t).view.emb y) :=
  congrArg (m ((c : Thread nD τ).loc main_arg0)) (funext fun a => Fin.ext (by
    show win0_0.index t a * _ + 1 * (y a).val = win0_5.index t a * _ + 1 * (y a).val
    rw [(blocks t).1]))

/-- The first moment's entry in the block. -/
theorem first_at : (iblk m c 3 t y : EReal) = m ((c : Thread nD τ).loc main_arg3) (((cfg0.win 5).blk t).view.emb y) :=
  congrArg (m ((c : Thread nD τ).loc main_arg3)) (funext fun a => Fin.ext (by
    show win0_3.index t a * _ + 1 * (y a).val = win0_5.index t a * _ + 1 * (y a).val
    rw [(blocks t).2.2.2.1]))

/-- The second moment's entry in the block. -/
theorem second_at : (iblk m c 4 t y : EReal) = m ((c : Thread nD τ).loc main_arg4) (((cfg0.win 5).blk t).view.emb y) :=
  congrArg (m ((c : Thread nD τ).loc main_arg4)) (funext fun a => Fin.ext (by
    show win0_4.index t a * _ + 1 * (y a).val = win0_5.index t a * _ + 1 * (y a).val
    rw [(blocks t).2.2.2.2.1]))

/-- The gradient that the kernel leaves, of its arguments. -/
noncomputable abbrev grads : S2x2048x3072.Idx → EReal :=
  grad (m ((c : Thread nD τ).loc main_arg1)) (m ((c : Thread nD τ).loc main_arg2))

/-- The weight's change. -/
noncomputable def deltas : S2x2048x3072.Idx → EReal := fun i =>
  delta (m ((c : Thread nD τ).loc main_arg0) i) (grads m c i) (m ((c : Thread nD τ).loc main_arg3) i) (m ((c : Thread nD τ).loc main_arg4) i)

/-- The new first moment. -/
noncomputable def firsts : S2x2048x3072.Idx → EReal := fun i => first (grads m c i) (m ((c : Thread nD τ).loc main_arg3) i)

/-- The new second moment. -/
noncomputable def seconds : S2x2048x3072.Idx → EReal := fun i => second (grads m c i) (m ((c : Thread nD τ).loc main_arg4) i)

theorem covers : (cfg0.win 5).Covers ∧ (cfg0.win 6).Covers ∧ (cfg0.win 7).Covers ∧ (cfg0.win 8).Covers := by decide +kernel

/-- The blocks of the gradient cover its array. -/
theorem final5 : (dats m 0 c).arrAt 5 cfg0.N = grads m c :=
  (dats m 0 c).arrAt_eq_of_cover 5 (grads m c) (fun t _ => by
    show (cfg0.win 5).cut (grid0.coords t) ((dats m 0 c).after 5 t) = _
    rw [after0_5]
    funext y
    show (out0_5 (F := Ideal) _ _ _ _ _ y : EReal) = grads m c (((cfg0.win 5).blk t).view.emb y)
    rw [left5, grad_at]) (covers.1.cover _ (Memref.isWhole_whole _))

/-- The blocks of the change cover its array. -/
theorem final6 : (dats m 0 c).arrAt 6 cfg0.N = deltas m c :=
  (dats m 0 c).arrAt_eq_of_cover 6 (deltas m c) (fun t _ => by
    show (cfg0.win 6).cut (grid0.coords t) ((dats m 0 c).after 6 t) = _
    rw [after0_6]
    funext y
    show (out0_6 (F := Ideal) _ _ _ _ _ y : EReal) = deltas m c (((cfg0.win 6).blk t).view.emb y)
    have e : ((cfg0.win 6).blk t).view.emb y = ((cfg0.win 5).blk t).view.emb y := funext fun a => Fin.ext (by
      show win0_6.index t a * _ + 1 * (y a).val = win0_5.index t a * _ + 1 * (y a).val
      rw [(blocks t).2.2.2.2.2.1])
    rw [e]
    rw [left6, grad_at, weight_at, first_at, second_at]
    rfl) (covers.2.1.cover _ (Memref.isWhole_whole _))

/-- The blocks of the first moment cover its array. -/
theorem final7 : (dats m 0 c).arrAt 7 cfg0.N = firsts m c :=
  (dats m 0 c).arrAt_eq_of_cover 7 (firsts m c) (fun t _ => by
    show (cfg0.win 7).cut (grid0.coords t) ((dats m 0 c).after 7 t) = _
    rw [after0_7]
    funext y
    show (out0_7 (F := Ideal) _ _ _ _ _ y : EReal) = firsts m c (((cfg0.win 7).blk t).view.emb y)
    have e : ((cfg0.win 7).blk t).view.emb y = ((cfg0.win 5).blk t).view.emb y := funext fun a => Fin.ext (by
      show win0_7.index t a * _ + 1 * (y a).val = win0_5.index t a * _ + 1 * (y a).val
      rw [(blocks t).2.2.2.2.2.2.1])
    rw [e]
    rw [left7, grad_at, first_at]
    rfl) (covers.2.2.1.cover _ (Memref.isWhole_whole _))

/-- The blocks of the second moment cover its array. -/
theorem final8 : (dats m 0 c).arrAt 8 cfg0.N = seconds m c :=
  (dats m 0 c).arrAt_eq_of_cover 8 (seconds m c) (fun t _ => by
    show (cfg0.win 8).cut (grid0.coords t) ((dats m 0 c).after 8 t) = _
    rw [after0_8]
    funext y
    show (out0_8 (F := Ideal) _ _ _ _ _ y : EReal) = seconds m c (((cfg0.win 8).blk t).view.emb y)
    have e : ((cfg0.win 8).blk t).view.emb y = ((cfg0.win 5).blk t).view.emb y := funext fun a => Fin.ext (by
      show win0_8.index t a * _ + 1 * (y a).val = win0_5.index t a * _ + 1 * (y a).val
      rw [(blocks t).2.2.2.2.2.2.2])
    rw [e]
    rw [left8, grad_at, second_at]
    rfl) (covers.2.2.2.cover _ (Memref.isWhole_whole _))

end Cert.Kernel29Ideal.Hand

namespace Cert.Proof

open Idealize.ShloMosaic Idealize.ShloMosaic.TcCoe Idealize.SL.Sem Cert.Tiles

theorem bodies29 : Cert.Kernel29.defs₀ (F := Bits) = Cert.Kernel29Ideal.defs₀ (F := Bits) :=
  congrArg Defs.onTc (funext fun l => funext fun x => match l, x with | 0, (_, _) => rfl)

theorem frame_Kernel29 : Cert.quiescent_Kernel29 := fun m g _ =>
  (congrArg (fun d => θ_run (Pipeline.defs _ d) _ _ _) bodies29).mpr (Cert.Kernel29Ideal.Gen.frame (F := Bits) m g)

theorem frame_Kernel29Ideal : Cert.quiescent_Kernel29Ideal := fun m g _ => Cert.Kernel29Ideal.Gen.frame m g

theorem frame_Reference29Ideal : Cert.quiescent_Reference29Ideal := fun m g _ =>
  (θ_run Cert.Reference29Ideal.defs _ _).mono
    (fun r h => ⟨fun c => (h c).2.2.2.2, sem_eq_zero_of_no_sems (by decide) r.2⟩) (Cert.Reference29Ideal.Value.run m g)

/-- The reference's gradient is the same sum, with the factors in the other order. -/
theorem reference29_grad (x1 : Cert.Reference29Ideal.S2048x8.Idx → EReal) (x2 : Cert.Reference29Ideal.S2x8x3072.Idx → EReal) :
    (Cert.Reference29Ideal.Read.val_main_v4 (F := Ideal) x1 x2 : Cert.Reference29Ideal.S2x2048x3072.Idx → EReal)
      = Cert.Kernel29Ideal.Hand.grad x1 x2 := funext fun i => by
  rw [Cert.Reference29Ideal.Read.val_main_v4_apply, Cert.Reference29Ideal.Read.val_main_v3_apply, Cert.Kernel29Ideal.Hand.grad,
    Cert.Adam.chain_eq]
  refine Finset.sum_congr rfl fun e _ => ?_
  rw [Cert.Reference29Ideal.Read.val_main_v2_apply]
  refine (mul_comm _ _).trans (congrArg₂ (fun a b : EReal => a * b) ?_ ?_)
  · exact entry_val x1 _ _ fun | 0 => rfl | 1 => rfl
  · exact entry_val x2 _ _ fun | 0 => rfl | 1 => rfl | 2 => rfl

theorem algebraic29 : Cert.algebraic_Kernel29Ideal_Reference29Ideal := fun m g m' g' _ h =>
  ⟨fun c => Cert.Kernel29Ideal.Hand.grads m c, fun c => Cert.Kernel29Ideal.Hand.deltas m c, fun c => Cert.Kernel29Ideal.Hand.firsts m c,
    fun c => Cert.Kernel29Ideal.Hand.seconds m c,
    (θ_run Cert.Kernel29Ideal.defs _ _).mono (fun r hr c => ⟨((hr.1 c).1 5).trans (Cert.Kernel29Ideal.Hand.final5 m c),
      ((hr.1 c).1 6).trans (Cert.Kernel29Ideal.Hand.final6 m c), ((hr.1 c).1 7).trans (Cert.Kernel29Ideal.Hand.final7 m c),
      ((hr.1 c).1 8).trans (Cert.Kernel29Ideal.Hand.final8 m c), hr.2 c⟩)
      (θ_run_and (Cert.Kernel29Ideal.Gen.run_main m g) (Cert.Kernel29Ideal.Gen.unchanged m g)),
    (θ_run Cert.Reference29Ideal.defs _ _).mono (fun r hr c => by
      obtain ⟨h0, h1, h2, h3, h4⟩ := h c
      have e := reference29_grad (m' ((c.tc : Thread Cert.Reference29Ideal.nD Cert.Reference29Ideal.τ).loc Cert.Reference29Ideal.main_arg1))
        (m' ((c.tc : Thread Cert.Reference29Ideal.nD Cert.Reference29Ideal.τ).loc Cert.Reference29Ideal.main_arg2))
      unfold Cert.Reference29Ideal.Read.val_main_v4 Cert.Reference29Ideal.Read.val_main_v3 Cert.Reference29Ideal.Read.val_main_v2 at e
      rw [h1, h2] at e
      refine ⟨(hr c).1.trans ?_, (hr c).2.1.trans ?_, (hr c).2.2.1.trans ?_, (hr c).2.2.2.1.trans ?_, (hr c).2.2.2.2⟩
      · rw [h1, h2, e]
      · rw [h0, h1, h2, h3, h4, e]; rfl
      · rw [h1, h2, h3, e]; rfl
      · rw [h1, h2, h4, e]; rfl)
      (Cert.Reference29Ideal.Value.run m' g')⟩

end Cert.Proof

end
-- ==== Proof.ModTwo.lean ====
module

public import proofs.«01_k».proof.Defs
public import proofs.«01_k».proof.Proof.Gen.Kernel30
public import proofs.«01_k».proof.Proof.Gen.Kernel30Ideal.Frame
public import proofs.«01_k».proof.Proof.Gen.Reference30Ideal.Read
public import proofs.«01_k».proof.Proof.ProductSum
public import proofs.«01_k».proof.Proof.ModBody
public import Idealize.ShloMosaic.Lib.Pipeline.ReadBack
public import Idealize.ShloMosaic.Lib.Pipeline.ValueKit.Geometry

/-! # The same of the keys' and values' modulation, whose blocks are the same -/

@[expose] public section

namespace Cert.Kernel30Ideal.Hand

open Cert.Kernel29Ideal.Hand (slope left5 left6 left7 left8)
open Cert.Kernel30Ideal.Gen Cert.Tiles Cert.Adam
open Idealize.ShloMosaic Idealize.ShloMosaic.TcCoe Idealize.SL Idealize.SL.Sem

/-- The gradient at an entry: the sum over the examples, in the order in which the kernel adds. -/
noncomputable def grad (x1 : S2048x8.Idx → EReal) (x2 : S1x8x1024.Idx → EReal) : S1x2048x1024.Idx → EReal := fun i =>
  chain fun e => entry x1 ![(i 1).val, e.val] * entry x2 ![(i 0).val, e.val, (i 2).val]

variable (m : (ℓ : Loc nD τ sig) → Buf (Elt Ideal) ℓ) (c : Dev nD)

/-- The windows' blocks at a point, by the coordinates of the first result's: the examples' block has its rows, the gradients'
    its layer and its columns, and the others are its own. -/
theorem blocks : ∀ t : Fin cfg0.N, win0_0.index t = win0_5.index t ∧ win0_1.index t = ![win0_5.index t 1, 0]
    ∧ win0_2.index t = ![win0_5.index t 0, 0, win0_5.index t 2] ∧ win0_3.index t = win0_5.index t
    ∧ win0_4.index t = win0_5.index t ∧ win0_6.index t = win0_5.index t ∧ win0_7.index t = win0_5.index t
    ∧ win0_8.index t = win0_5.index t := (by decide +kernel : ∀ t : Fin grid0.N, _)

variable (t : Fin cfg0.N) (y : S1x512x1024.Idx)

/-- The chain in the block is the gradient at the block's place. -/
theorem grad_at : slope (iblk m c 1 t) (iblk m c 2 t) y
    = grad (m ((c : Thread nD τ).loc main_arg1)) (m ((c : Thread nD τ).loc main_arg2)) (((cfg0.win 5).blk t).view.emb y) := by
  refine congrArg chain (funext fun e => congrArg₂ (fun a b : EReal => a * b) ?_ ?_)
  · refine entry_val (m ((c : Thread nD τ).loc main_arg1)) (((cfg0.win 1).blk t).view.emb (ValueIdx.ix2 (y 1) e)) _ ?_
    show ∀ a, win0_1.index t a * _ + 1 * (ValueIdx.ix2 (y 1) e a).val = _
    rw [(blocks t).2.1]
    exact fun | 0 => rfl | 1 => (block_coord _ _ _).trans (Nat.zero_add _)
  · refine entry_val (m ((c : Thread nD τ).loc main_arg2)) (((cfg0.win 2).blk t).view.emb (ValueIdx.ix3 0 e (y 2))) _ ?_
    show ∀ a, win0_2.index t a * _ + 1 * (ValueIdx.ix3 0 e (y 2) a).val = _
    rw [(blocks t).2.2.1]
    exact fun
      | 0 => congrArg (fun n => win0_5.index t 0 * 1 + 1 * n) (Nat.lt_one_iff.mp (y 0).isLt).symm
      | 1 => (block_coord _ _ _).trans (Nat.zero_add _)
      | 2 => rfl

/-- The weight's entry in the block. -/
theorem weight_at : (iblk m c 0 t y : EReal) = m ((c : Thread nD τ).loc main_arg0) (((cfg0.win 5).blk t).view.emb y) :=
  congrArg (m ((c : Thread nD τ).loc main_arg0)) (funext fun a => Fin.ext (by
    show win0_0.index t a * _ + 1 * (y a).val = win0_5.index t a * _ + 1 * (y a).val
    rw [(blocks t).1]))

/-- The first moment's entry in the block. -/
theorem first_at : (iblk m c 3 t y : EReal) = m ((c : Thread nD τ).loc main_arg3) (((cfg0.win 5).blk t).view.emb y) :=
  congrArg (m ((c : Thread nD τ).loc main_arg3)) (funext fun a => Fin.ext (by
    show win0_3.index t a * _ + 1 * (y a).val = win0_5.index t a * _ + 1 * (y a).val
    rw [(blocks t).2.2.2.1]))

/-- The second moment's entry in the block. -/
theorem second_at : (iblk m c 4 t y : EReal) = m ((c : Thread nD τ).loc main_arg4) (((cfg0.win 5).blk t).view.emb y) :=
  congrArg (m ((c : Thread nD τ).loc main_arg4)) (funext fun a => Fin.ext (by
    show win0_4.index t a * _ + 1 * (y a).val = win0_5.index t a * _ + 1 * (y a).val
    rw [(blocks t).2.2.2.2.1]))

/-- The gradient that the kernel leaves, of its arguments. -/
noncomputable abbrev grads : S1x2048x1024.Idx → EReal :=
  grad (m ((c : Thread nD τ).loc main_arg1)) (m ((c : Thread nD τ).loc main_arg2))

/-- The weight's change. -/
noncomputable def deltas : S1x2048x1024.Idx → EReal := fun i =>
  delta (m ((c : Thread nD τ).loc main_arg0) i) (grads m c i) (m ((c : Thread nD τ).loc main_arg3) i) (m ((c : Thread nD τ).loc main_arg4) i)

/-- The new first moment. -/
noncomputable def firsts : S1x2048x1024.Idx → EReal := fun i => first (grads m c i) (m ((c : Thread nD τ).loc main_arg3) i)

/-- The new second moment. -/
noncomputable def seconds : S1x2048x1024.Idx → EReal := fun i => second (grads m c i) (m ((c : Thread nD τ).loc main_arg4) i)

theorem covers : (cfg0.win 5).Covers ∧ (cfg0.win 6).Covers ∧ (cfg0.win 7).Covers ∧ (cfg0.win 8).Covers := by decide +kernel

/-- The blocks of the gradient cover its array. -/
theorem final5 : (dats m 0 c).arrAt 5 cfg0.N = grads m c :=
  (dats m 0 c).arrAt_eq_of_cover 5 (grads m c) (fun t _ => by
    show (cfg0.win 5).cut (grid0.coords t) ((dats m 0 c).after 5 t) = _
    rw [after0_5]
    funext y
    show (out0_5 (F := Ideal) _ _ _ _ _ y : EReal) = grads m c (((cfg0.win 5).blk t).view.emb y)
    rw [show out0_5 (F := Ideal) = Cert.Kernel29Ideal.Gen.out0_5 from rfl, left5, grad_at]) (covers.1.cover _ (Memref.isWhole_whole _))

/-- The blocks of the change cover its array. -/
theorem final6 : (dats m 0 c).arrAt 6 cfg0.N = deltas m c :=
  (dats m 0 c).arrAt_eq_of_cover 6 (deltas m c) (fun t _ => by
    show (cfg0.win 6).cut (grid0.coords t) ((dats m 0 c).after 6 t) = _
    rw [after0_6]
    funext y
    show (out0_6 (F := Ideal) _ _ _ _ _ y : EReal) = deltas m c (((cfg0.win 6).blk t).view.emb y)
    have e : ((cfg0.win 6).blk t).view.emb y = ((cfg0.win 5).blk t).view.emb y := funext fun a => Fin.ext (by
      show win0_6.index t a * _ + 1 * (y a).val = win0_5.index t a * _ + 1 * (y a).val
      rw [(blocks t).2.2.2.2.2.1])
    rw [e]
    rw [show out0_6 (F := Ideal) = Cert.Kernel29Ideal.Gen.out0_6 from rfl, left6, grad_at, weight_at, first_at, second_at]
    rfl) (covers.2.1.cover _ (Memref.isWhole_whole _))

/-- The blocks of the first moment cover its array. -/
theorem final7 : (dats m 0 c).arrAt 7 cfg0.N = firsts m c :=
  (dats m 0 c).arrAt_eq_of_cover 7 (firsts m c) (fun t _ => by
    show (cfg0.win 7).cut (grid0.coords t) ((dats m 0 c).after 7 t) = _
    rw [after0_7]
    funext y
    show (out0_7 (F := Ideal) _ _ _ _ _ y : EReal) = firsts m c (((cfg0.win 7).blk t).view.emb y)
    have e : ((cfg0.win 7).blk t).view.emb y = ((cfg0.win 5).blk t).view.emb y := funext fun a => Fin.ext (by
      show win0_7.index t a * _ + 1 * (y a).val = win0_5.index t a * _ + 1 * (y a).val
      rw [(blocks t).2.2.2.2.2.2.1])
    rw [e]
    rw [show out0_7 (F := Ideal) = Cert.Kernel29Ideal.Gen.out0_7 from rfl, left7, grad_at, first_at]
    rfl) (covers.2.2.1.cover _ (Memref.isWhole_whole _))

/-- The blocks of the second moment cover its array. -/
theorem final8 : (dats m 0 c).arrAt 8 cfg0.N = seconds m c :=
  (dats m 0 c).arrAt_eq_of_cover 8 (seconds m c) (fun t _ => by
    show (cfg0.win 8).cut (grid0.coords t) ((dats m 0 c).after 8 t) = _
    rw [after0_8]
    funext y
    show (out0_8 (F := Ideal) _ _ _ _ _ y : EReal) = seconds m c (((cfg0.win 8).blk t).view.emb y)
    have e : ((cfg0.win 8).blk t).view.emb y = ((cfg0.win 5).blk t).view.emb y := funext fun a => Fin.ext (by
      show win0_8.index t a * _ + 1 * (y a).val = win0_5.index t a * _ + 1 * (y a).val
      rw [(blocks t).2.2.2.2.2.2.2])
    rw [e]
    rw [show out0_8 (F := Ideal) = Cert.Kernel29Ideal.Gen.out0_8 from rfl, left8, grad_at, second_at]
    rfl) (covers.2.2.2.cover _ (Memref.isWhole_whole _))

end Cert.Kernel30Ideal.Hand

namespace Cert.Proof

open Idealize.ShloMosaic Idealize.ShloMosaic.TcCoe Idealize.SL.Sem Cert.Tiles

theorem bodies30 : Cert.Kernel30.defs₀ (F := Bits) = Cert.Kernel30Ideal.defs₀ (F := Bits) :=
  congrArg Defs.onTc (funext fun l => funext fun x => match l, x with | 0, (_, _) => rfl)

theorem frame_Kernel30 : Cert.quiescent_Kernel30 := fun m g _ =>
  (congrArg (fun d => θ_run (Pipeline.defs _ d) _ _ _) bodies30).mpr (Cert.Kernel30Ideal.Gen.frame (F := Bits) m g)

theorem frame_Kernel30Ideal : Cert.quiescent_Kernel30Ideal := fun m g _ => Cert.Kernel30Ideal.Gen.frame m g

theorem frame_Reference30Ideal : Cert.quiescent_Reference30Ideal := fun m g _ =>
  (θ_run Cert.Reference30Ideal.defs _ _).mono
    (fun r h => ⟨fun c => (h c).2.2.2.2, sem_eq_zero_of_no_sems (by decide) r.2⟩) (Cert.Reference30Ideal.Value.run m g)

/-- The reference's gradient is the same sum, with the factors in the other order. -/
theorem reference30_grad (x1 : Cert.Reference30Ideal.S2048x8.Idx → EReal) (x2 : Cert.Reference30Ideal.S1x8x1024.Idx → EReal) :
    (Cert.Reference30Ideal.Read.val_main_v4 (F := Ideal) x1 x2 : Cert.Reference30Ideal.S1x2048x1024.Idx → EReal)
      = Cert.Kernel30Ideal.Hand.grad x1 x2 := funext fun i => by
  rw [Cert.Reference30Ideal.Read.val_main_v4_apply, Cert.Reference30Ideal.Read.val_main_v3_apply, Cert.Kernel30Ideal.Hand.grad,
    Cert.Adam.chain_eq]
  refine Finset.sum_congr rfl fun e _ => ?_
  rw [Cert.Reference30Ideal.Read.val_main_v2_apply]
  refine (mul_comm _ _).trans (congrArg₂ (fun a b : EReal => a * b) ?_ ?_)
  · exact entry_val x1 _ _ fun | 0 => rfl | 1 => rfl
  · exact entry_val x2 _ _ fun | 0 => rfl | 1 => rfl | 2 => rfl

theorem algebraic30 : Cert.algebraic_Kernel30Ideal_Reference30Ideal := fun m g m' g' _ h =>
  ⟨fun c => Cert.Kernel30Ideal.Hand.grads m c, fun c => Cert.Kernel30Ideal.Hand.deltas m c, fun c => Cert.Kernel30Ideal.Hand.firsts m c,
    fun c => Cert.Kernel30Ideal.Hand.seconds m c,
    (θ_run Cert.Kernel30Ideal.defs _ _).mono (fun r hr c => ⟨((hr.1 c).1 5).trans (Cert.Kernel30Ideal.Hand.final5 m c),
      ((hr.1 c).1 6).trans (Cert.Kernel30Ideal.Hand.final6 m c), ((hr.1 c).1 7).trans (Cert.Kernel30Ideal.Hand.final7 m c),
      ((hr.1 c).1 8).trans (Cert.Kernel30Ideal.Hand.final8 m c), hr.2 c⟩)
      (θ_run_and (Cert.Kernel30Ideal.Gen.run_main m g) (Cert.Kernel30Ideal.Gen.unchanged m g)),
    (θ_run Cert.Reference30Ideal.defs _ _).mono (fun r hr c => by
      obtain ⟨h0, h1, h2, h3, h4⟩ := h c
      have e := reference30_grad (m' ((c.tc : Thread Cert.Reference30Ideal.nD Cert.Reference30Ideal.τ).loc Cert.Reference30Ideal.main_arg1))
        (m' ((c.tc : Thread Cert.Reference30Ideal.nD Cert.Reference30Ideal.τ).loc Cert.Reference30Ideal.main_arg2))
      unfold Cert.Reference30Ideal.Read.val_main_v4 Cert.Reference30Ideal.Read.val_main_v3 Cert.Reference30Ideal.Read.val_main_v2 at e
      rw [h1, h2] at e
      refine ⟨(hr c).1.trans ?_, (hr c).2.1.trans ?_, (hr c).2.2.1.trans ?_, (hr c).2.2.2.1.trans ?_, (hr c).2.2.2.2⟩
      · rw [h1, h2, e]
      · rw [h0, h1, h2, h3, h4, e]; rfl
      · rw [h1, h2, h3, e]; rfl
      · rw [h1, h2, h4, e]; rfl)
      (Cert.Reference30Ideal.Value.run m' g')⟩

end Cert.Proof

end
-- ==== Proof.SumSmall.lean ====
module

public import proofs.«01_k».proof.Defs
public import proofs.«01_k».proof.Proof.Gen.Kernel31
public import proofs.«01_k».proof.Proof.Gen.Kernel31Ideal.Value
public import proofs.«01_k».proof.Proof.Gen.Reference31Ideal.Read
public import proofs.«01_k».proof.Proof.ProductSum
public import Idealize.ShloMosaic.Lib.Pointwise
public import Idealize.ShloMosaic.Lib.Pipeline.ReadBack
public import Idealize.ShloMosaic.Lib.Pipeline.ValueKit.Geometry
public import Idealize.ShloMosaic.Lib.Pipeline.Value

/-! # The small weights' gradients, summed over the eight devices -/

@[expose] public section

namespace Cert.Kernel31Ideal.Hand

open Cert.Kernel31Ideal.Gen Cert.Kernel31Ideal.Value Cert.Tiles
open Idealize.ShloMosaic Idealize.ShloMosaic.TcCoe Idealize.SL Idealize.SL.Sem

/-- The sum over the devices at each column. -/
noncomputable def sums (x : S8x160768.Idx → EReal) : S1x160768.Idx → EReal := fun i => ∑ k : Fin 8, entry x ![k.val, (i 1).val]

/-- What the body stores: its block's columns' sums. -/
theorem stored (x : Vec Ideal S8x1024 .f32) (j : S1x1024.Idx) :
    (k0_pay1 x j : EReal) = ∑ k : Fin 8, (x (ValueIdx.ix2 k (j 1)) : EReal) := by
  unfold k0_pay1
  refine (shapeCast_apply _ _ j (ValueIdx.ix1 (j 1)) (by
    have hj : (j 0).val = 0 := by have : (j 0).val < 1 := (j 0).isLt; omega
    rw [Shape.rowMajor_val_one, Shape.rowMajor_val_two]; show (j 1).val = (j 0).val * 1024 + (j 1).val; omega)).trans ?_
  simp only [pointwise]
  rfl

variable (m : (ℓ : Loc nD τ sig) → Buf (Elt Ideal) ℓ) (c : Dev nD)

/-- The windows' blocks at a point are the same columns, of all rows. -/
theorem blocks : ∀ t : Fin cfg0.N, win0_0.index t = ![0, win0_1.index t 1] := (by decide +kernel : ∀ t : Fin grid0.N, _)

theorem covers : (cfg0.win 1).Covers := by decide +kernel

/-- The blocks of sums cover the array of them. -/
theorem final : (dats m 0 c).arrAt 1 cfg0.N = sums (m ((c : Thread nD τ).loc main_arg0)) :=
  (dats m 0 c).arrAt_eq_of_cover 1 (sums (m ((c : Thread nD τ).loc main_arg0))) (fun t _ => by
    show (cfg0.win 1).cut (grid0.coords t) ((dats m 0 c).after 1 t) = _
    rw [after0_1]
    funext y
    show (out0_1 (F := Ideal) _ y : EReal) = sums (m ((c : Thread nD τ).loc main_arg0)) (((cfg0.win 1).blk t).view.emb y)
    unfold out0_1
    rw [View.canon_unit_zero hz, View.ld_unit_zero (S := S8x1024) hz]
    refine (stored _ y).trans (Finset.sum_congr rfl fun k _ => ?_)
    refine entry_val (m ((c : Thread nD τ).loc main_arg0)) (((cfg0.win 0).blk t).view.emb (ValueIdx.ix2 k (y 1))) _ ?_
    show ∀ a, win0_0.index t a * _ + 1 * (ValueIdx.ix2 k (y 1) a).val = _
    rw [blocks t]
    exact fun
      | 0 => (block_coord _ _ _).trans (Nat.zero_add _)
      | 1 => rfl) (covers.cover _ (Memref.isWhole_whole _))

end Cert.Kernel31Ideal.Hand

namespace Cert.Proof

open Idealize.ShloMosaic Idealize.ShloMosaic.TcCoe Idealize.SL.Sem Cert.Tiles

theorem bodies31 : Cert.Kernel31.defs₀ (F := Bits) = Cert.Kernel31Ideal.defs₀ (F := Bits) :=
  congrArg Defs.onTc (funext fun l => funext fun x => match l, x with | 0, (_, _) => rfl)

theorem frame_Kernel31 : Cert.quiescent_Kernel31 := fun m g _ =>
  (congrArg (fun d => θ_run (Pipeline.defs _ d) _ _ _) bodies31).mpr (Cert.Kernel31Ideal.Gen.frame (F := Bits) m g)

theorem frame_Kernel31Ideal : Cert.quiescent_Kernel31Ideal := fun m g _ => Cert.Kernel31Ideal.Gen.frame m g

theorem frame_Reference31Ideal : Cert.quiescent_Reference31Ideal := fun m g _ =>
  (θ_run Cert.Reference31Ideal.defs _ _).mono
    (fun r h => ⟨fun c => (h c).2, sem_eq_zero_of_no_sems (by decide) r.2⟩) (Cert.Reference31Ideal.Value.run m g)

/-- The reference's sums are the same, from its zero word. -/
theorem reference31_sums (x : Cert.Reference31Ideal.S8x160768.Idx → EReal) :
    (Cert.Reference31Ideal.Read.val_main_v1 (F := Ideal) x : Cert.Reference31Ideal.S1x160768.Idx → EReal)
      = Cert.Kernel31Ideal.Hand.sums x := funext fun i => by
  have h0 : Ideal.ofBits .f32 0x00000000#32 = (0 : EReal) := by simp [Ideal.ofBits, Ideal.ieee]
  rw [Cert.Reference31Ideal.Read.val_main_v1_apply, Cert.Reference31Ideal.Read.val_main_v0_apply,
    Cert.Reference31Ideal.Read.val_main_cst_apply]
  refine (congrArg (· + _) h0).trans ((zero_add _).trans (Finset.sum_congr rfl fun k _ => ?_))
  exact entry_val x _ _ fun | 0 => rfl | 1 => rfl

theorem algebraic31 : Cert.algebraic_Kernel31Ideal_Reference31Ideal := fun m g m' g' _ h =>
  ⟨fun c => Cert.Kernel31Ideal.Hand.sums (m ((c.tc : Thread Cert.Kernel31Ideal.nD Cert.Kernel31Ideal.τ).loc Cert.Kernel31Ideal.main_arg0)),
    (θ_run Cert.Kernel31Ideal.defs _ _).mono (fun r hr c => ⟨(hr c).1.trans (Cert.Kernel31Ideal.Hand.final m c), (hr c).2⟩)
      (Cert.Kernel31Ideal.Value.run_blocks m g),
    (θ_run Cert.Reference31Ideal.defs _ _).mono
      (fun r hr c => ⟨(hr c).1.trans ((reference31_sums _).trans (congrArg Cert.Kernel31Ideal.Hand.sums (h c))), (hr c).2⟩)
      (Cert.Reference31Ideal.Value.run m' g')⟩

end Cert.Proof

end
-- ==== Proof.StepBwd.lean ====
module

public import proofs.«01_k».proof.Defs
public import proofs.«01_k».proof.Proof.Gen.Kernel32
public import proofs.«01_k».proof.Proof.Gen.Kernel32Ideal.Value
public import proofs.«01_k».proof.Proof.Gen.Reference32Ideal.Read
public import proofs.«01_k».proof.Proof.NormBwd

/-! # The step's incoming gradient through the modulated norm: frame and value

The kernel walks the rows in 32 tiles. At each it writes the tile's gradient and adds the tile's column sums to the gradients of
the shift, of the scale and of the gain. All five arguments are taken to hold finite numbers. -/

@[expose] public section

namespace Cert.Step

open Cert.Norm

/-! ## The norm by the root of the mean square, at real rows -/

/-- The mean square with its offset. -/
noncomputable def power (f : ℕ → ℝ) : ℝ := rmean (fun l => f l * f l) + reps
noncomputable def root (f : ℕ → ℝ) : ℝ := (Real.sqrt (power f))⁻¹
noncomputable def scaled (f : ℕ → ℝ) (l : ℕ) : ℝ := f l * root f
/-- What the norm hands back to a row `f` whose scaled row receives `h`. -/
noncomputable def back (f h : ℕ → ℝ) (l : ℕ) : ℝ := root f * (h l - scaled f l * rmean (fun l => h l * scaled f l))

theorem power_pos (f : ℕ → ℝ) : 0 < power f :=
  add_pos_of_nonneg_of_pos (div_nonneg (Finset.sum_nonneg fun _ _ => mul_self_nonneg _) (by norm_num)) reps_pos

/-- What the mean square's gradient adds to each factor of an entry's square. -/
noncomputable def part (f h : ℕ → ℝ) : ℝ := (∑ k : Fin 2048, f k.val * h k.val) * (-(1 / 2) * (root f / power f)) / 2048

theorem chain_eq (f h : ℕ → ℝ) (l : ℕ) : h l * root f + f l * part f h + part f h * f l = back f h l := by
  have hs : root f / power f = root f * root f * root f := by
    have e : (power f)⁻¹ = root f * root f := by rw [root, ← mul_inv, Real.mul_self_sqrt (power_pos f).le]
    rw [div_eq_mul_inv, e, mul_assoc]
  have h3 : ∑ k : Fin 2048, h k.val * (f k.val * root f) = (∑ k : Fin 2048, f k.val * h k.val) * root f := by
    rw [Finset.sum_mul]
    exact Finset.sum_congr rfl fun k _ => by ring
  rw [back, part, hs]
  simp only [rmean, scaled]
  rw [h3]
  ring

/-! ## The four gradients at real arguments -/

/-- The five arguments by their coordinates. -/
structure Args where
  (u x d : ℕ → ℕ → ℝ) (g s : ℕ → ℝ)

namespace Args

variable (A : Args)

/-- What the scaled row receives. -/
noncomputable def grad (r l : ℕ) : ℝ := A.d r l * (A.g l * (1 + A.s l))
/-- The rows' gradient. -/
noncomputable def rows (r l : ℕ) : ℝ := A.u r l + back (A.x r) (A.grad r) l
/-- A row's parts in the gradients of the scale and of the gain. -/
noncomputable def scale (r l : ℕ) : ℝ := A.d r l * scaled (A.x r) l * A.g l
noncomputable def gain (r l : ℕ) : ℝ := A.d r l * scaled (A.x r) l * (1 + A.s l)

/-- The four results as arrays. -/
noncomputable def rowsArr : (⟨2, ![8192, 2048]⟩ : Idealize.ShloMosaic.Shape).Idx → EReal := fun i => (A.rows (i 0).val (i 1).val : EReal)
noncomputable def line (f : ℕ → ℕ → ℝ) : (⟨2, ![1, 2048]⟩ : Idealize.ShloMosaic.Shape).Idx → EReal :=
  fun i => Cert.Norm.Args.total f (i 1).val

end Args

/-- A column's sum under a factor is the sum of the products. -/
theorem sum_scaled (f : Fin 256 → ℝ) (g : ℝ) : (∑ k, (f k : EReal)) * (g : EReal) = ∑ k, ((f k * g : ℝ) : EReal) := by
  rw [Cert.Dq.sum_coe, Cert.Dq.sum_coe, ← EReal.coe_mul, Finset.sum_mul]

end Cert.Step

namespace Cert.Kernel32Ideal.Hand

open Cert.Kernel32Ideal.Gen Cert.Kernel32Ideal.Value Cert.Tiles Cert.Step Cert.Dq
open Cert.Norm (means means_apply mean_coe column_apply row_apply sums_apply eps_word rsqrt_pos rmean)
open Idealize.ShloMosaic Idealize.ShloMosaic.TcCoe Idealize.SL Idealize.SL.Sem

variable {m : (ℓ : Loc nD τ sig) → Buf (Elt Ideal) ℓ} {c : Dev nD} {A : Args}

/-- The memory holds the arguments. -/
structure Holds (m : (ℓ : Loc nD τ sig) → Buf (Elt Ideal) ℓ) (c : Dev nD) (A : Args) : Prop where
  u (i : S8192x2048.Idx) : (m ((c : Thread nD τ).loc main_arg0) i : EReal) = (A.u (i 0).val (i 1).val : EReal)
  x (i : S8192x2048.Idx) : (m ((c : Thread nD τ).loc main_arg1) i : EReal) = (A.x (i 0).val (i 1).val : EReal)
  d (i : S8192x2048.Idx) : (m ((c : Thread nD τ).loc main_arg2) i : EReal) = (A.d (i 0).val (i 1).val : EReal)
  g (i : S1x2048.Idx) : (m ((c : Thread nD τ).loc main_arg3) i : EReal) = (A.g (i 1).val : EReal)
  s (i : S1x2048.Idx) : (m ((c : Thread nD τ).loc main_arg4) i : EReal) = (A.s (i 1).val : EReal)

/-- The blocks the nine windows are on at point `t`. -/
theorem tiles : ∀ t : Fin cfg0.N, win0_0.index t = ![t.val, 0] ∧ win0_1.index t = ![t.val, 0] ∧ win0_2.index t = ![t.val, 0]
    ∧ win0_5.index t = ![t.val, 0] :=
  (by decide +kernel : ∀ t : Fin grid0.N, _)
theorem lines : ∀ t : Fin cfg0.N, win0_3.index t = ![0, 0] ∧ win0_4.index t = ![0, 0] ∧ win0_6.index t = ![0, 0]
    ∧ win0_7.index t = ![0, 0] ∧ win0_8.index t = ![0, 0] :=
  (by decide +kernel : ∀ t : Fin grid0.N, _)

/-! ## The body's values at a tile -/

theorem u_at (h : Holds m c A) (t : Fin cfg0.N) (j : S256x2048.Idx) :
    (iblk m c 0 t j : EReal) = (A.u (256 * t.val + (j 0).val) (j 1).val : EReal) := by
  refine (h.u (((cfg0.win 0).blk t).view.emb j)).trans (congrArg _ (congrArg₂ A.u ?_ ?_))
  · show win0_0.index t 0 * 256 + 1 * (j 0).val = _
    rw [(tiles t).1]; exact block_coord _ _ _
  · show win0_0.index t 1 * 2048 + 1 * (j 1).val = _
    rw [(tiles t).1]; exact (block_coord _ _ _).trans (Nat.zero_add _)

theorem x_at (h : Holds m c A) (t : Fin cfg0.N) (j : S256x2048.Idx) :
    (iblk m c 1 t j : EReal) = (A.x (256 * t.val + (j 0).val) (j 1).val : EReal) := by
  refine (h.x (((cfg0.win 1).blk t).view.emb j)).trans (congrArg _ (congrArg₂ A.x ?_ ?_))
  · show win0_1.index t 0 * 256 + 1 * (j 0).val = _
    rw [(tiles t).2.1]; exact block_coord _ _ _
  · show win0_1.index t 1 * 2048 + 1 * (j 1).val = _
    rw [(tiles t).2.1]; exact (block_coord _ _ _).trans (Nat.zero_add _)

theorem d_at (h : Holds m c A) (t : Fin cfg0.N) (j : S256x2048.Idx) :
    (k0_pay7 (iblk m c 2 t) j : EReal) = (A.d (256 * t.val + (j 0).val) (j 1).val : EReal) := by
  refine (h.d (((cfg0.win 2).blk t).view.emb j)).trans (congrArg _ (congrArg₂ A.d ?_ ?_))
  · show win0_2.index t 0 * 256 + 1 * (j 0).val = _
    rw [(tiles t).2.2.1]; exact block_coord _ _ _
  · show win0_2.index t 1 * 2048 + 1 * (j 1).val = _
    rw [(tiles t).2.2.1]; exact (block_coord _ _ _).trans (Nat.zero_add _)

theorem g_at (h : Holds m c A) (t : Fin cfg0.N) (j : S1x2048.Idx) : (iblk m c 3 t j : EReal) = (A.g (j 1).val : EReal) := by
  refine (h.g (((cfg0.win 3).blk t).view.emb j)).trans (congrArg _ (congrArg A.g ?_))
  show win0_3.index t 1 * 2048 + 1 * (j 1).val = _
  rw [(lines t).1]; exact (block_coord _ _ _).trans (Nat.zero_add _)

theorem s_at (h : Holds m c A) (t : Fin cfg0.N) (j : S1x2048.Idx) : (iblk m c 4 t j : EReal) = (A.s (j 1).val : EReal) := by
  refine (h.s (((cfg0.win 4).blk t).view.emb j)).trans (congrArg _ (congrArg A.s ?_))
  show win0_4.index t 1 * 2048 + 1 * (j 1).val = _
  rw [(lines t).2.1]; exact (block_coord _ _ _).trans (Nat.zero_add _)

theorem factor_at (h : Holds m c A) (t : Fin cfg0.N) (j : S1x2048.Idx) :
    (k0_pay8 (iblk m c 4 t) j : EReal) = ((1 + A.s (j 1).val : ℝ) : EReal) :=
  add_real (φ := .f32) one_word (s_at h t j)

theorem root_at (h : Holds m c A) (t : Fin cfg0.N) (j : S256x1.Idx) :
    (k0_pay5 (iblk m c 1 t) j : EReal) = (root (A.x (256 * t.val + (j 0).val)) : EReal) := by
  have e := (means_apply reduces_S256x2048_S256 shapeCasts_S256_S256x1 (x := mulf (iblk m c 1 t) (iblk m c 1 t))
    (X := fun r l => ((A.x r l * A.x r l : ℝ) : EReal)) (fun j => mul_real (φ := .f32) (x_at h t j) (x_at h t j)) j).trans
    (mean_coe _)
  exact (congrArg Ideal.rsqrt (add_real (φ := .f32) e eps_word)).trans (rsqrt_pos (power_pos _))

theorem scaled_at (h : Holds m c A) (t : Fin cfg0.N) (j : S256x2048.Idx) :
    (k0_pay6 (iblk m c 1 t) j : EReal) = (scaled (A.x (256 * t.val + (j 0).val)) (j 1).val : EReal) :=
  mul_real (φ := .f32) (x_at h t j) ((column_apply broadcasts_S256x1_S256x2048 _ j).trans (root_at h t _))

theorem product_at (h : Holds m c A) (t : Fin cfg0.N) (j : S256x2048.Idx) : (k0_pay11 (iblk m c 1 t) (iblk m c 2 t) j : EReal)
    = ((A.d (256 * t.val + (j 0).val) (j 1).val * scaled (A.x (256 * t.val + (j 0).val)) (j 1).val : ℝ) : EReal) :=
  mul_real (φ := .f32) (d_at h t j) (scaled_at h t j)

theorem rows_at (h : Holds m c A) (t : Fin cfg0.N) (j : S256x2048.Idx) :
    (k0_pay4 (iblk m c 0 t) (k0_pay5 (iblk m c 1 t)) (k0_pay6 (iblk m c 1 t)) (k0_pay7 (iblk m c 2 t)) (iblk m c 3 t)
      (k0_pay8 (iblk m c 4 t)) j : EReal) = (A.rows (256 * t.val + (j 0).val) (j 1).val : EReal) := by
  have hd : ∀ j : S256x2048.Idx, (mulf (k0_pay7 (iblk m c 2 t)) (broadcastTo S256x2048 (mulf (iblk m c 3 t) (k0_pay8 (iblk m c 4 t)))
      broadcasts_S1x2048_S256x2048) j : EReal) = (A.grad (256 * t.val + (j 0).val) (j 1).val : EReal) := fun j =>
    mul_real (φ := .f32) (d_at h t j) ((row_apply broadcasts_S1x2048_S256x2048 _ j).trans
      (mul_real (φ := .f32) (g_at h t _) (factor_at h t _)))
  have e := fun j => (means_apply reduces_S256x2048_S256 shapeCasts_S256_S256x1
    (X := fun r l => ((A.grad r l * scaled (A.x r) l : ℝ) : EReal))
    (fun j => mul_real (φ := .f32) (hd j) (scaled_at h t j)) j).trans (mean_coe _)
  exact add_real (φ := .f32) (u_at h t j) (mul_real (φ := .f32) ((column_apply broadcasts_S256x1_S256x2048 _ j).trans (root_at h t _))
    (sub_real (φ := .f32) (hd j) (mul_real (φ := .f32) (scaled_at h t j) ((column_apply broadcasts_S256x1_S256x2048 _ j).trans (e _)))))

/-- The tile's column sums. -/
theorem shift_sums (h : Holds m c A) (t : Fin cfg0.N) (y : S1x2048.Idx) :
    (k0_pay9 (iblk m c 2 t) y : EReal) = ∑ k : Fin 256, (A.d (256 * t.val + k.val) (y 1).val : EReal) :=
  (sums_apply reduces_S256x2048_S2048 shapeCasts_S2048_S1x2048 _ y).trans (Finset.sum_congr rfl fun k _ => d_at h t _)

theorem product_sums (h : Holds m c A) (t : Fin cfg0.N) (y : S1x2048.Idx) (p : FVec Ideal S1x2048 .f32) (q : ℝ)
    (hp : (p y : EReal) = (q : EReal)) :
    (mulf (shapeCast S1x2048 (multiReduction .add [0] S2048 (k0_pay11 (iblk m c 1 t) (iblk m c 2 t)) 0x00000000#32
      reduces_S256x2048_S2048 (.inl rfl) rfl) shapeCasts_S2048_S1x2048) p y : EReal)
      = ∑ k : Fin 256, ((A.d (256 * t.val + k.val) (y 1).val * scaled (A.x (256 * t.val + k.val)) (y 1).val * q : ℝ) : EReal) :=
  (congrArg₂ (fun a b : EReal => a * b) ((sums_apply reduces_S256x2048_S2048 shapeCasts_S2048_S1x2048 _ y).trans
    (Finset.sum_congr rfl fun k _ => product_at h t _)) hp).trans (sum_scaled _ _)

theorem scale_sums (h : Holds m c A) (t : Fin cfg0.N) (y : S1x2048.Idx) :
    (k0_pay12 (iblk m c 1 t) (iblk m c 2 t) (iblk m c 3 t) y : EReal)
      = ∑ k : Fin 256, (A.scale (256 * t.val + k.val) (y 1).val : EReal) :=
  product_sums h t y _ _ (g_at h t y)

theorem gain_sums (h : Holds m c A) (t : Fin cfg0.N) (y : S1x2048.Idx) :
    (k0_pay2 (k0_pay8 (iblk m c 4 t)) (k0_pay11 (iblk m c 1 t) (iblk m c 2 t)) y : EReal)
      = ∑ k : Fin 256, (A.gain (256 * t.val + k.val) (y 1).val : EReal) :=
  product_sums h t y _ _ (factor_at h t y)

/-! ## What the points leave -/

variable (m c)

theorem left_rows (t : Fin cfg0.N) : (outsAt0 m c t.val t.isLt).1 = k0_pay4 (iblk m c 0 t) (k0_pay5 (iblk m c 1 t))
      (k0_pay6 (iblk m c 1 t)) (k0_pay7 (iblk m c 2 t)) (iblk m c 3 t) (k0_pay8 (iblk m c 4 t)) := by
  have hN : t.val < 32 := lt_of_lt_of_eq t.isLt N_0
  by_cases h0 : t.val % 32 = 0
  · rw [outsAt0_A m c t h0 (by omega) h0 (by omega) h0 (by omega)]
    dsimp only
    unfold out0_A_5
    rw [View.read_writes_eq_canon _ _ _ (cover0_A_5 _ _ _ _ _ _ _ _ _ _ _ _ _ _ _ _ _ _ _ _ _ _ _ _ _ _ _ _ _ _ _)]
    unfold kernelRun0_A
    dsimp only
    sl_unfold_words
    rw [View.canon_unit_zero hz]
    simp only [View.readAt_eq_ld, Memref.IsWhole.read_unread, View.ld_unit_zero (S := S1x2048) hz, View.ld_unit_zero (S := S256x2048) hz]
  · rw [outsAt0_B m c t h0 (by omega) h0 (by omega) h0 (by omega)]
    dsimp only
    unfold out0_B_5
    rw [View.read_writes_eq_canon _ _ _ (cover0_B_5 _ _ _ _ _ _ _ _ _ _ _ _ _ _ _ _ _ _ _ _ _ _ _ _ _ _ _ _ _ _ _ _ _ _)]
    unfold kernelRun0_B
    dsimp only
    sl_unfold_words
    rw [View.canon_unit_zero hz]
    simp only [View.readAt_eq_ld, Memref.IsWhole.read_unread, View.ld_unit_zero (S := S1x2048) hz, View.ld_unit_zero (S := S256x2048) hz]

theorem first_shift (t : Fin cfg0.N) (h0 : t.val % 32 = 0) : (outsAt0 m c t.val t.isLt).2.1 = k0_pay9 (iblk m c 2 t) := by
  have hN : t.val < 32 := lt_of_lt_of_eq t.isLt N_0
  rw [outsAt0_A m c t h0 (by omega) h0 (by omega) h0 (by omega)]
  dsimp only
  unfold out0_A_6
  rw [View.read_writes_eq_canon _ _ _ (cover0_A_6 _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1x2048) hz, View.ld_unit_zero (S := S256x2048) hz]

theorem first_scale (t : Fin cfg0.N) (h0 : t.val % 32 = 0) : (outsAt0 m c t.val t.isLt).2.2.1
    = k0_pay12 (iblk m c 1 t) (iblk m c 2 t) (iblk m c 3 t) := by
  have hN : t.val < 32 := lt_of_lt_of_eq t.isLt N_0
  rw [outsAt0_A m c t h0 (by omega) h0 (by omega) h0 (by omega)]
  dsimp only
  unfold out0_A_7
  rw [View.read_writes_eq_canon _ _ _ (cover0_A_7 _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1x2048) hz, View.ld_unit_zero (S := S256x2048) hz]

theorem first_gain (t : Fin cfg0.N) (h0 : t.val % 32 = 0) : (outsAt0 m c t.val t.isLt).2.2.2
    = k0_pay2 (k0_pay8 (iblk m c 4 t)) (k0_pay11 (iblk m c 1 t) (iblk m c 2 t)) := by
  have hN : t.val < 32 := lt_of_lt_of_eq t.isLt N_0
  rw [outsAt0_A m c t h0 (by omega) h0 (by omega) h0 (by omega)]
  dsimp only
  unfold out0_A_8
  rw [View.read_writes_eq_canon _ _ _ (cover0_A_8 _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, Memref.IsWhole.read_unread, View.ld_unit_zero (S := S1x2048) hz, View.ld_unit_zero (S := S256x2048) hz]

theorem next_shift (t : Fin cfg0.N) (h0 : t.val % 32 ≠ 0) (y : S1x2048.Idx) : ((outsAt0 m c t.val t.isLt).2.1 y : EReal)
    = (fun a b : EReal => a + b) ((outsAt0 m c (t.val - 1) (Nat.lt_of_le_of_lt (Nat.sub_le _ _) t.isLt)).2.1 y)
      (k0_pay9 (iblk m c 2 t) y) := by
  rw [outsAt0_B m c t h0 (by omega) h0 (by omega) h0 (by omega)]
  dsimp only
  unfold out0_B_6
  rw [View.read_writes_eq_canon _ _ _ (cover0_B_6 _ _ _ _ _ _ _ _ _ _ _ _ _ _ _ _ _ _ _ _ _ _ _ _ _ _ _ _ _ _ _ _ _ _)]
  unfold kernelRun0_B
  dsimp only
  sl_unfold_words
  rw [View.canon_unit_zero hz]
  unfold k0_pay10
  simp only [View.readAt_eq_ld, Memref.IsWhole.read_unread, View.ld_unit_zero (S := S1x2048) hz,
    View.ld_unit_zero (S := S256x2048) hz, shapeCast_self]
  rfl

theorem next_scale (t : Fin cfg0.N) (h0 : t.val % 32 ≠ 0) (y : S1x2048.Idx) : ((outsAt0 m c t.val t.isLt).2.2.1 y : EReal)
    = (fun a b : EReal => a + b) ((outsAt0 m c (t.val - 1) (Nat.lt_of_le_of_lt (Nat.sub_le _ _) t.isLt)).2.2.1 y)
      (k0_pay12 (iblk m c 1 t) (iblk m c 2 t) (iblk m c 3 t) y) := by
  rw [outsAt0_B m c t h0 (by omega) h0 (by omega) h0 (by omega)]
  dsimp only
  unfold out0_B_7
  rw [View.read_writes_eq_canon _ _ _ (cover0_B_7 _ _ _ _ _ _ _ _ _ _ _ _ _ _ _ _ _ _ _ _ _ _ _ _ _ _ _ _ _ _ _ _ _ _)]
  unfold kernelRun0_B
  dsimp only
  sl_unfold_words
  rw [View.canon_unit_zero hz]
  unfold k0_pay1
  simp only [View.readAt_eq_ld, Memref.IsWhole.read_unread, View.ld_unit_zero (S := S1x2048) hz,
    View.ld_unit_zero (S := S256x2048) hz, shapeCast_self]
  rfl

theorem next_gain (t : Fin cfg0.N) (h0 : t.val % 32 ≠ 0) (y : S1x2048.Idx) : ((outsAt0 m c t.val t.isLt).2.2.2 y : EReal)
    = (fun a b : EReal => a + b) ((outsAt0 m c (t.val - 1) (Nat.lt_of_le_of_lt (Nat.sub_le _ _) t.isLt)).2.2.2 y)
      (k0_pay2 (k0_pay8 (iblk m c 4 t)) (k0_pay11 (iblk m c 1 t) (iblk m c 2 t)) y) := by
  rw [outsAt0_B m c t h0 (by omega) h0 (by omega) h0 (by omega)]
  dsimp only
  unfold out0_B_8
  rw [View.read_writes_eq_canon _ _ _ (cover0_B_8 _ _ _ _ _ _ _ _ _ _ _ _ _ _ _ _ _ _ _ _ _ _ _ _ _ _ _ _ _ _ _ _ _ _)]
  unfold kernelRun0_B
  dsimp only
  sl_unfold_words
  rw [View.canon_unit_zero hz]
  unfold k0_pay3
  simp only [View.readAt_eq_ld, Memref.IsWhole.read_unread, View.ld_unit_zero (S := S1x2048) hz,
    View.ld_unit_zero (S := S256x2048) hz, shapeCast_self]
  rfl

variable {m c}

/-- A window that starts with its tile's sums and adds each next tile's ends with all rows' sums. -/
theorem summed (f : ℕ → ℕ → ℝ) (at_ : (n : ℕ) → n < cfg0.N → EReal) (tile : Fin cfg0.N → EReal) (l : ℕ)
    (ht : ∀ t, tile t = ∑ k : Fin 256, (f (256 * t.val + k.val) l : EReal))
    (first : ∀ t : Fin cfg0.N, t.val % 32 = 0 → at_ t.val t.isLt = tile t)
    (next : ∀ t : Fin cfg0.N, t.val % 32 ≠ 0 → at_ t.val t.isLt
      = at_ (t.val - 1) (Nat.lt_of_le_of_lt (Nat.sub_le _ _) t.isLt) + tile t)
    (t : Fin cfg0.N) (h : t.val % 32 = 32 - 1) : at_ t.val t.isLt = Cert.Norm.Args.total f l := by
  rw [Cert.Norm.Args.total_eq]
  exact tiled_sum (N := cfg0.N) (nk := 32) (tc := 256) (by decide) (by decide) at_ (fun _ k => (f k l : EReal))
    (fun n hn h0 => (first ⟨n, hn⟩ h0).trans ((ht ⟨n, hn⟩).trans (by rw [Nat.mod_eq_of_lt (lt_of_lt_of_eq hn N_0)])))
    (fun n hn h0 => (next ⟨n, hn⟩ h0).trans (congrArg _ ((ht ⟨n, hn⟩).trans (by
      rw [Nat.mod_eq_of_lt (lt_of_lt_of_eq hn N_0)])))) t.val t.isLt h

theorem covers5 : (cfg0.win 5).Covers := by decide +kernel
theorem covers6 : (cfg0.win 6).Covers := by decide +kernel
theorem covers7 : (cfg0.win 7).Covers := by decide +kernel
theorem covers8 : (cfg0.win 8).Covers := by decide +kernel

theorem last6 : ∀ t : Fin cfg0.N, (cfg0.win 6).flush t = true → t.val % 32 = 32 - 1 :=
  (by decide +kernel : ∀ t : Fin grid0.N, _)
theorem last7 : ∀ t : Fin cfg0.N, (cfg0.win 7).flush t = true → t.val % 32 = 32 - 1 :=
  (by decide +kernel : ∀ t : Fin grid0.N, _)
theorem last8 : ∀ t : Fin cfg0.N, (cfg0.win 8).flush t = true → t.val % 32 = 32 - 1 :=
  (by decide +kernel : ∀ t : Fin grid0.N, _)

theorem final5 (h : Holds m c A) : (dats m 0 c).arrAt 5 cfg0.N = A.rowsArr :=
  (dats m 0 c).arrAt_eq_of_cover 5 A.rowsArr (fun t _ => by
    rw [flushed5, left_rows]
    funext y
    refine (rows_at h t y).trans ?_
    show _ = ((A.rows (win0_5.index t 0 * 256 + 1 * (y 0).val) (win0_5.index t 1 * 2048 + 1 * (y 1).val) : ℝ) : EReal)
    rw [(tiles t).2.2.2]
    exact congrArg _ (congrArg₂ A.rows (block_coord _ _ _).symm ((block_coord _ _ _).trans (Nat.zero_add _)).symm))
    (covers5.cover _ (Memref.isWhole_whole _))

theorem final6 (h : Holds m c A) : (dats m 0 c).arrAt 6 cfg0.N = Args.line A.d :=
  (dats m 0 c).arrAt_eq_of_cover 6 (Args.line A.d) (fun t ht => by
    rw [flushed6]
    funext y
    have e : (((cfg0.win 6).blk t).view.emb y 1).val = (y 1).val := by
      show win0_6.index t 1 * 2048 + 1 * (y 1).val = _
      rw [(lines t).2.2.1]; exact (block_coord _ _ _).trans (Nat.zero_add _)
    exact (summed A.d (fun n hn => ((outsAt0 m c n hn).2.1 y : EReal)) _ (y 1).val (fun t => shift_sums h t y)
      (fun t h0 => congrFun (first_shift m c t h0) y) (fun t h0 => next_shift m c t h0 y) t (last6 t ht)).trans
      (congrArg (Cert.Norm.Args.total A.d) e.symm))
    (covers6.cover _ (Memref.isWhole_whole _))

theorem final7 (h : Holds m c A) : (dats m 0 c).arrAt 7 cfg0.N = Args.line A.scale :=
  (dats m 0 c).arrAt_eq_of_cover 7 (Args.line A.scale) (fun t ht => by
    rw [flushed7]
    funext y
    have e : (((cfg0.win 7).blk t).view.emb y 1).val = (y 1).val := by
      show win0_7.index t 1 * 2048 + 1 * (y 1).val = _
      rw [(lines t).2.2.2.1]; exact (block_coord _ _ _).trans (Nat.zero_add _)
    exact (summed A.scale (fun n hn => ((outsAt0 m c n hn).2.2.1 y : EReal)) _ (y 1).val (fun t => scale_sums h t y)
      (fun t h0 => congrFun (first_scale m c t h0) y) (fun t h0 => next_scale m c t h0 y) t (last7 t ht)).trans
      (congrArg (Cert.Norm.Args.total A.scale) e.symm))
    (covers7.cover _ (Memref.isWhole_whole _))

theorem final8 (h : Holds m c A) : (dats m 0 c).arrAt 8 cfg0.N = Args.line A.gain :=
  (dats m 0 c).arrAt_eq_of_cover 8 (Args.line A.gain) (fun t ht => by
    rw [flushed8]
    funext y
    have e : (((cfg0.win 8).blk t).view.emb y 1).val = (y 1).val := by
      show win0_8.index t 1 * 2048 + 1 * (y 1).val = _
      rw [(lines t).2.2.2.2]; exact (block_coord _ _ _).trans (Nat.zero_add _)
    exact (summed A.gain (fun n hn => ((outsAt0 m c n hn).2.2.2 y : EReal)) _ (y 1).val (fun t => gain_sums h t y)
      (fun t h0 => congrFun (first_gain m c t h0) y) (fun t h0 => next_gain m c t h0 y) t (last8 t ht)).trans
      (congrArg (Cert.Norm.Args.total A.gain) e.symm))
    (covers8.cover _ (Memref.isWhole_whole _))

end Cert.Kernel32Ideal.Hand

namespace Cert.Reference32Ideal.Hand

open Cert.Reference32Ideal Cert.Reference32Ideal.Read Cert.Step Cert.Dq Idealize.ShloMosaic
open Cert.Norm (width_word eps_word half_word rsqrt_pos)

/-! ## The reference's stages at an entry, in the order it takes them -/

/-- The reference's arrays hold the arguments. -/
structure Holds (x0 x1 x2 : S8192x2048.Idx → EReal) (x3 x4 : S1x2048.Idx → EReal) (A : Args) : Prop where
  u (i : S8192x2048.Idx) : x0 i = (A.u (i 0).val (i 1).val : EReal)
  x (i : S8192x2048.Idx) : x1 i = (A.x (i 0).val (i 1).val : EReal)
  d (i : S8192x2048.Idx) : x2 i = (A.d (i 0).val (i 1).val : EReal)
  g (i : S1x2048.Idx) : x3 i = (A.g (i 1).val : EReal)
  s (i : S1x2048.Idx) : x4 i = (A.s (i 1).val : EReal)

variable {x0 x1 x2 : S8192x2048.Idx → EReal} {x3 x4 : S1x2048.Idx → EReal} {A : Args} (h : Holds x0 x1 x2 x3 x4 A)
include h

theorem v7 (i : S8192x1.Idx) : (val_main_v7 (F := Ideal) x1 i : EReal) = (power (A.x (i 0).val) : EReal) := by
  rw [val_main_v7_apply, val_main_v6_apply, val_main_v5_apply, val_main_v4_apply, val_main_v3_apply, val_main_v2_apply]
  refine add_real (div_real (sum_real Ideal.ofBits_zero_f32 fun k => ?_) width_word (by norm_num)) eps_word
  rw [val_main_v1_apply]
  exact mul_real (h.x _) (h.x _)

theorem v8 (i : S8192x1.Idx) : (val_main_v8 (F := Ideal) x1 i : EReal) = (root (A.x (i 0).val) : EReal) := by
  rw [val_main_v8_apply, v7 h]
  exact rsqrt_pos (power_pos _)

theorem v11 (i : S8192x1.Idx) : (val_main_v11 (F := Ideal) x1 i : EReal)
    = ((-(1 / 2) * (root (A.x (i 0).val) / power (A.x (i 0).val)) : ℝ) : EReal) := by
  rw [val_main_v11_apply, val_main_v10_apply, val_main_v9_apply]
  exact mul_real half_word (div_real (v8 h i) (v7 h i) (power_pos _).ne')

theorem v13 (i : S8192x2048.Idx) : (val_main_v13 (F := Ideal) x1 i : EReal) = (scaled (A.x (i 0).val) (i 1).val : EReal) := by
  rw [val_main_v13_apply, val_main_v12_apply]
  exact mul_real (h.x i) (v8 h _)

theorem v17 (i : S1x2048.Idx) : (val_main_v17 (F := Ideal) x4 i : EReal) = ((1 + A.s (i 1).val : ℝ) : EReal) := by
  rw [val_main_v17_apply, val_main_v16_apply]
  exact add_real one_word (h.s i)

theorem v22 (i : S8192x2048.Idx) : (val_main_v22 (F := Ideal) x2 i : EReal) = (A.d (i 0).val (i 1).val : EReal) := h.d i

theorem v24 (i : S1x2048.Idx) : (val_main_v24 (F := Ideal) x2 i : EReal) = Args.line A.d i := by
  rw [Args.line, Cert.Norm.Args.total_eq, val_main_v24_apply, val_main_v23_apply]
  refine (congrArg (fun z : EReal => z + _) Ideal.ofBits_zero_f32).trans ((zero_add _).trans
    (Finset.sum_congr rfl fun k _ => (v22 h _).trans (congrArg _ (congrArg (A.d k.val) ?_))))
  have h0 : (i 0).val < 1 := (i 0).isLt
  show (i 0).val * 2048 + (i 1).val = (i 1).val
  omega

theorem v27 (i : S1x2048.Idx) : (val_main_v27 (F := Ideal) x1 x2 x3 i : EReal) = Args.line A.scale i := by
  rw [Args.line, Cert.Norm.Args.total_eq, val_main_v27_apply, val_main_v26_apply]
  refine (congrArg (fun z : EReal => z + _) Ideal.ofBits_zero_f32).trans ((zero_add _).trans
    (Finset.sum_congr rfl fun k _ => ?_))
  rw [val_main_v25_apply, val_main_v15_apply, val_main_v14_apply]
  refine (mul_real (mul_real (v13 h _) (h.g _)) (v22 h _)).trans (congrArg _ ((show ∀ a b c : ℝ, a * b * c = c * a * b from fun a b c => by ring) _ _ _ |>.trans
    (congrArg (A.scale k.val) ?_)))
  have h0 : (i 0).val < 1 := (i 0).isLt
  show (i 0).val * 2048 + (i 1).val = (i 1).val
  omega

theorem v29 (i : S8192x2048.Idx) : (val_main_v29 (F := Ideal) x2 x4 i : EReal)
    = ((A.d (i 0).val (i 1).val * (1 + A.s (i 1).val) : ℝ) : EReal) := by
  rw [val_main_v29_apply, val_main_v28_apply]
  exact mul_real (v22 h i) (v17 h _)

theorem v32 (i : S1x2048.Idx) : (val_main_v32 (F := Ideal) x1 x2 x4 i : EReal) = Args.line A.gain i := by
  rw [Args.line, Cert.Norm.Args.total_eq, val_main_v32_apply, val_main_v31_apply]
  refine (congrArg (fun z : EReal => z + _) Ideal.ofBits_zero_f32).trans ((zero_add _).trans
    (Finset.sum_congr rfl fun k _ => ?_))
  rw [val_main_v30_apply]
  refine (mul_real (v13 h _) (v29 h _)).trans (congrArg _ ((show ∀ a b c : ℝ, a * (b * c) = b * a * c from fun a b c => by ring) _ _ _ |>.trans
    (congrArg (A.gain k.val) ?_)))
  have h0 : (i 0).val < 1 := (i 0).isLt
  show (i 0).val * 2048 + (i 1).val = (i 1).val
  omega

theorem v34 (i : S8192x2048.Idx) : (val_main_v34 (F := Ideal) x2 x3 x4 i : EReal) = (A.grad (i 0).val (i 1).val : EReal) := by
  rw [val_main_v34_apply, val_main_v33_apply]
  refine (mul_real (v29 h i) (h.g _)).trans (congrArg _ ?_)
  exact (show ∀ a b c : ℝ, a * b * c = a * (c * b) from fun a b c => by ring) _ _ _

theorem v42 (i : S8192x1.Idx) : (val_main_v42 (F := Ideal) x1 x2 x3 x4 i : EReal)
    = (part (A.x (i 0).val) (A.grad (i 0).val) : EReal) := by
  rw [val_main_v42_apply, val_main_v41_apply, val_main_v40_apply, val_main_v37_apply, val_main_v36_apply]
  have h1 : (i 1).val = 0 := by have : (i 1).val < 1 := (i 1).isLt; omega
  refine div_real (mul_real (sum_real Ideal.ofBits_zero_f32 fun k => ?_) (v11 h i)) width_word (by norm_num)
  rw [val_main_v35_apply]
  refine (mul_real (h.x _) (v34 h _)).trans ?_
  rw [show ((idx_main_v36 (idx_main_v37 i) k) 0).val = (i 0).val by
    show (i 0).val * 1 + (i 1).val = _; omega]

theorem v44 (i : S8192x2048.Idx) : (val_main_v44 (F := Ideal) x1 x2 x3 x4 i : EReal)
    = (part (A.x (i 0).val) (A.grad (i 0).val) : EReal) := by
  rw [val_main_v44_apply, val_main_v43_apply]
  exact (sum_real Ideal.ofBits_zero_f32 fun k => v42 h _).trans (congrArg _ (Fin.sum_univ_one _))

/-- The rows' gradient by the chain rule is the closed form. -/
theorem v49 (i : S8192x2048.Idx) : (val_main_v49 (F := Ideal) x0 x1 x2 x3 x4 i : EReal) = A.rowsArr i := by
  rw [val_main_v49_apply, val_main_v48_apply, val_main_v47_apply, val_main_v46_apply, val_main_v45_apply, val_main_v39_apply,
    val_main_v38_apply]
  refine (add_real (h.u i) (add_real (add_real (mul_real (v34 h i) (v8 h _)) (mul_real (h.x i) (v44 h i)))
    (mul_real (v44 h i) (h.x i)))).trans (congrArg _ ?_)
  exact congrArg (A.u (i 0).val (i 1).val + ·) (chain_eq (A.x (i 0).val) (A.grad (i 0).val) (i 1).val)

end Cert.Reference32Ideal.Hand

namespace Cert.Proof

open Idealize.ShloMosaic Idealize.ShloMosaic.TcCoe Idealize.SL.Sem Cert.Tiles

theorem bodies32 : Cert.Kernel32.defs₀ (F := Bits) = Cert.Kernel32Ideal.defs₀ (F := Bits) :=
  congrArg Defs.onTc (funext fun l => funext fun x => match l, x with | 0, (_, _) => rfl)

theorem facts_finite_step : Cert.Pre_finite_step.Facts where
  bcast_S_S8192x2048 := by decide
  bcast_S_S1x2048 := by decide

theorem frame_Kernel32 : Cert.quiescent_Kernel32 := fun m g _ =>
  (congrArg (fun d => θ_run (Pipeline.defs _ d) _ _ _) bodies32).mpr (Cert.Kernel32Ideal.Gen.frame (F := Bits) m g)

theorem frame_Kernel32Ideal : Cert.quiescent_Kernel32Ideal := fun m g _ => Cert.Kernel32Ideal.Gen.frame m g

theorem frame_Kernel32Ideal_finite_step [Cert.Pre_finite_step.Facts] : Cert.quiescent_Kernel32Ideal_pre_finite_step :=
  fun m g _ => Cert.Kernel32Ideal.Gen.frame m g

theorem frame_Reference32Ideal : Cert.quiescent_Reference32Ideal := fun m g _ =>
  (θ_run Cert.Reference32Ideal.defs _ _).mono (fun r h => ⟨fun c => (h c).2.2.2.2, sem_eq_zero_of_no_sems (by decide) r.2⟩)
    (Cert.Reference32Ideal.Value.run m g)

theorem frame_Reference32Ideal_finite_step [Cert.Pre_finite_step.Facts] : Cert.quiescent_Reference32Ideal_pre_finite_step :=
  fun m g _ => frame_Reference32Ideal m g trivial

/-- The precondition gives real arguments. -/
theorem args_of32 [Cert.Pre_finite_step.Facts] (m : (ℓ : Loc Cert.Kernel32Ideal.nD Cert.Kernel32Ideal.τ Cert.Kernel32Ideal.sig) → Buf (Elt Ideal) ℓ)
    (h : Cert.Pre_Kernel32Ideal_finite_step m) (c : Dev Cert.Kernel32Ideal.nD) :
    ∃ A : Cert.Step.Args, Cert.Kernel32Ideal.Hand.Holds m c A := by
  obtain ⟨h0, h1, h2, h3, h4⟩ := h c
  have row : ∀ i : Cert.Kernel32Ideal.S1x2048.Idx, (i 0).val = 0 := fun i => by have : (i 0).val < 1 := (i 0).isLt; omega
  exact ⟨⟨fun r l => (entry (m ((c.tc : Thread Cert.Kernel32Ideal.nD Cert.Kernel32Ideal.τ).loc Cert.Kernel32Ideal.main_arg0) : Cert.Kernel32Ideal.S8192x2048.Idx → EReal) ![r, l]).toReal,
    fun r l => (entry (m ((c.tc : Thread Cert.Kernel32Ideal.nD Cert.Kernel32Ideal.τ).loc Cert.Kernel32Ideal.main_arg1) : Cert.Kernel32Ideal.S8192x2048.Idx → EReal) ![r, l]).toReal,
    fun r l => (entry (m ((c.tc : Thread Cert.Kernel32Ideal.nD Cert.Kernel32Ideal.τ).loc Cert.Kernel32Ideal.main_arg2) : Cert.Kernel32Ideal.S8192x2048.Idx → EReal) ![r, l]).toReal,
    fun l => (entry (m ((c.tc : Thread Cert.Kernel32Ideal.nD Cert.Kernel32Ideal.τ).loc Cert.Kernel32Ideal.main_arg3) : Cert.Kernel32Ideal.S1x2048.Idx → EReal) ![0, l]).toReal,
    fun l => (entry (m ((c.tc : Thread Cert.Kernel32Ideal.nD Cert.Kernel32Ideal.τ).loc Cert.Kernel32Ideal.main_arg4) : Cert.Kernel32Ideal.S1x2048.Idx → EReal) ![0, l]).toReal⟩,
    fun i => real_entry _ (real_of_below _ _ inf_f32 h0) i _ fun | 0 => rfl | 1 => rfl,
    fun i => real_entry _ (real_of_below _ _ inf_f32 h1) i _ fun | 0 => rfl | 1 => rfl,
    fun i => real_entry _ (real_of_below _ _ inf_bf16 h2) i _ fun | 0 => rfl | 1 => rfl,
    fun i => real_entry _ (real_of_below _ _ inf_f32 h3) i _ fun | 0 => row i | 1 => rfl,
    fun i => real_entry _ (real_of_below _ _ inf_f32 h4) i _ fun | 0 => row i | 1 => rfl⟩

theorem algebraic32 [Cert.Pre_finite_step.Facts] : Cert.algebraic_Kernel32Ideal_Reference32Ideal_pre_finite_step :=
  fun m g m' g' hf h => by
  choose A hA using args_of32 m hf
  have hR : ∀ c : Dev Cert.Kernel32Ideal.nD, Cert.Reference32Ideal.Hand.Holds
      (m' ((c.tc : Thread Cert.Reference32Ideal.nD Cert.Reference32Ideal.τ).loc Cert.Reference32Ideal.main_arg0))
      (m' ((c.tc : Thread Cert.Reference32Ideal.nD Cert.Reference32Ideal.τ).loc Cert.Reference32Ideal.main_arg1))
      (m' ((c.tc : Thread Cert.Reference32Ideal.nD Cert.Reference32Ideal.τ).loc Cert.Reference32Ideal.main_arg2))
      (m' ((c.tc : Thread Cert.Reference32Ideal.nD Cert.Reference32Ideal.τ).loc Cert.Reference32Ideal.main_arg3))
      (m' ((c.tc : Thread Cert.Reference32Ideal.nD Cert.Reference32Ideal.τ).loc Cert.Reference32Ideal.main_arg4)) (A c) := fun c => by
    obtain ⟨h0, h1, h2, h3, h4⟩ := h c
    rw [h0, h1, h2, h3, h4]
    exact ⟨(hA c).u, (hA c).x, (hA c).d, (hA c).g, (hA c).s⟩
  exact ⟨fun c => (A c).rowsArr, fun c => Cert.Step.Args.line (A c).d, fun c => Cert.Step.Args.line (A c).scale,
    fun c => Cert.Step.Args.line (A c).gain,
    (θ_run Cert.Kernel32Ideal.defs _ _).mono (fun r hr c => ⟨(hr c).1.trans (Cert.Kernel32Ideal.Hand.final5 (hA c)),
      (hr c).2.1.trans (Cert.Kernel32Ideal.Hand.final6 (hA c)), (hr c).2.2.1.trans (Cert.Kernel32Ideal.Hand.final7 (hA c)),
      (hr c).2.2.2.1.trans (Cert.Kernel32Ideal.Hand.final8 (hA c)), (hr c).2.2.2.2⟩) (Cert.Kernel32Ideal.Value.run_blocks m g),
    (θ_run Cert.Reference32Ideal.defs _ _).mono (fun r hr c => ⟨
      (hr c).1.trans ((Cert.Reference32Ideal.Read.val_main_v49_eq (F := Ideal) m' c).trans
        (funext fun i => Cert.Reference32Ideal.Hand.v49 (hR c) i)),
      (hr c).2.1.trans ((Cert.Reference32Ideal.Read.val_main_v24_eq (F := Ideal) _).trans
        (funext fun i => Cert.Reference32Ideal.Hand.v24 (hR c) i)),
      (hr c).2.2.1.trans ((Cert.Reference32Ideal.Read.val_main_v27_eq (F := Ideal) _ _ _).trans
        (funext fun i => Cert.Reference32Ideal.Hand.v27 (hR c) i)),
      (hr c).2.2.2.1.trans ((Cert.Reference32Ideal.Read.val_main_v32_eq (F := Ideal) _ _ _).trans
        (funext fun i => Cert.Reference32Ideal.Hand.v32 (hR c) i)),
      (hr c).2.2.2.2⟩) (Cert.Reference32Ideal.Value.run m' g')⟩

end Cert.Proof

end
-- ==== Proof.lean ====
module

public import proofs.«01_k».proof.Defs
public import proofs.«01_k».proof.Proof.DqClaims
public import proofs.«01_k».proof.Proof.DownDx
public import proofs.«01_k».proof.Proof.DownDw
public import proofs.«01_k».proof.Proof.UpDx
public import proofs.«01_k».proof.Proof.UpDw
public import proofs.«01_k».proof.Proof.Pw1Dx
public import proofs.«01_k».proof.Proof.Pw1Dw
public import proofs.«01_k».proof.Proof.QDx
public import proofs.«01_k».proof.Proof.QDw
public import proofs.«01_k».proof.Proof.KvDw
public import proofs.«01_k».proof.Proof.Pw2Dx
public import proofs.«01_k».proof.Proof.Pw2Dw
public import proofs.«01_k».proof.Proof.ODx
public import proofs.«01_k».proof.Proof.ODw
public import proofs.«01_k».proof.Proof.Up1
public import proofs.«01_k».proof.Proof.Down1
public import proofs.«01_k».proof.Proof.QProj
public import proofs.«01_k».proof.Proof.GluBwd
public import proofs.«01_k».proof.Proof.NormBwd
public import proofs.«01_k».proof.Proof.GluFwd
public import proofs.«01_k».proof.Proof.NormFwd
public import proofs.«01_k».proof.Proof.AdamOne
public import proofs.«01_k».proof.Proof.AdamRest
public import proofs.«01_k».proof.Proof.ModOne
public import proofs.«01_k».proof.Proof.ModTwo
public import proofs.«01_k».proof.Proof.SumSmall
public import proofs.«01_k».proof.Proof.StepBwd
public import Idealize.ShloMosaic.Adequacy
public import Idealize.ShloMosaic.Init

@[expose] public section

noncomputable section

namespace Cert.Proof

open Cert

theorem claim : Cert.Claim := ⟨
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel.Gen.facts, KernelIdeal.Gen.facts, ReferenceIdeal.Gen.facts,
  Kernel18.Gen.facts, Kernel18Ideal.Gen.facts, Reference18Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel19.Gen.facts, Kernel19Ideal.Gen.facts, Reference19Ideal.Gen.facts,
  Kernel32.Gen.facts, Kernel32Ideal.Gen.facts, Reference32Ideal.Gen.facts, facts_finite, facts_finite_rows, facts_finite_step,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  frame_Kernel12, frame_Kernel12Ideal, frame_Reference12Ideal,
  frame_Kernel13, frame_Kernel13Ideal, frame_Reference13Ideal,
  frame_Kernel14, frame_Kernel14Ideal, frame_Reference14Ideal,
  frame_Kernel15, frame_Kernel15Ideal, frame_Reference15Ideal,
  frame_Kernel16, frame_Kernel16Ideal, frame_Reference16Ideal,
  frame_Kernel17, frame_Kernel17Ideal, frame_Reference17Ideal,
  frame_Kernel, frame_KernelIdeal, @frame_KernelIdeal_finite facts_finite, frame_ReferenceIdeal, @frame_ReferenceIdeal_finite facts_finite,
  frame_Kernel18, frame_Kernel18Ideal, frame_Reference18Ideal,
  frame_Kernel20, frame_Kernel20Ideal, frame_Reference20Ideal,
  frame_Kernel21, frame_Kernel21Ideal, frame_Reference21Ideal,
  frame_Kernel22, frame_Kernel22Ideal, frame_Reference22Ideal,
  frame_Kernel23, frame_Kernel23Ideal, frame_Reference23Ideal,
  frame_Kernel24, frame_Kernel24Ideal, frame_Reference24Ideal,
  frame_Kernel25, frame_Kernel25Ideal, frame_Reference25Ideal,
  frame_Kernel26, frame_Kernel26Ideal, frame_Reference26Ideal,
  frame_Kernel27, frame_Kernel27Ideal, frame_Reference27Ideal,
  frame_Kernel28, frame_Kernel28Ideal, frame_Reference28Ideal,
  frame_Kernel29, frame_Kernel29Ideal, frame_Reference29Ideal,
  frame_Kernel30, frame_Kernel30Ideal, frame_Reference30Ideal,
  frame_Kernel31, frame_Kernel31Ideal, frame_Reference31Ideal,
  frame_Kernel19, frame_Kernel19Ideal, @frame_Kernel19Ideal_finite_rows facts_finite_rows,
  frame_Reference19Ideal, @frame_Reference19Ideal_finite_rows facts_finite_rows,
  frame_Kernel32, frame_Kernel32Ideal, @frame_Kernel32Ideal_finite_step facts_finite_step,
  frame_Reference32Ideal, @frame_Reference32Ideal_finite_step facts_finite_step,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16,
  trivial, algebraic17,
  preserves, @algebraic facts_finite,
  trivial, algebraic18,
  trivial, algebraic20,
  trivial, algebraic21,
  trivial, algebraic22,
  trivial, algebraic23,
  trivial, algebraic24,
  trivial, algebraic25,
  trivial, algebraic26,
  trivial, algebraic27,
  trivial, algebraic28,
  trivial, algebraic29,
  trivial, algebraic30,
  trivial, algebraic31,
  trivial, @algebraic19 facts_finite_rows,
  trivial, @algebraic32 facts_finite_step⟩

end Cert.Proof

end
